-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_untied [hPre_untied : Cert.Pre_untied.Facts] (m : (ℓ : Loc Cert.KernelIdeal.nD Cert.KernelIdeal.τ Cert.KernelIdeal.sig) → Buf (Elt Ideal) ℓ) : Prop :=
  ∀ c : Dev Cert.KernelIdeal.nD,
    (Cert.Pre_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_untied [hPre_untied : Cert.Pre_untied.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_untied [hKernelIdeal : Cert.KernelIdeal.Facts] [hPre_untied : Cert.Pre_untied.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_untied m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_untied [hReferenceIdeal : Cert.ReferenceIdeal.Facts] [hPre_untied : Cert.Pre_untied.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_untied m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_untied [hKernelIdeal : Cert.KernelIdeal.Facts] [hReferenceIdeal : Cert.ReferenceIdeal.Facts] [hPre_untied : Cert.Pre_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_untied m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v235) = v0 c
          ∧ r.2.mem ((c.tc : Thread Cert.ReferenceIdeal.nD Cert.ReferenceIdeal.τ).loc Cert.ReferenceIdeal.main_v239) = v1 c
          ∧ r.2.mem ((c.tc : Thread Cert.ReferenceIdeal.nD Cert.ReferenceIdeal.τ).loc Cert.ReferenceIdeal.main_v268) = v2 c
          ∧ r.2.mem ((c.tc : Thread Cert.ReferenceIdeal.nD Cert.ReferenceIdeal.τ).loc Cert.ReferenceIdeal.main_v265) = v3 c
          ∧ r.2.mem ((c.tc : Thread Cert.ReferenceIdeal.nD Cert.ReferenceIdeal.τ).loc Cert.ReferenceIdeal.main_v267) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_untied : Cert.Pre_untied.Facts),
    quiescent_Kernel (hKernel := hKernel)
    ∧ quiescent_KernelIdeal (hKernelIdeal := hKernelIdeal)
    ∧ quiescent_KernelIdeal_pre_untied (hKernelIdeal := hKernelIdeal) (hPre_untied := hPre_untied)
    ∧ quiescent_ReferenceIdeal (hReferenceIdeal := hReferenceIdeal)
    ∧ quiescent_ReferenceIdeal_pre_untied (hReferenceIdeal := hReferenceIdeal) (hPre_untied := hPre_untied)
    ∧ preserves_Kernel_KernelIdeal
    ∧ algebraic_KernelIdeal_ReferenceIdeal_pre_untied (hKernelIdeal := hKernelIdeal) (hReferenceIdeal := hReferenceIdeal) (hPre_untied := hPre_untied)
-- ==== Pre_untied.lean ====
abbrev S4096x2000 : Shape := ⟨2, ![4096, 2000]⟩
abbrev S4096x1 : Shape := ⟨2, ![4096, 1]⟩
abbrev S3x1 : Shape := ⟨2, ![3, 1]⟩
abbrev S24576000 : Shape := ⟨1, ![24576000]⟩
abbrev S1x24576000 : Shape := ⟨2, ![1, 24576000]⟩
abbrev S3x24576000 : Shape := ⟨2, ![3, 24576000]⟩
abbrev S_ : Shape := ⟨0, ![]⟩
abbrev S3x4096x2000 : Shape := ⟨3, ![3, 4096, 2000]⟩
abbrev S1x4096x2000 : Shape := ⟨3, ![1, 4096, 2000]⟩
abbrev S3x4096 : Shape := ⟨2, ![3, 4096]⟩
abbrev S4096x3 : Shape := ⟨2, ![4096, 3]⟩
abbrev S2000 : Shape := ⟨1, ![2000]⟩
abbrev S1x1x2000 : Shape := ⟨3, ![1, 1, 2000]⟩
abbrev S4096x3x1 : Shape := ⟨3, ![4096, 3, 1]⟩
abbrev S4096x3x2000 : Shape := ⟨3, ![4096, 3, 2000]⟩
abbrev S4096x1x2000 : Shape := ⟨3, ![4096, 1, 2000]⟩
abbrev S3x4096x1 : Shape := ⟨3, ![3, 4096, 1]⟩

class Facts : Prop where
  bcast_S24576000_S1x24576000_1 : S24576000.BroadcastsInDim S1x24576000 (![1] : Fin 1 → Fin S1x24576000.rank)
  bcast_S1x24576000_S3x24576000_0_1 : S1x24576000.BroadcastsInDim S3x24576000 (![0, 1] : Fin 2 → Fin S3x24576000.rank)
  bcast_S_S3x24576000 : S_.BroadcastsInDim S3x24576000 (![] : Fin 0 → Fin S3x24576000.rank)
  bcast_S_S3x1 : S_.BroadcastsInDim S3x1 (![] : Fin 0 → Fin S3x1.rank)
  bcast_S3x1_S3x24576000_0_1 : S3x1.BroadcastsInDim S3x24576000 (![0, 1] : Fin 2 → Fin S3x24576000.rank)
  slices_S3x24576000_S1x24576000_0_0 : S3x24576000.Slices ![0, 0] S1x24576000
  shapeCasts_S1x24576000_S24576000 : S1x24576000.ShapeCasts S24576000
  shapeCasts_S24576000_S3x4096x2000 : S24576000.ShapeCasts S3x4096x2000
  bcast_S4096x2000_S1x4096x2000_1_2 : S4096x2000.BroadcastsInDim S1x4096x2000 (![1, 2] : Fin 2 → Fin S1x4096x2000.rank)
  bcast_S1x4096x2000_S3x4096x2000_0_1_2 : S1x4096x2000.BroadcastsInDim S3x4096x2000 (![0, 1, 2] : Fin 3 → Fin S3x4096x2000.rank)
  bcast_S_S4096x2000 : S_.BroadcastsInDim S4096x2000 (![] : Fin 0 → Fin S4096x2000.rank)
  slices_S3x24576000_S1x24576000_1_0 : S3x24576000.Slices ![1, 0] S1x24576000
  reducesTo_S3x4096x2000_S3x4096_d2 : S3x4096x2000.ReducesTo [2] S3x4096
  h_S_ : 0 < S_.numel
  transposes_S3x4096_S4096x3_1_0 : S3x4096.Transposes [1, 0] S4096x3
  bcast_S2000_S1x1x2000_2 : S2000.BroadcastsInDim S1x1x2000 (![2] : Fin 1 → Fin S1x1x2000.rank)
  bcast_S4096x3_S4096x3x1_0_1 : S4096x3.BroadcastsInDim S4096x3x1 (![0, 1] : Fin 2 → Fin S4096x3x1.rank)
  bcast_S1x1x2000_S4096x3x2000_0_1_2 : S1x1x2000.BroadcastsInDim S4096x3x2000 (![0, 1, 2] : Fin 3 → Fin S4096x3x2000.rank)
  bcast_S4096x3x1_S4096x3x2000_0_1_2 : S4096x3x1.BroadcastsInDim S4096x3x2000 (![0, 1, 2] : Fin 3 → Fin S4096x3x2000.rank)
  bcast_S4096x2000_S4096x1x2000_0_2 : S4096x2000.BroadcastsInDim S4096x1x2000 (![0, 2] : Fin 2 → Fin S4096x1x2000.rank)
  bcast_S4096x1x2000_S4096x3x2000_0_1_2 : S4096x1x2000.BroadcastsInDim S4096x3x2000 (![0, 1, 2] : Fin 3 → Fin S4096x3x2000.rank)
  bcast_S_S4096x3x2000 : S_.BroadcastsInDim S4096x3x2000 (![] : Fin 0 → Fin S4096x3x2000.rank)
  reducesTo_S4096x3x2000_S4096x3_d2 : S4096x3x2000.ReducesTo [2] S4096x3
  slices_S3x24576000_S1x24576000_2_0 : S3x24576000.Slices ![2, 0] S1x24576000
  shapeCasts_S24576000_S4096x3x2000 : S24576000.ShapeCasts S4096x3x2000
  bcast_S3x4096_S3x4096x1_0_1 : S3x4096.BroadcastsInDim S3x4096x1 (![0, 1] : Fin 2 → Fin S3x4096x1.rank)
  bcast_S1x1x2000_S3x4096x2000_0_1_2 : S1x1x2000.BroadcastsInDim S3x4096x2000 (![0, 1, 2] : Fin 3 → Fin S3x4096x2000.rank)
  bcast_S3x4096x1_S3x4096x2000_0_1_2 : S3x4096x1.BroadcastsInDim S3x4096x2000 (![0, 1, 2] : Fin 3 → Fin S3x4096x2000.rank)
  reducesTo_S3x4096x2000_S_d0_1_2 : S3x4096x2000.ReducesTo [0, 1, 2] S_
  reducesTo_S4096x3x2000_S_d0_1_2 : S4096x3x2000.ReducesTo [0, 1, 2] S_

variable [Facts]

variable {F : FTy → Type} [FloatOps F]
def reducer_argmax_f32_i32 : F .f32 × BitVec 32 → F .f32 × BitVec 32 → F .f32 × BitVec 32 :=
  fun a b =>
    let v2 := FloatOps.cmpf .ogt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

noncomputable abbrev lit0 : Fin 3 → BitVec 32 := fun
  | 0 => 1832780943#32 | 1 => 64467757#32 | 2 => 2465931498#32
  | _ => 0#32

noncomputable abbrev lit1 : Fin 3 → BitVec 32 := fun
  | 0 => 270669613#32 | 1 => 2916123636#32 | 2 => 255383827#32
  | _ => 0#32

def fn_clip {F : FTy → Type} [FloatOps F] (arg0 : FVec F S4096x2000 .f32) (arg1 : FVec F S_ .f32) : FVec F S4096x2000 .f32 :=
  let v0 : FVec F S_ .f32 := id arg1
  let v1 : FVec F S4096x2000 .f32 := broadcastInDim S4096x2000 ![] bcast_S_S4096x2000 v0
  let v2 : FVec F S4096x2000 .f32 := maximumf v1 arg0
  v2

def fn_argmax {F : FTy → Type} [FloatOps F] (arg0 : FVec F S3x4096x2000 .f32) : IVec S3x4096 32 :=
  let v0 : IVec S3x4096x2000 32 := iotaInDim S3x4096x2000 32 2
  let cst : FVec F S_ .f32 := constant S_ .f32 0xFF800000#32
  let c : IVec S_ 32 := constantI S_ 32 0#32
  let v1_0 : FVec F S3x4096 .f32 := (fun x y u v j => (Host.argReduce reducer_argmax_f32_i32 x y u v reducesTo_S3x4096x2000_S3x4096_d2 h_S_ j).1) arg0 v0 cst c
  let v1_1 : IVec S3x4096 32 := (fun x y u v j => (Host.argReduce reducer_argmax_f32_i32 x y u v reducesTo_S3x4096x2000_S3x4096_d2 h_S_ j).2) arg0 v0 cst c
  v1_1

def fn_where {F : FTy → Type} [FloatOps F] (arg0 : IVec S4096x3x2000 1) (arg1 : FVec F S4096x3x2000 .f32) (arg2 : FVec F S_ .f32) : FVec F S4096x3x2000 .f32 :=
  let v0 : FVec F S_ .f32 := id arg2
  let v1 : FVec F S4096x3x2000 .f32 := broadcastInDim S4096x3x2000 ![] bcast_S_S4096x3x2000 v0
  let v2 : FVec F S4096x3x2000 .f32 := select arg0 arg1 v1
  v2

def fn_argmax_0 {F : FTy → Type} [FloatOps F] (arg0 : FVec F S4096x3x2000 .f32) : IVec S4096x3 32 :=
  let v0 : IVec S4096x3x2000 32 := iotaInDim S4096x3x2000 32 2
  let cst : FVec F S_ .f32 := constant S_ .f32 0xFF800000#32
  let c : IVec S_ 32 := constantI S_ 32 0#32
  let v1_0 : FVec F S4096x3 .f32 := (fun x y u v j => (Host.argReduce reducer_argmax_f32_i32 x y u v reducesTo_S4096x3x2000_S4096x3_d2 h_S_ j).1) arg0 v0 cst c
  let v1_1 : IVec S4096x3 32 := (fun x y u v j => (Host.argReduce reducer_argmax_f32_i32 x y u v reducesTo_S4096x3x2000_S4096x3_d2 h_S_ j).2) arg0 v0 cst c
  v1_1

def fn_part14 {F : FTy → Type} [FloatOps F] (main_v259 : IVec S_ 1) (main_v271 : IVec S4096x3x2000 1) (main_c_61 : IVec S_ 1) : IVec S_ 1 :=
  let main_v272 : IVec S_ 1 := (fun x v => Host.reduce IntOp.andi x v reducesTo_S4096x3x2000_S_d0_1_2 h_S_) main_v271 main_c_61
  let main_v273 : IVec S_ 1 := andi main_v259 main_v272
  main_v273

def fn_part13 {F : FTy → Type} [FloatOps F] (main_v212 : FVec F S3x4096x2000 .f32) (main_v232 : FVec F S4096x3x2000 .f32) (main_v245 : IVec S_ 1) (main_v250 : IVec S3x4096x2000 32) (main_v251 : IVec S3x4096x2000 32) : IVec S_ 1 :=
  let main_v252 : IVec S3x4096x2000 1 := cmpi .eq main_v250 main_v251
  let main_cst_58 : FVec F S_ .f32 := constant S_ .f32 0xFF800000#32
  let main_v253 : FVec F S3x4096 .f32 := (fun x v => Host.reduce FloatOps.maximumf x v reducesTo_S3x4096x2000_S3x4096_d2 h_S_) main_v212 main_cst_58
  let main_v254 : FVec F S3x4096x1 .f32 := broadcastInDim S3x4096x1 ![0, 1] bcast_S3x4096_S3x4096x1_0_1 main_v253
  let main_v255 : FVec F S3x4096x2000 .f32 := broadcastInDim S3x4096x2000 ![0, 1, 2] bcast_S3x4096x1_S3x4096x2000_0_1_2 main_v254
  let main_v256 : IVec S3x4096x2000 1 := cmpf .olt main_v212 main_v255
  let main_v257 : IVec S3x4096x2000 1 := ori main_v252 main_v256
  let main_c_59 : IVec S_ 1 := constantI S_ 1 1#1
  let main_v258 : IVec S_ 1 := (fun x v => Host.reduce IntOp.andi x v reducesTo_S3x4096x2000_S_d0_1_2 h_S_) main_v257 main_c_59
  let main_v259 : IVec S_ 1 := andi main_v245 main_v258
  let main_v260 : IVec S2000 32 := iotaInDim S2000 32 0
  let main_v261 : IVec S1x1x2000 32 := broadcastInDim S1x1x2000 ![2] bcast_S2000_S1x1x2000_2 main_v260
  let main_v262 : IVec S4096x3 32 := fn_argmax_0 (F := F) main_v232
  let main_v263 : IVec S4096x3x1 32 := broadcastInDim S4096x3x1 ![0, 1] bcast_S4096x3_S4096x3x1_0_1 main_v262
  let main_v264 : IVec S4096x3x2000 32 := broadcastInDim S4096x3x2000 ![0, 1, 2] bcast_S1x1x2000_S4096x3x2000_0_1_2 main_v261
  let main_v265 : IVec S4096x3x2000 32 := broadcastInDim S4096x3x2000 ![0, 1, 2] bcast_S4096x3x1_S4096x3x2000_0_1_2 main_v263
  let main_v266 : IVec S4096x3x2000 1 := cmpi .eq main_v264 main_v265
  let main_cst_60 : FVec F S_ .f32 := constant S_ .f32 0xFF800000#32
  let main_v267 : FVec F S4096x3 .f32 := (fun x v => Host.reduce FloatOps.maximumf x v reducesTo_S4096x3x2000_S4096x3_d2 h_S_) main_v232 main_cst_60
  let main_v268 : FVec F S4096x3x1 .f32 := broadcastInDim S4096x3x1 ![0, 1] bcast_S4096x3_S4096x3x1_0_1 main_v267
  let main_v269 : FVec F S4096x3x2000 .f32 := broadcastInDim S4096x3x2000 ![0, 1, 2] bcast_S4096x3x1_S4096x3x2000_0_1_2 main_v268
  let main_v270 : IVec S4096x3x2000 1 := cmpf .olt main_v232 main_v269
  let main_v271 : IVec S4096x3x2000 1 := ori main_v266 main_v270
  let main_c_61 : IVec S_ 1 := constantI S_ 1 1#1
  fn_part14 (F := F) main_v259 main_v271 main_c_61

def fn_part12 {F : FTy → Type} [FloatOps F] (main_v204 : FVec F S3x4096x2000 .f32) (main_v212 : FVec F S3x4096x2000 .f32) (main_v228 : FVec F S4096x3x2000 .f32) (main_v229 : FVec F S1x24576000 .f32) : IVec S_ 1 :=
  let main_v230 : FVec F S24576000 .f32 := shapeCast S24576000 main_v229 shapeCasts_S1x24576000_S24576000
  let main_v231 : FVec F S4096x3x2000 .f32 := shapeCast S4096x3x2000 main_v230 shapeCasts_S24576000_S4096x3x2000
  let main_v232 : FVec F S4096x3x2000 .f32 := addf main_v231 main_v228
  let main_v233 : IVec S2000 32 := iotaInDim S2000 32 0
  let main_v234 : IVec S1x1x2000 32 := broadcastInDim S1x1x2000 ![2] bcast_S2000_S1x1x2000_2 main_v233
  let main_v235 : IVec S3x4096 32 := fn_argmax (F := F) main_v204
  let main_v236 : IVec S3x4096x1 32 := broadcastInDim S3x4096x1 ![0, 1] bcast_S3x4096_S3x4096x1_0_1 main_v235
  let main_v237 : IVec S3x4096x2000 32 := broadcastInDim S3x4096x2000 ![0, 1, 2] bcast_S1x1x2000_S3x4096x2000_0_1_2 main_v234
  let main_v238 : IVec S3x4096x2000 32 := broadcastInDim S3x4096x2000 ![0, 1, 2] bcast_S3x4096x1_S3x4096x2000_0_1_2 main_v236
  let main_v239 : IVec S3x4096x2000 1 := cmpi .eq main_v237 main_v238
  let main_cst_56 : FVec F S_ .f32 := constant S_ .f32 0xFF800000#32
  let main_v240 : FVec F S3x4096 .f32 := (fun x v => Host.reduce FloatOps.maximumf x v reducesTo_S3x4096x2000_S3x4096_d2 h_S_) main_v204 main_cst_56
  let main_v241 : FVec F S3x4096x1 .f32 := broadcastInDim S3x4096x1 ![0, 1] bcast_S3x4096_S3x4096x1_0_1 main_v240
  let main_v242 : FVec F S3x4096x2000 .f32 := broadcastInDim S3x4096x2000 ![0, 1, 2] bcast_S3x4096x1_S3x4096x2000_0_1_2 main_v241
  let main_v243 : IVec S3x4096x2000 1 := cmpf .olt main_v204 main_v242
  let main_v244 : IVec S3x4096x2000 1 := ori main_v239 main_v243
  let main_c_57 : IVec S_ 1 := constantI S_ 1 1#1
  let main_v245 : IVec S_ 1 := (fun x v => Host.reduce IntOp.andi x v reducesTo_S3x4096x2000_S_d0_1_2 h_S_) main_v244 main_c_57
  let main_v246 : IVec S2000 32 := iotaInDim S2000 32 0
  let main_v247 : IVec S1x1x2000 32 := broadcastInDim S1x1x2000 ![2] bcast_S2000_S1x1x2000_2 main_v246
  let main_v248 : IVec S3x4096 32 := fn_argmax (F := F) main_v212
  let main_v249 : IVec S3x4096x1 32 := broadcastInDim S3x4096x1 ![0, 1] bcast_S3x4096_S3x4096x1_0_1 main_v248
  let main_v250 : IVec S3x4096x2000 32 := broadcastInDim S3x4096x2000 ![0, 1, 2] bcast_S1x1x2000_S3x4096x2000_0_1_2 main_v247
  let main_v251 : IVec S3x4096x2000 32 := broadcastInDim S3x4096x2000 ![0, 1, 2] bcast_S3x4096x1_S3x4096x2000_0_1_2 main_v249
  fn_part13 (F := F) main_v212 main_v232 main_v245 main_v250 main_v251

def fn_part11 {F : FTy → Type} [FloatOps F] (main_arg4 : FVec F S4096x2000 .f32) (main_v198 : FVec F S3x24576000 .f32) (main_v204 : FVec F S3x4096x2000 .f32) (main_v206 : FVec F S4096x2000 .f32) (main_v207 : FVec F S1x24576000 .f32) : IVec S_ 1 :=
  let main_v208 : FVec F S24576000 .f32 := shapeCast S24576000 main_v207 shapeCasts_S1x24576000_S24576000
  let main_v209 : FVec F S3x4096x2000 .f32 := shapeCast S3x4096x2000 main_v208 shapeCasts_S24576000_S3x4096x2000
  let main_v210 : FVec F S1x4096x2000 .f32 := broadcastInDim S1x4096x2000 ![1, 2] bcast_S4096x2000_S1x4096x2000_1_2 main_v206
  let main_v211 : FVec F S3x4096x2000 .f32 := broadcastInDim S3x4096x2000 ![0, 1, 2] bcast_S1x4096x2000_S3x4096x2000_0_1_2 main_v210
  let main_v212 : FVec F S3x4096x2000 .f32 := addf main_v209 main_v211
  let main_v213 : IVec S3x4096 32 := fn_argmax (F := F) main_v212
  let main_v214 : IVec S4096x3 32 := (transpose S4096x3 [1, 0] · transposes_S3x4096_S4096x3_1_0) main_v213
  let main_v215 : IVec S2000 32 := iotaInDim S2000 32 0
  let main_v216 : IVec S1x1x2000 32 := broadcastInDim S1x1x2000 ![2] bcast_S2000_S1x1x2000_2 main_v215
  let main_v217 : IVec S4096x3x1 32 := broadcastInDim S4096x3x1 ![0, 1] bcast_S4096x3_S4096x3x1_0_1 main_v214
  let main_v218 : IVec S4096x3x2000 32 := broadcastInDim S4096x3x2000 ![0, 1, 2] bcast_S1x1x2000_S4096x3x2000_0_1_2 main_v216
  let main_v219 : IVec S4096x3x2000 32 := broadcastInDim S4096x3x2000 ![0, 1, 2] bcast_S4096x3x1_S4096x3x2000_0_1_2 main_v217
  let main_v220 : IVec S4096x3x2000 1 := cmpi .ne main_v218 main_v219
  let main_v221 : FVec F S4096x1x2000 .f32 := broadcastInDim S4096x1x2000 ![0, 2] bcast_S4096x2000_S4096x1x2000_0_2 main_arg4
  let main_v222 : FVec F S4096x3x2000 .f32 := broadcastInDim S4096x3x2000 ![0, 1, 2] bcast_S4096x1x2000_S4096x3x2000_0_1_2 main_v221
  let main_cst_54 : FVec F S_ .f32 := constant S_ .f32 0x3089705F#32
  let main_v223 : FVec F S4096x3x2000 .f32 := fn_where (F := F) main_v220 main_v222 main_cst_54
  let main_cst_55 : FVec F S_ .f32 := constant S_ .f32 0x00000000#32
  let main_v224 : FVec F S4096x3 .f32 := (fun x v => Host.reduceAdd x v reducesTo_S4096x3x2000_S4096x3_d2 h_S_) main_v223 main_cst_55
  let main_v225 : FVec F S4096x3x1 .f32 := broadcastInDim S4096x3x1 ![0, 1] bcast_S4096x3_S4096x3x1_0_1 main_v224
  let main_v226 : FVec F S4096x3x2000 .f32 := broadcastInDim S4096x3x2000 ![0, 1, 2] bcast_S4096x3x1_S4096x3x2000_0_1_2 main_v225
  let main_v227 : FVec F S4096x3x2000 .f32 := Host.divf main_v223 main_v226
  let main_v228 : FVec F S4096x3x2000 .f32 := Host.log main_v227
  let main_v229 : FVec F S1x24576000 .f32 := (extractStridedSlice S1x24576000 ![2, 0] · slices_S3x24576000_S1x24576000_2_0) main_v198
  fn_part12 (F := F) main_v204 main_v212 main_v228 main_v229

def fn_part10 {F : FTy → Type} [FloatOps F] (main_arg2 : FVec F S4096x2000 .f32) (main_arg3 : FVec F S4096x2000 .f32) (main_arg4 : FVec F S4096x2000 .f32) (main_v186 : FVec F S3x24576000 .f32) (main_v187 : FVec F S3x24576000 .f32) : IVec S_ 1 :=
  let main_v188 : FVec F S3x24576000 .f32 := subf main_v186 main_v187
  let main_cst_50 : FVec F S_ .f32 := constant S_ .f32 0x3F800000#32
  let main_v189 : FVec F S3x24576000 .f32 := broadcastInDim S3x24576000 ![] bcast_S_S3x24576000 main_cst_50
  let main_v190 : FVec F S3x24576000 .f32 := mulf main_v188 main_v189
  let main_cst_51 : FVec F S_ .f32 := constant S_ .f32 0x00800000#32
  let main_v191 : FVec F S3x24576000 .f32 := broadcastInDim S3x24576000 ![] bcast_S_S3x24576000 main_cst_51
  let main_v192 : FVec F S3x24576000 .f32 := addf main_v190 main_v191
  let main_cst_52 : FVec F S_ .f32 := constant S_ .f32 0x00800000#32
  let main_v193 : FVec F S3x24576000 .f32 := broadcastInDim S3x24576000 ![] bcast_S_S3x24576000 main_cst_52
  let main_v194 : FVec F S3x24576000 .f32 := maximumf main_v193 main_v192
  let main_v195 : FVec F S3x24576000 .f32 := Host.log main_v194
  let main_v196 : FVec F S3x24576000 .f32 := Host.negf main_v195
  let main_v197 : FVec F S3x24576000 .f32 := Host.log main_v196
  let main_v198 : FVec F S3x24576000 .f32 := Host.negf main_v197
  let main_v199 : FVec F S1x24576000 .f32 := (extractStridedSlice S1x24576000 ![0, 0] · slices_S3x24576000_S1x24576000_0_0) main_v198
  let main_v200 : FVec F S24576000 .f32 := shapeCast S24576000 main_v199 shapeCasts_S1x24576000_S24576000
  let main_v201 : FVec F S3x4096x2000 .f32 := shapeCast S3x4096x2000 main_v200 shapeCasts_S24576000_S3x4096x2000
  let main_v202 : FVec F S1x4096x2000 .f32 := broadcastInDim S1x4096x2000 ![1, 2] bcast_S4096x2000_S1x4096x2000_1_2 main_arg2
  let main_v203 : FVec F S3x4096x2000 .f32 := broadcastInDim S3x4096x2000 ![0, 1, 2] bcast_S1x4096x2000_S3x4096x2000_0_1_2 main_v202
  let main_v204 : FVec F S3x4096x2000 .f32 := addf main_v201 main_v203
  let main_cst_53 : FVec F S_ .f32 := constant S_ .f32 0x0DA24260#32
  let main_v205 : FVec F S4096x2000 .f32 := fn_clip (F := F) main_arg3 main_cst_53
  let main_v206 : FVec F S4096x2000 .f32 := Host.log main_v205
  let main_v207 : FVec F S1x24576000 .f32 := (extractStridedSlice S1x24576000 ![1, 0] · slices_S3x24576000_S1x24576000_1_0) main_v198
  fn_part11 (F := F) main_arg4 main_v198 main_v204 main_v206 main_v207

def fn_part9 {F : FTy → Type} [FloatOps F] (main_arg2 : FVec F S4096x2000 .f32) (main_arg3 : FVec F S4096x2000 .f32) (main_arg4 : FVec F S4096x2000 .f32) (main_c : IVec S3x1 32) (main_v6 : IVec S3x1 32) (main_v167 : IVec S3x24576000 32) (main_v168 : IVec S3x24576000 32) (main_c_45 : IVec S_ 32) : IVec S_ 1 :=
  let main_v169 : IVec S3x24576000 32 := broadcastInDim S3x24576000 ![] bcast_S_S3x24576000 main_c_45
  let main_v170 : IVec S3x24576000 32 := Host.shli main_v167 main_v169
  let main_c_46 : IVec S_ 32 := constantI S_ 32 26#32
  let main_v171 : IVec S3x24576000 32 := broadcastInDim S3x24576000 ![] bcast_S_S3x24576000 main_c_46
  let main_v172 : IVec S3x24576000 32 := Host.shrui main_v167 main_v171
  let main_v173 : IVec S3x24576000 32 := ori main_v170 main_v172
  let main_v174 : IVec S3x24576000 32 := xori main_v168 main_v173
  let main_v175 : IVec S3x24576000 32 := broadcastInDim S3x24576000 ![0, 1] bcast_S3x1_S3x24576000_0_1 main_v6
  let main_v176 : IVec S3x24576000 32 := addi main_v168 main_v175
  let main_v177 : IVec S3x24576000 32 := broadcastInDim S3x24576000 ![0, 1] bcast_S3x1_S3x24576000_0_1 main_c
  let main_v178 : IVec S3x24576000 32 := addi main_v174 main_v177
  let main_c_47 : IVec S_ 32 := constantI S_ 32 5#32
  let main_v179 : IVec S3x24576000 32 := broadcastInDim S3x24576000 ![] bcast_S_S3x24576000 main_c_47
  let main_v180 : IVec S3x24576000 32 := addi main_v178 main_v179
  let main_v181 : IVec S3x24576000 32 := xori main_v176 main_v180
  let main_c_48 : IVec S_ 32 := constantI S_ 32 9#32
  let main_v182 : IVec S3x24576000 32 := broadcastInDim S3x24576000 ![] bcast_S_S3x24576000 main_c_48
  let main_v183 : IVec S3x24576000 32 := Host.shrui main_v181 main_v182
  let main_c_49 : IVec S_ 32 := constantI S_ 32 1065353216#32
  let main_v184 : IVec S3x24576000 32 := broadcastInDim S3x24576000 ![] bcast_S_S3x24576000 main_c_49
  let main_v185 : IVec S3x24576000 32 := ori main_v183 main_v184
  let main_v186 : FVec F S3x24576000 .f32 := bitcastToFloat .f32 main_v185
  let main_cst : FVec F S_ .f32 := constant S_ .f32 0x3F800000#32
  let main_v187 : FVec F S3x24576000 .f32 := broadcastInDim S3x24576000 ![] bcast_S_S3x24576000 main_cst
  fn_part10 (F := F) main_arg2 main_arg3 main_arg4 main_v186 main_v187

def fn_part8 {F : FTy → Type} [FloatOps F] (main_arg2 : FVec F S4096x2000 .f32) (main_arg3 : FVec F S4096x2000 .f32) (main_arg4 : FVec F S4096x2000 .f32) (main_c : IVec S3x1 32) (main_v6 : IVec S3x1 32) (main_v146 : IVec S3x24576000 32) (main_v147 : IVec S3x24576000 32) (main_v149 : IVec S3x24576000 32) (main_c_40 : IVec S_ 32) : IVec S_ 1 :=
  let main_v150 : IVec S3x24576000 32 := broadcastInDim S3x24576000 ![] bcast_S_S3x24576000 main_c_40
  let main_v151 : IVec S3x24576000 32 := Host.shrui main_v146 main_v150
  let main_v152 : IVec S3x24576000 32 := ori main_v149 main_v151
  let main_v153 : IVec S3x24576000 32 := xori main_v147 main_v152
  let main_v154 : IVec S3x24576000 32 := addi main_v147 main_v153
  let main_c_41 : IVec S_ 32 := constantI S_ 32 15#32
  let main_v155 : IVec S3x24576000 32 := broadcastInDim S3x24576000 ![] bcast_S_S3x24576000 main_c_41
  let main_v156 : IVec S3x24576000 32 := Host.shli main_v153 main_v155
  let main_c_42 : IVec S_ 32 := constantI S_ 32 17#32
  let main_v157 : IVec S3x24576000 32 := broadcastInDim S3x24576000 ![] bcast_S_S3x24576000 main_c_42
  let main_v158 : IVec S3x24576000 32 := Host.shrui main_v153 main_v157
  let main_v159 : IVec S3x24576000 32 := ori main_v156 main_v158
  let main_v160 : IVec S3x24576000 32 := xori main_v154 main_v159
  let main_v161 : IVec S3x24576000 32 := addi main_v154 main_v160
  let main_c_43 : IVec S_ 32 := constantI S_ 32 26#32
  let main_v162 : IVec S3x24576000 32 := broadcastInDim S3x24576000 ![] bcast_S_S3x24576000 main_c_43
  let main_v163 : IVec S3x24576000 32 := Host.shli main_v160 main_v162
  let main_c_44 : IVec S_ 32 := constantI S_ 32 6#32
  let main_v164 : IVec S3x24576000 32 := broadcastInDim S3x24576000 ![] bcast_S_S3x24576000 main_c_44
  let main_v165 : IVec S3x24576000 32 := Host.shrui main_v160 main_v164
  let main_v166 : IVec S3x24576000 32 := ori main_v163 main_v165
  let main_v167 : IVec S3x24576000 32 := xori main_v161 main_v166
  let main_v168 : IVec S3x24576000 32 := addi main_v161 main_v167
  let main_c_45 : IVec S_ 32 := constantI S_ 32 6#32
  fn_part9 (F := F) main_arg2 main_arg3 main_arg4 main_c main_v6 main_v167 main_v168 main_c_45

def fn_part7 {F : FTy → Type} [FloatOps F] (main_arg2 : FVec F S4096x2000 .f32) (main_arg3 : FVec F S4096x2000 .f32) (main_arg4 : FVec F S4096x2000 .f32) (main_c : IVec S3x1 32) (main_c_0 : IVec S3x1 32) (main_v6 : IVec S3x1 32) (main_v126 : IVec S3x24576000 32) (main_v127 : IVec S3x24576000 32) (main_v129 : IVec S3x24576000 32) (main_v130 : IVec S3x24576000 32) : IVec S_ 1 :=
  let main_v131 : IVec S3x24576000 32 := Host.shrui main_v126 main_v130
  let main_v132 : IVec S3x24576000 32 := ori main_v129 main_v131
  let main_v133 : IVec S3x24576000 32 := xori main_v127 main_v132
  let main_v134 : IVec S3x24576000 32 := addi main_v127 main_v133
  let main_c_36 : IVec S_ 32 := constantI S_ 32 24#32
  let main_v135 : IVec S3x24576000 32 := broadcastInDim S3x24576000 ![] bcast_S_S3x24576000 main_c_36
  let main_v136 : IVec S3x24576000 32 := Host.shli main_v133 main_v135
  let main_c_37 : IVec S_ 32 := constantI S_ 32 8#32
  let main_v137 : IVec S3x24576000 32 := broadcastInDim S3x24576000 ![] bcast_S_S3x24576000 main_c_37
  let main_v138 : IVec S3x24576000 32 := Host.shrui main_v133 main_v137
  let main_v139 : IVec S3x24576000 32 := ori main_v136 main_v138
  let main_v140 : IVec S3x24576000 32 := xori main_v134 main_v139
  let main_v141 : IVec S3x24576000 32 := broadcastInDim S3x24576000 ![0, 1] bcast_S3x1_S3x24576000_0_1 main_c_0
  let main_v142 : IVec S3x24576000 32 := addi main_v134 main_v141
  let main_v143 : IVec S3x24576000 32 := broadcastInDim S3x24576000 ![0, 1] bcast_S3x1_S3x24576000_0_1 main_v6
  let main_v144 : IVec S3x24576000 32 := addi main_v140 main_v143
  let main_c_38 : IVec S_ 32 := constantI S_ 32 4#32
  let main_v145 : IVec S3x24576000 32 := broadcastInDim S3x24576000 ![] bcast_S_S3x24576000 main_c_38
  let main_v146 : IVec S3x24576000 32 := addi main_v144 main_v145
  let main_v147 : IVec S3x24576000 32 := addi main_v142 main_v146
  let main_c_39 : IVec S_ 32 := constantI S_ 32 13#32
  let main_v148 : IVec S3x24576000 32 := broadcastInDim S3x24576000 ![] bcast_S_S3x24576000 main_c_39
  let main_v149 : IVec S3x24576000 32 := Host.shli main_v146 main_v148
  let main_c_40 : IVec S_ 32 := constantI S_ 32 19#32
  fn_part8 (F := F) main_arg2 main_arg3 main_arg4 main_c main_v6 main_v146 main_v147 main_v149 main_c_40

def fn_part6 {F : FTy → Type} [FloatOps F] (main_arg2 : FVec F S4096x2000 .f32) (main_arg3 : FVec F S4096x2000 .f32) (main_arg4 : FVec F S4096x2000 .f32) (main_c : IVec S3x1 32) (main_c_0 : IVec S3x1 32) (main_v6 : IVec S3x1 32) (main_v108 : IVec S3x24576000 32) (main_v112 : IVec S3x24576000 32) : IVec S_ 1 :=
  let main_v113 : IVec S3x24576000 32 := addi main_v108 main_v112
  let main_c_30 : IVec S_ 32 := constantI S_ 32 17#32
  let main_v114 : IVec S3x24576000 32 := broadcastInDim S3x24576000 ![] bcast_S_S3x24576000 main_c_30
  let main_v115 : IVec S3x24576000 32 := Host.shli main_v112 main_v114
  let main_c_31 : IVec S_ 32 := constantI S_ 32 15#32
  let main_v116 : IVec S3x24576000 32 := broadcastInDim S3x24576000 ![] bcast_S_S3x24576000 main_c_31
  let main_v117 : IVec S3x24576000 32 := Host.shrui main_v112 main_v116
  let main_v118 : IVec S3x24576000 32 := ori main_v115 main_v117
  let main_v119 : IVec S3x24576000 32 := xori main_v113 main_v118
  let main_v120 : IVec S3x24576000 32 := addi main_v113 main_v119
  let main_c_32 : IVec S_ 32 := constantI S_ 32 29#32
  let main_v121 : IVec S3x24576000 32 := broadcastInDim S3x24576000 ![] bcast_S_S3x24576000 main_c_32
  let main_v122 : IVec S3x24576000 32 := Host.shli main_v119 main_v121
  let main_c_33 : IVec S_ 32 := constantI S_ 32 3#32
  let main_v123 : IVec S3x24576000 32 := broadcastInDim S3x24576000 ![] bcast_S_S3x24576000 main_c_33
  let main_v124 : IVec S3x24576000 32 := Host.shrui main_v119 main_v123
  let main_v125 : IVec S3x24576000 32 := ori main_v122 main_v124
  let main_v126 : IVec S3x24576000 32 := xori main_v120 main_v125
  let main_v127 : IVec S3x24576000 32 := addi main_v120 main_v126
  let main_c_34 : IVec S_ 32 := constantI S_ 32 16#32
  let main_v128 : IVec S3x24576000 32 := broadcastInDim S3x24576000 ![] bcast_S_S3x24576000 main_c_34
  let main_v129 : IVec S3x24576000 32 := Host.shli main_v126 main_v128
  let main_c_35 : IVec S_ 32 := constantI S_ 32 16#32
  let main_v130 : IVec S3x24576000 32 := broadcastInDim S3x24576000 ![] bcast_S_S3x24576000 main_c_35
  fn_part7 (F := F) main_arg2 main_arg3 main_arg4 main_c main_c_0 main_v6 main_v126 main_v127 main_v129 main_v130

def fn_part5 {F : FTy → Type} [FloatOps F] (main_arg2 : FVec F S4096x2000 .f32) (main_arg3 : FVec F S4096x2000 .f32) (main_arg4 : FVec F S4096x2000 .f32) (main_c : IVec S3x1 32) (main_c_0 : IVec S3x1 32) (main_v6 : IVec S3x1 32) (main_v92 : IVec S3x24576000 32) (main_v93 : IVec S3x24576000 32) : IVec S_ 1 :=
  let main_c_25 : IVec S_ 32 := constantI S_ 32 26#32
  let main_v94 : IVec S3x24576000 32 := broadcastInDim S3x24576000 ![] bcast_S_S3x24576000 main_c_25
  let main_v95 : IVec S3x24576000 32 := Host.shli main_v92 main_v94
  let main_c_26 : IVec S_ 32 := constantI S_ 32 6#32
  let main_v96 : IVec S3x24576000 32 := broadcastInDim S3x24576000 ![] bcast_S_S3x24576000 main_c_26
  let main_v97 : IVec S3x24576000 32 := Host.shrui main_v92 main_v96
  let main_v98 : IVec S3x24576000 32 := ori main_v95 main_v97
  let main_v99 : IVec S3x24576000 32 := xori main_v93 main_v98
  let main_v100 : IVec S3x24576000 32 := addi main_v93 main_v99
  let main_c_27 : IVec S_ 32 := constantI S_ 32 6#32
  let main_v101 : IVec S3x24576000 32 := broadcastInDim S3x24576000 ![] bcast_S_S3x24576000 main_c_27
  let main_v102 : IVec S3x24576000 32 := Host.shli main_v99 main_v101
  let main_c_28 : IVec S_ 32 := constantI S_ 32 26#32
  let main_v103 : IVec S3x24576000 32 := broadcastInDim S3x24576000 ![] bcast_S_S3x24576000 main_c_28
  let main_v104 : IVec S3x24576000 32 := Host.shrui main_v99 main_v103
  let main_v105 : IVec S3x24576000 32 := ori main_v102 main_v104
  let main_v106 : IVec S3x24576000 32 := xori main_v100 main_v105
  let main_v107 : IVec S3x24576000 32 := broadcastInDim S3x24576000 ![0, 1] bcast_S3x1_S3x24576000_0_1 main_c
  let main_v108 : IVec S3x24576000 32 := addi main_v100 main_v107
  let main_v109 : IVec S3x24576000 32 := broadcastInDim S3x24576000 ![0, 1] bcast_S3x1_S3x24576000_0_1 main_c_0
  let main_v110 : IVec S3x24576000 32 := addi main_v106 main_v109
  let main_c_29 : IVec S_ 32 := constantI S_ 32 3#32
  let main_v111 : IVec S3x24576000 32 := broadcastInDim S3x24576000 ![] bcast_S_S3x24576000 main_c_29
  let main_v112 : IVec S3x24576000 32 := addi main_v110 main_v111
  fn_part6 (F := F) main_arg2 main_arg3 main_arg4 main_c main_c_0 main_v6 main_v108 main_v112

def fn_part4 {F : FTy → Type} [FloatOps F] (main_arg2 : FVec F S4096x2000 .f32) (main_arg3 : FVec F S4096x2000 .f32) (main_arg4 : FVec F S4096x2000 .f32) (main_c : IVec S3x1 32) (main_c_0 : IVec S3x1 32) (main_v6 : IVec S3x1 32) (main_v72 : IVec S3x24576000 32) (main_v74 : IVec S3x24576000 32) : IVec S_ 1 :=
  let main_v75 : IVec S3x24576000 32 := broadcastInDim S3x24576000 ![0, 1] bcast_S3x1_S3x24576000_0_1 main_c
  let main_v76 : IVec S3x24576000 32 := addi main_v72 main_v75
  let main_c_20 : IVec S_ 32 := constantI S_ 32 2#32
  let main_v77 : IVec S3x24576000 32 := broadcastInDim S3x24576000 ![] bcast_S_S3x24576000 main_c_20
  let main_v78 : IVec S3x24576000 32 := addi main_v76 main_v77
  let main_v79 : IVec S3x24576000 32 := addi main_v74 main_v78
  let main_c_21 : IVec S_ 32 := constantI S_ 32 13#32
  let main_v80 : IVec S3x24576000 32 := broadcastInDim S3x24576000 ![] bcast_S_S3x24576000 main_c_21
  let main_v81 : IVec S3x24576000 32 := Host.shli main_v78 main_v80
  let main_c_22 : IVec S_ 32 := constantI S_ 32 19#32
  let main_v82 : IVec S3x24576000 32 := broadcastInDim S3x24576000 ![] bcast_S_S3x24576000 main_c_22
  let main_v83 : IVec S3x24576000 32 := Host.shrui main_v78 main_v82
  let main_v84 : IVec S3x24576000 32 := ori main_v81 main_v83
  let main_v85 : IVec S3x24576000 32 := xori main_v79 main_v84
  let main_v86 : IVec S3x24576000 32 := addi main_v79 main_v85
  let main_c_23 : IVec S_ 32 := constantI S_ 32 15#32
  let main_v87 : IVec S3x24576000 32 := broadcastInDim S3x24576000 ![] bcast_S_S3x24576000 main_c_23
  let main_v88 : IVec S3x24576000 32 := Host.shli main_v85 main_v87
  let main_c_24 : IVec S_ 32 := constantI S_ 32 17#32
  let main_v89 : IVec S3x24576000 32 := broadcastInDim S3x24576000 ![] bcast_S_S3x24576000 main_c_24
  let main_v90 : IVec S3x24576000 32 := Host.shrui main_v85 main_v89
  let main_v91 : IVec S3x24576000 32 := ori main_v88 main_v90
  let main_v92 : IVec S3x24576000 32 := xori main_v86 main_v91
  let main_v93 : IVec S3x24576000 32 := addi main_v86 main_v92
  fn_part5 (F := F) main_arg2 main_arg3 main_arg4 main_c main_c_0 main_v6 main_v92 main_v93

def fn_part3 {F : FTy → Type} [FloatOps F] (main_arg2 : FVec F S4096x2000 .f32) (main_arg3 : FVec F S4096x2000 .f32) (main_arg4 : FVec F S4096x2000 .f32) (main_c : IVec S3x1 32) (main_c_0 : IVec S3x1 32) (main_v6 : IVec S3x1 32) (main_v51 : IVec S3x24576000 32) (main_v52 : IVec S3x24576000 32) (main_v54 : IVec S3x24576000 32) (main_c_15 : IVec S_ 32) : IVec S_ 1 :=
  let main_v55 : IVec S3x24576000 32 := broadcastInDim S3x24576000 ![] bcast_S_S3x24576000 main_c_15
  let main_v56 : IVec S3x24576000 32 := Host.shrui main_v51 main_v55
  let main_v57 : IVec S3x24576000 32 := ori main_v54 main_v56
  let main_v58 : IVec S3x24576000 32 := xori main_v52 main_v57
  let main_v59 : IVec S3x24576000 32 := addi main_v52 main_v58
  let main_c_16 : IVec S_ 32 := constantI S_ 32 16#32
  let main_v60 : IVec S3x24576000 32 := broadcastInDim S3x24576000 ![] bcast_S_S3x24576000 main_c_16
  let main_v61 : IVec S3x24576000 32 := Host.shli main_v58 main_v60
  let main_c_17 : IVec S_ 32 := constantI S_ 32 16#32
  let main_v62 : IVec S3x24576000 32 := broadcastInDim S3x24576000 ![] bcast_S_S3x24576000 main_c_17
  let main_v63 : IVec S3x24576000 32 := Host.shrui main_v58 main_v62
  let main_v64 : IVec S3x24576000 32 := ori main_v61 main_v63
  let main_v65 : IVec S3x24576000 32 := xori main_v59 main_v64
  let main_v66 : IVec S3x24576000 32 := addi main_v59 main_v65
  let main_c_18 : IVec S_ 32 := constantI S_ 32 24#32
  let main_v67 : IVec S3x24576000 32 := broadcastInDim S3x24576000 ![] bcast_S_S3x24576000 main_c_18
  let main_v68 : IVec S3x24576000 32 := Host.shli main_v65 main_v67
  let main_c_19 : IVec S_ 32 := constantI S_ 32 8#32
  let main_v69 : IVec S3x24576000 32 := broadcastInDim S3x24576000 ![] bcast_S_S3x24576000 main_c_19
  let main_v70 : IVec S3x24576000 32 := Host.shrui main_v65 main_v69
  let main_v71 : IVec S3x24576000 32 := ori main_v68 main_v70
  let main_v72 : IVec S3x24576000 32 := xori main_v66 main_v71
  let main_v73 : IVec S3x24576000 32 := broadcastInDim S3x24576000 ![0, 1] bcast_S3x1_S3x24576000_0_1 main_v6
  let main_v74 : IVec S3x24576000 32 := addi main_v66 main_v73
  fn_part4 (F := F) main_arg2 main_arg3 main_arg4 main_c main_c_0 main_v6 main_v72 main_v74

def fn_part2 {F : FTy → Type} [FloatOps F] (main_arg2 : FVec F S4096x2000 .f32) (main_arg3 : FVec F S4096x2000 .f32) (main_arg4 : FVec F S4096x2000 .f32) (main_c : IVec S3x1 32) (main_c_0 : IVec S3x1 32) (main_v6 : IVec S3x1 32) (main_v31 : IVec S3x24576000 32) (main_v32 : IVec S3x24576000 32) (main_v34 : IVec S3x24576000 32) (main_v35 : IVec S3x24576000 32) : IVec S_ 1 :=
  let main_v36 : IVec S3x24576000 32 := Host.shrui main_v31 main_v35
  let main_v37 : IVec S3x24576000 32 := ori main_v34 main_v36
  let main_v38 : IVec S3x24576000 32 := xori main_v32 main_v37
  let main_v39 : IVec S3x24576000 32 := broadcastInDim S3x24576000 ![0, 1] bcast_S3x1_S3x24576000_0_1 main_c_0
  let main_v40 : IVec S3x24576000 32 := addi main_v32 main_v39
  let main_v41 : IVec S3x24576000 32 := broadcastInDim S3x24576000 ![0, 1] bcast_S3x1_S3x24576000_0_1 main_v6
  let main_v42 : IVec S3x24576000 32 := addi main_v38 main_v41
  let main_c_11 : IVec S_ 32 := constantI S_ 32 1#32
  let main_v43 : IVec S3x24576000 32 := broadcastInDim S3x24576000 ![] bcast_S_S3x24576000 main_c_11
  let main_v44 : IVec S3x24576000 32 := addi main_v42 main_v43
  let main_v45 : IVec S3x24576000 32 := addi main_v40 main_v44
  let main_c_12 : IVec S_ 32 := constantI S_ 32 17#32
  let main_v46 : IVec S3x24576000 32 := broadcastInDim S3x24576000 ![] bcast_S_S3x24576000 main_c_12
  let main_v47 : IVec S3x24576000 32 := Host.shli main_v44 main_v46
  let main_c_13 : IVec S_ 32 := constantI S_ 32 15#32
  let main_v48 : IVec S3x24576000 32 := broadcastInDim S3x24576000 ![] bcast_S_S3x24576000 main_c_13
  let main_v49 : IVec S3x24576000 32 := Host.shrui main_v44 main_v48
  let main_v50 : IVec S3x24576000 32 := ori main_v47 main_v49
  let main_v51 : IVec S3x24576000 32 := xori main_v45 main_v50
  let main_v52 : IVec S3x24576000 32 := addi main_v45 main_v51
  let main_c_14 : IVec S_ 32 := constantI S_ 32 29#32
  let main_v53 : IVec S3x24576000 32 := broadcastInDim S3x24576000 ![] bcast_S_S3x24576000 main_c_14
  let main_v54 : IVec S3x24576000 32 := Host.shli main_v51 main_v53
  let main_c_15 : IVec S_ 32 := constantI S_ 32 3#32
  fn_part3 (F := F) main_arg2 main_arg3 main_arg4 main_c main_c_0 main_v6 main_v51 main_v52 main_v54 main_c_15

def fn_part1 {F : FTy → Type} [FloatOps F] (main_arg2 : FVec F S4096x2000 .f32) (main_arg3 : FVec F S4096x2000 .f32) (main_arg4 : FVec F S4096x2000 .f32) (main_c : IVec S3x1 32) (main_c_0 : IVec S3x1 32) (main_v6 : IVec S3x1 32) (main_v11 : IVec S3x24576000 32) (main_v17 : IVec S3x24576000 32) : IVec S_ 1 :=
  let main_v18 : IVec S3x24576000 32 := addi main_v11 main_v17
  let main_c_5 : IVec S_ 32 := constantI S_ 32 15#32
  let main_v19 : IVec S3x24576000 32 := broadcastInDim S3x24576000 ![] bcast_S_S3x24576000 main_c_5
  let main_v20 : IVec S3x24576000 32 := Host.shli main_v17 main_v19
  let main_c_6 : IVec S_ 32 := constantI S_ 32 17#32
  let main_v21 : IVec S3x24576000 32 := broadcastInDim S3x24576000 ![] bcast_S_S3x24576000 main_c_6
  let main_v22 : IVec S3x24576000 32 := Host.shrui main_v17 main_v21
  let main_v23 : IVec S3x24576000 32 := ori main_v20 main_v22
  let main_v24 : IVec S3x24576000 32 := xori main_v18 main_v23
  let main_v25 : IVec S3x24576000 32 := addi main_v18 main_v24
  let main_c_7 : IVec S_ 32 := constantI S_ 32 26#32
  let main_v26 : IVec S3x24576000 32 := broadcastInDim S3x24576000 ![] bcast_S_S3x24576000 main_c_7
  let main_v27 : IVec S3x24576000 32 := Host.shli main_v24 main_v26
  let main_c_8 : IVec S_ 32 := constantI S_ 32 6#32
  let main_v28 : IVec S3x24576000 32 := broadcastInDim S3x24576000 ![] bcast_S_S3x24576000 main_c_8
  let main_v29 : IVec S3x24576000 32 := Host.shrui main_v24 main_v28
  let main_v30 : IVec S3x24576000 32 := ori main_v27 main_v29
  let main_v31 : IVec S3x24576000 32 := xori main_v25 main_v30
  let main_v32 : IVec S3x24576000 32 := addi main_v25 main_v31
  let main_c_9 : IVec S_ 32 := constantI S_ 32 6#32
  let main_v33 : IVec S3x24576000 32 := broadcastInDim S3x24576000 ![] bcast_S_S3x24576000 main_c_9
  let main_v34 : IVec S3x24576000 32 := Host.shli main_v31 main_v33
  let main_c_10 : IVec S_ 32 := constantI S_ 32 26#32
  let main_v35 : IVec S3x24576000 32 := broadcastInDim S3x24576000 ![] bcast_S_S3x24576000 main_c_10
  fn_part2 (F := F) main_arg2 main_arg3 main_arg4 main_c main_c_0 main_v6 main_v31 main_v32 main_v34 main_v35

def fn {F : FTy → Type} [FloatOps F] (main_arg0 : IVec S4096x2000 32) (main_arg1 : FVec F S4096x1 .f32) (main_arg2 : FVec F S4096x2000 .f32) (main_arg3 : FVec F S4096x2000 .f32) (main_arg4 : FVec F S4096x2000 .f32) : IVec S_ 1 :=
  let main_c : IVec S3x1 32 := fun i => lit0 (S3x1.rowMajor i)
  let main_c_0 : IVec S3x1 32 := fun i => lit1 (S3x1.rowMajor i)
  let main_v0 : IVec S24576000 32 := iotaInDim S24576000 32 0
  let main_v1 : IVec S1x24576000 32 := broadcastInDim S1x24576000 ![1] bcast_S24576000_S1x24576000_1 main_v0
  let main_v2 : IVec S3x24576000 32 := broadcastInDim S3x24576000 ![0, 1] bcast_S1x24576000_S3x24576000_0_1 main_v1
  let main_c_1 : IVec S_ 32 := constantI S_ 32 0#32
  let main_v3 : IVec S3x24576000 32 := broadcastInDim S3x24576000 ![] bcast_S_S3x24576000 main_c_1
  let main_v4 : IVec S3x1 32 := xori main_c main_c_0
  let main_c_2 : IVec S_ 32 := constantI S_ 32 466688986#32
  let main_v5 : IVec S3x1 32 := broadcastInDim S3x1 ![] bcast_S_S3x1 main_c_2
  let main_v6 : IVec S3x1 32 := xori main_v4 main_v5
  let main_v7 : IVec S3x24576000 32 := broadcastInDim S3x24576000 ![0, 1] bcast_S3x1_S3x24576000_0_1 main_c
  let main_v8 : IVec S3x24576000 32 := addi main_v3 main_v7
  let main_v9 : IVec S3x24576000 32 := broadcastInDim S3x24576000 ![0, 1] bcast_S3x1_S3x24576000_0_1 main_c_0
  let main_v10 : IVec S3x24576000 32 := addi main_v2 main_v9
  let main_v11 : IVec S3x24576000 32 := addi main_v8 main_v10
  let main_c_3 : IVec S_ 32 := constantI S_ 32 13#32
  let main_v12 : IVec S3x24576000 32 := broadcastInDim S3x24576000 ![] bcast_S_S3x24576000 main_c_3
  let main_v13 : IVec S3x24576000 32 := Host.shli main_v10 main_v12
  let main_c_4 : IVec S_ 32 := constantI S_ 32 19#32
  let main_v14 : IVec S3x24576000 32 := broadcastInDim S3x24576000 ![] bcast_S_S3x24576000 main_c_4
  let main_v15 : IVec S3x24576000 32 := Host.shrui main_v10 main_v14
  let main_v16 : IVec S3x24576000 32 := ori main_v13 main_v15
  let main_v17 : IVec S3x24576000 32 := xori main_v11 main_v16
  fn_part1 (F := F) main_arg2 main_arg3 main_arg4 main_c main_c_0 main_v6 main_v11 main_v17
-- ==== Kernel.lean ====
abbrev S4096x2000 : Shape := ⟨2, ![4096, 2000]⟩
abbrev S4096x1 : Shape := ⟨2, ![4096, 1]⟩
abbrev S_ : Shape := ⟨0, ![]⟩
abbrev S1 : Shape := ⟨1, ![1]⟩
abbrev S4096x3 : Shape := ⟨2, ![4096, 3]⟩
abbrev S4096x6 : Shape := ⟨2, ![4096, 6]⟩
abbrev S512x2000 : Shape := ⟨2, ![512, 2000]⟩
abbrev S512x1 : Shape := ⟨2, ![512, 1]⟩
abbrev S512x3 : Shape := ⟨2, ![512, 3]⟩
abbrev S512x6 : Shape := ⟨2, ![512, 6]⟩
abbrev S512 : Shape := ⟨1, ![512]⟩

abbrev nBuf : Space → Nat
  | .hbm => 11
  | .vmem => 20
  | .smem => 1
  | _ => 0

abbrev bufTy : (tb : Table) → Fin (tcTables nBuf tb) → BufTy
  | .hbm, ⟨0, _⟩ => ⟨S4096x2000, .i32⟩
  | .hbm, ⟨1, _⟩ => ⟨S4096x1, .f32⟩
  | .hbm, ⟨2, _⟩ => ⟨S4096x2000, .f32⟩
  | .hbm, ⟨3, _⟩ => ⟨S4096x2000, .f32⟩
  | .hbm, ⟨4, _⟩ => ⟨S4096x2000, .f32⟩
  | .hbm, ⟨5, _⟩ => ⟨S_, .i32⟩
  | .hbm, ⟨6, _⟩ => ⟨S4096x3, .i32⟩
  | .hbm, ⟨7, _⟩ => ⟨S4096x3, .i32⟩
  | .hbm, ⟨8, _⟩ => ⟨S4096x6, .i32⟩
  | .hbm, ⟨9, _⟩ => ⟨S4096x3, .f32⟩
  | .hbm, ⟨10, _⟩ => ⟨S4096x3, .f32⟩
  | .local _ .vmem, ⟨0, _⟩ => ⟨S512x2000, .i32⟩
  | .local _ .vmem, ⟨1, _⟩ => ⟨S512x2000, .i32⟩
  | .local _ .vmem, ⟨2, _⟩ => ⟨S512x1, .f32⟩
  | .local _ .vmem, ⟨3, _⟩ => ⟨S512x1, .f32⟩
  | .local _ .vmem, ⟨4, _⟩ => ⟨S512x2000, .f32⟩
  | .local _ .vmem, ⟨5, _⟩ => ⟨S512x2000, .f32⟩
  | .local _ .vmem, ⟨6, _⟩ => ⟨S512x2000, .f32⟩
  | .local _ .vmem, ⟨7, _⟩ => ⟨S512x2000, .f32⟩
  | .local _ .vmem, ⟨8, _⟩ => ⟨S512x2000, .f32⟩
  | .local _ .vmem, ⟨9, _⟩ => ⟨S512x2000, .f32⟩
  | .local _ .vmem, ⟨10, _⟩ => ⟨S512x3, .i32⟩
  | .local _ .vmem, ⟨11, _⟩ => ⟨S512x3, .i32⟩
  | .local _ .vmem, ⟨12, _⟩ => ⟨S512x3, .i32⟩
  | .local _ .vmem, ⟨13, _⟩ => ⟨S512x3, .i32⟩
  | .local _ .vmem, ⟨14, _⟩ => ⟨S512x6, .i32⟩
  | .local _ .vmem, ⟨15, _⟩ => ⟨S512x6, .i32⟩
  | .local _ .vmem, ⟨16, _⟩ => ⟨S512x3, .f32⟩
  | .local _ .vmem, ⟨17, _⟩ => ⟨S512x3, .f32⟩
  | .local _ .vmem, ⟨18, _⟩ => ⟨S512x3, .f32⟩
  | .local _ .vmem, ⟨19, _⟩ => ⟨S512x3, .f32⟩
  | .local _ .smem, ⟨0, _⟩ => ⟨S1, .i32⟩
  | _, _ => ⟨S4096x2000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let v1 : BitVec 32 := Scalar.addi v0 arg0
  let c0_i32 : BitVec 32 := 0#32
  let c0_i32_0 : BitVec 32 := 0#32
  ![v1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let v1 : BitVec 32 := Scalar.addi v0 arg0
  let c0_i32 : BitVec 32 := 0#32
  let c0_i32_0 : BitVec 32 := 0#32
  ![v1.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let v1 : BitVec 32 := Scalar.addi v0 arg0
  let c0_i32 : BitVec 32 := 0#32
  let c0_i32_0 : BitVec 32 := 0#32
  ![v1.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let v1 : BitVec 32 := Scalar.addi v0 arg0
  let c0_i32 : BitVec 32 := 0#32
  let c0_i32_0 : BitVec 32 := 0#32
  ![v1.toNat, c0_i32.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let v1 : BitVec 32 := Scalar.addi v0 arg0
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2000 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x3 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x6 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x3 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x3 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S4096x2000 : Shape := ⟨2, ![4096, 2000]⟩
abbrev S4096x1 : Shape := ⟨2, ![4096, 1]⟩
abbrev S3x1 : Shape := ⟨2, ![3, 1]⟩
abbrev S24576000 : Shape := ⟨1, ![24576000]⟩
abbrev S1x24576000 : Shape := ⟨2, ![1, 24576000]⟩
abbrev S3x24576000 : Shape := ⟨2, ![3, 24576000]⟩
abbrev S_ : Shape := ⟨0, ![]⟩
abbrev S3x4096x2000 : Shape := ⟨3, ![3, 4096, 2000]⟩
abbrev S1x4096x2000 : Shape := ⟨3, ![1, 4096, 2000]⟩
abbrev S3x4096 : Shape := ⟨2, ![3, 4096]⟩
abbrev S4096x3 : Shape := ⟨2, ![4096, 3]⟩
abbrev S2000 : Shape := ⟨1, ![2000]⟩
abbrev S1x1x2000 : Shape := ⟨3, ![1, 1, 2000]⟩
abbrev S4096x3x1 : Shape := ⟨3, ![4096, 3, 1]⟩
abbrev S4096x3x2000 : Shape := ⟨3, ![4096, 3, 2000]⟩
abbrev S4096x1x2000 : Shape := ⟨3, ![4096, 1, 2000]⟩
abbrev S4096 : Shape := ⟨1, ![4096]⟩
abbrev S1 : Shape := ⟨1, ![1]⟩
abbrev S1x1x1 : Shape := ⟨3, ![1, 1, 1]⟩
abbrev S4096x3x1x1 : Shape := ⟨4, ![4096, 3, 1, 1]⟩
abbrev S1x1x1x1 : Shape := ⟨4, ![1, 1, 1, 1]⟩
abbrev S4096x3x2 : Shape := ⟨3, ![4096, 3, 2]⟩
abbrev S4096x1x3 : Shape := ⟨3, ![4096, 1, 3]⟩
abbrev S4096x6 : Shape := ⟨2, ![4096, 6]⟩

abbrev nBuf : Space → Nat
  | .hbm => 511
  | .vmem => 0
  | .smem => 0
  | _ => 0

abbrev hbmTy0_0 (i : Nat) : BufTy := match i % 128 with
  | 0 => ⟨S4096x2000, .i32⟩
  | 1 => ⟨S4096x1, .f32⟩
  | 2 => ⟨S4096x2000, .f32⟩
  | 3 => ⟨S4096x2000, .f32⟩
  | 4 => ⟨S4096x2000, .f32⟩
  | 5 => ⟨S3x1, .i32⟩
  | 6 => ⟨S3x1, .i32⟩
  | 7 => ⟨S24576000, .i32⟩
  | 8 => ⟨S1x24576000, .i32⟩
  | 9 => ⟨S3x24576000, .i32⟩
  | 10 => ⟨S_, .i32⟩
  | 11 => ⟨S3x24576000, .i32⟩
  | 12 => ⟨S3x1, .i32⟩
  | 13 => ⟨S_, .i32⟩
  | 14 => ⟨S3x1, .i32⟩
  | 15 => ⟨S3x1, .i32⟩
  | 16 => ⟨S3x24576000, .i32⟩
  | 17 => ⟨S3x24576000, .i32⟩
  | 18 => ⟨S3x24576000, .i32⟩
  | 19 => ⟨S3x24576000, .i32⟩
  | 20 => ⟨S3x24576000, .i32⟩
  | 21 => ⟨S_, .i32⟩
  | 22 => ⟨S3x24576000, .i32⟩
  | 23 => ⟨S3x24576000, .i32⟩
  | 24 => ⟨S_, .i32⟩
  | 25 => ⟨S3x24576000, .i32⟩
  | 26 => ⟨S3x24576000, .i32⟩
  | 27 => ⟨S3x24576000, .i32⟩
  | 28 => ⟨S3x24576000, .i32⟩
  | 29 => ⟨S3x24576000, .i32⟩
  | 30 => ⟨S_, .i32⟩
  | 31 => ⟨S3x24576000, .i32⟩
  | 32 => ⟨S3x24576000, .i32⟩
  | 33 => ⟨S_, .i32⟩
  | 34 => ⟨S3x24576000, .i32⟩
  | 35 => ⟨S3x24576000, .i32⟩
  | 36 => ⟨S3x24576000, .i32⟩
  | 37 => ⟨S3x24576000, .i32⟩
  | 38 => ⟨S3x24576000, .i32⟩
  | 39 => ⟨S_, .i32⟩
  | 40 => ⟨S3x24576000, .i32⟩
  | 41 => ⟨S3x24576000, .i32⟩
  | 42 => ⟨S_, .i32⟩
  | 43 => ⟨S3x24576000, .i32⟩
  | 44 => ⟨S3x24576000, .i32⟩
  | 45 => ⟨S3x24576000, .i32⟩
  | 46 => ⟨S3x24576000, .i32⟩
  | 47 => ⟨S3x24576000, .i32⟩
  | 48 => ⟨S_, .i32⟩
  | 49 => ⟨S3x24576000, .i32⟩
  | 50 => ⟨S3x24576000, .i32⟩
  | 51 => ⟨S_, .i32⟩
  | 52 => ⟨S3x24576000, .i32⟩
  | 53 => ⟨S3x24576000, .i32⟩
  | 54 => ⟨S3x24576000, .i32⟩
  | 55 => ⟨S3x24576000, .i32⟩
  | 56 => ⟨S3x24576000, .i32⟩
  | 57 => ⟨S3x24576000, .i32⟩
  | 58 => ⟨S3x24576000, .i32⟩
  | 59 => ⟨S3x24576000, .i32⟩
  | 60 => ⟨S_, .i32⟩
  | 61 => ⟨S3x24576000, .i32⟩
  | 62 => ⟨S3x24576000, .i32⟩
  | 63 => ⟨S3x24576000, .i32⟩
  | 64 => ⟨S_, .i32⟩
  | 65 => ⟨S3x24576000, .i32⟩
  | 66 => ⟨S3x24576000, .i32⟩
  | 67 => ⟨S_, .i32⟩
  | 68 => ⟨S3x24576000, .i32⟩
  | 69 => ⟨S3x24576000, .i32⟩
  | 70 => ⟨S3x24576000, .i32⟩
  | 71 => ⟨S3x24576000, .i32⟩
  | 72 => ⟨S3x24576000, .i32⟩
  | 73 => ⟨S_, .i32⟩
  | 74 => ⟨S3x24576000, .i32⟩
  | 75 => ⟨S3x24576000, .i32⟩
  | 76 => ⟨S_, .i32⟩
  | 77 => ⟨S3x24576000, .i32⟩
  | 78 => ⟨S3x24576000, .i32⟩
  | 79 => ⟨S3x24576000, .i32⟩
  | 80 => ⟨S3x24576000, .i32⟩
  | 81 => ⟨S3x24576000, .i32⟩
  | 82 => ⟨S_, .i32⟩
  | 83 => ⟨S3x24576000, .i32⟩
  | 84 => ⟨S3x24576000, .i32⟩
  | 85 => ⟨S_, .i32⟩
  | 86 => ⟨S3x24576000, .i32⟩
  | 87 => ⟨S3x24576000, .i32⟩
  | 88 => ⟨S3x24576000, .i32⟩
  | 89 => ⟨S3x24576000, .i32⟩
  | 90 => ⟨S3x24576000, .i32⟩
  | 91 => ⟨S_, .i32⟩
  | 92 => ⟨S3x24576000, .i32⟩
  | 93 => ⟨S3x24576000, .i32⟩
  | 94 => ⟨S_, .i32⟩
  | 95 => ⟨S3x24576000, .i32⟩
  | 96 => ⟨S3x24576000, .i32⟩
  | 97 => ⟨S3x24576000, .i32⟩
  | 98 => ⟨S3x24576000, .i32⟩
  | 99 => ⟨S3x24576000, .i32⟩
  | 100 => ⟨S3x24576000, .i32⟩
  | 101 => ⟨S3x24576000, .i32⟩
  | 102 => ⟨S3x24576000, .i32⟩
  | 103 => ⟨S_, .i32⟩
  | 104 => ⟨S3x24576000, .i32⟩
  | 105 => ⟨S3x24576000, .i32⟩
  | 106 => ⟨S3x24576000, .i32⟩
  | 107 => ⟨S_, .i32⟩
  | 108 => ⟨S3x24576000, .i32⟩
  | 109 => ⟨S3x24576000, .i32⟩
  | 110 => ⟨S_, .i32⟩
  | 111 => ⟨S3x24576000, .i32⟩
  | 112 => ⟨S3x24576000, .i32⟩
  | 113 => ⟨S3x24576000, .i32⟩
  | 114 => ⟨S3x24576000, .i32⟩
  | 115 => ⟨S3x24576000, .i32⟩
  | 116 => ⟨S_, .i32⟩
  | 117 => ⟨S3x24576000, .i32⟩
  | 118 => ⟨S3x24576000, .i32⟩
  | 119 => ⟨S_, .i32⟩
  | 120 => ⟨S3x24576000, .i32⟩
  | 121 => ⟨S3x24576000, .i32⟩
  | 122 => ⟨S3x24576000, .i32⟩
  | 123 => ⟨S3x24576000, .i32⟩
  | 124 => ⟨S3x24576000, .i32⟩
  | 125 => ⟨S_, .i32⟩
  | 126 => ⟨S3x24576000, .i32⟩
  | 127 => ⟨S3x24576000, .i32⟩
  | _ => ⟨S4096x2000, .i32⟩

abbrev hbmTy0_1 (i : Nat) : BufTy := match i % 128 with
  | 0 => ⟨S_, .i32⟩
  | 1 => ⟨S3x24576000, .i32⟩
  | 2 => ⟨S3x24576000, .i32⟩
  | 3 => ⟨S3x24576000, .i32⟩
  | 4 => ⟨S3x24576000, .i32⟩
  | 5 => ⟨S3x24576000, .i32⟩
  | 6 => ⟨S_, .i32⟩
  | 7 => ⟨S3x24576000, .i32⟩
  | 8 => ⟨S3x24576000, .i32⟩
  | 9 => ⟨S_, .i32⟩
  | 10 => ⟨S3x24576000, .i32⟩
  | 11 => ⟨S3x24576000, .i32⟩
  | 12 => ⟨S3x24576000, .i32⟩
  | 13 => ⟨S3x24576000, .i32⟩
  | 14 => ⟨S3x24576000, .i32⟩
  | 15 => ⟨S3x24576000, .i32⟩
  | 16 => ⟨S3x24576000, .i32⟩
  | 17 => ⟨S3x24576000, .i32⟩
  | 18 => ⟨S_, .i32⟩
  | 19 => ⟨S3x24576000, .i32⟩
  | 20 => ⟨S3x24576000, .i32⟩
  | 21 => ⟨S3x24576000, .i32⟩
  | 22 => ⟨S_, .i32⟩
  | 23 => ⟨S3x24576000, .i32⟩
  | 24 => ⟨S3x24576000, .i32⟩
  | 25 => ⟨S_, .i32⟩
  | 26 => ⟨S3x24576000, .i32⟩
  | 27 => ⟨S3x24576000, .i32⟩
  | 28 => ⟨S3x24576000, .i32⟩
  | 29 => ⟨S3x24576000, .i32⟩
  | 30 => ⟨S3x24576000, .i32⟩
  | 31 => ⟨S_, .i32⟩
  | 32 => ⟨S3x24576000, .i32⟩
  | 33 => ⟨S3x24576000, .i32⟩
  | 34 => ⟨S_, .i32⟩
  | 35 => ⟨S3x24576000, .i32⟩
  | 36 => ⟨S3x24576000, .i32⟩
  | 37 => ⟨S3x24576000, .i32⟩
  | 38 => ⟨S3x24576000, .i32⟩
  | 39 => ⟨S3x24576000, .i32⟩
  | 40 => ⟨S_, .i32⟩
  | 41 => ⟨S3x24576000, .i32⟩
  | 42 => ⟨S3x24576000, .i32⟩
  | 43 => ⟨S_, .i32⟩
  | 44 => ⟨S3x24576000, .i32⟩
  | 45 => ⟨S3x24576000, .i32⟩
  | 46 => ⟨S3x24576000, .i32⟩
  | 47 => ⟨S3x24576000, .i32⟩
  | 48 => ⟨S3x24576000, .i32⟩
  | 49 => ⟨S_, .i32⟩
  | 50 => ⟨S3x24576000, .i32⟩
  | 51 => ⟨S3x24576000, .i32⟩
  | 52 => ⟨S_, .i32⟩
  | 53 => ⟨S3x24576000, .i32⟩
  | 54 => ⟨S3x24576000, .i32⟩
  | 55 => ⟨S3x24576000, .i32⟩
  | 56 => ⟨S3x24576000, .i32⟩
  | 57 => ⟨S3x24576000, .i32⟩
  | 58 => ⟨S3x24576000, .i32⟩
  | 59 => ⟨S3x24576000, .i32⟩
  | 60 => ⟨S3x24576000, .i32⟩
  | 61 => ⟨S_, .i32⟩
  | 62 => ⟨S3x24576000, .i32⟩
  | 63 => ⟨S3x24576000, .i32⟩
  | 64 => ⟨S3x24576000, .i32⟩
  | 65 => ⟨S_, .i32⟩
  | 66 => ⟨S3x24576000, .i32⟩
  | 67 => ⟨S3x24576000, .i32⟩
  | 68 => ⟨S_, .i32⟩
  | 69 => ⟨S3x24576000, .i32⟩
  | 70 => ⟨S3x24576000, .i32⟩
  | 71 => ⟨S3x24576000, .i32⟩
  | 72 => ⟨S3x24576000, .i32⟩
  | 73 => ⟨S3x24576000, .i32⟩
  | 74 => ⟨S_, .i32⟩
  | 75 => ⟨S3x24576000, .i32⟩
  | 76 => ⟨S3x24576000, .i32⟩
  | 77 => ⟨S_, .i32⟩
  | 78 => ⟨S3x24576000, .i32⟩
  | 79 => ⟨S3x24576000, .i32⟩
  | 80 => ⟨S3x24576000, .i32⟩
  | 81 => ⟨S3x24576000, .i32⟩
  | 82 => ⟨S3x24576000, .i32⟩
  | 83 => ⟨S_, .i32⟩
  | 84 => ⟨S3x24576000, .i32⟩
  | 85 => ⟨S3x24576000, .i32⟩
  | 86 => ⟨S_, .i32⟩
  | 87 => ⟨S3x24576000, .i32⟩
  | 88 => ⟨S3x24576000, .i32⟩
  | 89 => ⟨S3x24576000, .i32⟩
  | 90 => ⟨S3x24576000, .i32⟩
  | 91 => ⟨S3x24576000, .i32⟩
  | 92 => ⟨S_, .i32⟩
  | 93 => ⟨S3x24576000, .i32⟩
  | 94 => ⟨S3x24576000, .i32⟩
  | 95 => ⟨S_, .i32⟩
  | 96 => ⟨S3x24576000, .i32⟩
  | 97 => ⟨S3x24576000, .i32⟩
  | 98 => ⟨S3x24576000, .i32⟩
  | 99 => ⟨S3x24576000, .i32⟩
  | 100 => ⟨S3x24576000, .i32⟩
  | 101 => ⟨S3x24576000, .i32⟩
  | 102 => ⟨S3x24576000, .i32⟩
  | 103 => ⟨S3x24576000, .i32⟩
  | 104 => ⟨S_, .i32⟩
  | 105 => ⟨S3x24576000, .i32⟩
  | 106 => ⟨S3x24576000, .i32⟩
  | 107 => ⟨S3x24576000, .i32⟩
  | 108 => ⟨S_, .i32⟩
  | 109 => ⟨S3x24576000, .i32⟩
  | 110 => ⟨S3x24576000, .i32⟩
  | 111 => ⟨S_, .i32⟩
  | 112 => ⟨S3x24576000, .i32⟩
  | 113 => ⟨S3x24576000, .i32⟩
  | 114 => ⟨S3x24576000, .f32⟩
  | 115 => ⟨S_, .f32⟩
  | 116 => ⟨S3x24576000, .f32⟩
  | 117 => ⟨S3x24576000, .f32⟩
  | 118 => ⟨S_, .f32⟩
  | 119 => ⟨S3x24576000, .f32⟩
  | 120 => ⟨S3x24576000, .f32⟩
  | 121 => ⟨S_, .f32⟩
  | 122 => ⟨S3x24576000, .f32⟩
  | 123 => ⟨S3x24576000, .f32⟩
  | 124 => ⟨S_, .f32⟩
  | 125 => ⟨S3x24576000, .f32⟩
  | 126 => ⟨S3x24576000, .f32⟩
  | 127 => ⟨S3x24576000, .f32⟩
  | _ => ⟨S4096x2000, .i32⟩

abbrev hbmTy0_2 (i : Nat) : BufTy := match i % 128 with
  | 0 => ⟨S3x24576000, .f32⟩
  | 1 => ⟨S3x24576000, .f32⟩
  | 2 => ⟨S3x24576000, .f32⟩
  | 3 => ⟨S1x24576000, .f32⟩
  | 4 => ⟨S24576000, .f32⟩
  | 5 => ⟨S3x4096x2000, .f32⟩
  | 6 => ⟨S1x4096x2000, .f32⟩
  | 7 => ⟨S3x4096x2000, .f32⟩
  | 8 => ⟨S3x4096x2000, .f32⟩
  | 9 => ⟨S_, .f32⟩
  | 10 => ⟨S_, .f32⟩
  | 11 => ⟨S4096x2000, .f32⟩
  | 12 => ⟨S4096x2000, .f32⟩
  | 13 => ⟨S4096x2000, .f32⟩
  | 14 => ⟨S1x24576000, .f32⟩
  | 15 => ⟨S24576000, .f32⟩
  | 16 => ⟨S3x4096x2000, .f32⟩
  | 17 => ⟨S1x4096x2000, .f32⟩
  | 18 => ⟨S3x4096x2000, .f32⟩
  | 19 => ⟨S3x4096x2000, .f32⟩
  | 20 => ⟨S3x4096x2000, .i32⟩
  | 21 => ⟨S_, .f32⟩
  | 22 => ⟨S_, .i32⟩
  | 23 => ⟨S3x4096, .f32⟩
  | 24 => ⟨S3x4096, .i32⟩
  | 25 => ⟨S4096x3, .i32⟩
  | 26 => ⟨S2000, .i32⟩
  | 27 => ⟨S1x1x2000, .i32⟩
  | 28 => ⟨S4096x3x1, .i32⟩
  | 29 => ⟨S4096x3x2000, .i32⟩
  | 30 => ⟨S4096x3x2000, .i32⟩
  | 31 => ⟨S4096x3x2000, .i1⟩
  | 32 => ⟨S4096x1x2000, .f32⟩
  | 33 => ⟨S4096x3x2000, .f32⟩
  | 34 => ⟨S_, .f32⟩
  | 35 => ⟨S_, .f32⟩
  | 36 => ⟨S4096x3x2000, .f32⟩
  | 37 => ⟨S4096x3x2000, .f32⟩
  | 38 => ⟨S_, .f32⟩
  | 39 => ⟨S4096x3, .f32⟩
  | 40 => ⟨S4096x3x1, .f32⟩
  | 41 => ⟨S4096x3x2000, .f32⟩
  | 42 => ⟨S4096x3x2000, .f32⟩
  | 43 => ⟨S4096x3x2000, .f32⟩
  | 44 => ⟨S1x24576000, .f32⟩
  | 45 => ⟨S24576000, .f32⟩
  | 46 => ⟨S4096x3x2000, .f32⟩
  | 47 => ⟨S4096x3x2000, .f32⟩
  | 48 => ⟨S_, .f32⟩
  | 49 => ⟨S4096, .f32⟩
  | 50 => ⟨S_, .f32⟩
  | 51 => ⟨S4096, .f32⟩
  | 52 => ⟨S4096, .f32⟩
  | 53 => ⟨S4096x1, .f32⟩
  | 54 => ⟨S4096x2000, .f32⟩
  | 55 => ⟨S4096x2000, .f32⟩
  | 56 => ⟨S4096x2000, .f32⟩
  | 57 => ⟨S_, .f32⟩
  | 58 => ⟨S4096, .f32⟩
  | 59 => ⟨S4096x1, .f32⟩
  | 60 => ⟨S4096x1, .f32⟩
  | 61 => ⟨S4096x2000, .f32⟩
  | 62 => ⟨S4096x2000, .f32⟩
  | 63 => ⟨S3x4096x2000, .i32⟩
  | 64 => ⟨S_, .f32⟩
  | 65 => ⟨S_, .i32⟩
  | 66 => ⟨S3x4096, .f32⟩
  | 67 => ⟨S3x4096, .i32⟩
  | 68 => ⟨S4096x3, .i32⟩
  | 69 => ⟨S_, .i32⟩
  | 70 => ⟨S4096x3, .i32⟩
  | 71 => ⟨S4096x3, .i1⟩
  | 72 => ⟨S_, .i32⟩
  | 73 => ⟨S4096x3, .i32⟩
  | 74 => ⟨S4096x3, .i32⟩
  | 75 => ⟨S4096x3, .i32⟩
  | 76 => ⟨S4096x3x1, .i32⟩
  | 77 => ⟨S1, .i32⟩
  | 78 => ⟨S_, .i32⟩
  | 79 => ⟨S4096x3x1, .i32⟩
  | 80 => ⟨S4096x3x1, .i1⟩
  | 81 => ⟨S1x1x1, .i32⟩
  | 82 => ⟨S4096x3x1, .i32⟩
  | 83 => ⟨S4096x3x1, .i1⟩
  | 84 => ⟨S4096x3x1, .i1⟩
  | 85 => ⟨S_, .i1⟩
  | 86 => ⟨S4096x3, .i1⟩
  | 87 => ⟨S4096x3, .f32⟩
  | 88 => ⟨S_, .f32⟩
  | 89 => ⟨S4096x3, .f32⟩
  | 90 => ⟨S4096x3, .f32⟩
  | 91 => ⟨S_, .f32⟩
  | 92 => ⟨S4096, .f32⟩
  | 93 => ⟨S_, .f32⟩
  | 94 => ⟨S4096, .f32⟩
  | 95 => ⟨S4096, .f32⟩
  | 96 => ⟨S4096x1, .f32⟩
  | 97 => ⟨S4096x2000, .f32⟩
  | 98 => ⟨S4096x2000, .f32⟩
  | 99 => ⟨S4096x2000, .f32⟩
  | 100 => ⟨S_, .f32⟩
  | 101 => ⟨S4096, .f32⟩
  | 102 => ⟨S4096x1, .f32⟩
  | 103 => ⟨S4096x1, .f32⟩
  | 104 => ⟨S4096x2000, .f32⟩
  | 105 => ⟨S4096x2000, .f32⟩
  | 106 => ⟨S3x4096x2000, .i32⟩
  | 107 => ⟨S_, .f32⟩
  | 108 => ⟨S_, .i32⟩
  | 109 => ⟨S3x4096, .f32⟩
  | 110 => ⟨S3x4096, .i32⟩
  | 111 => ⟨S4096x3, .i32⟩
  | 112 => ⟨S_, .i32⟩
  | 113 => ⟨S4096x3, .i32⟩
  | 114 => ⟨S4096x3, .i1⟩
  | 115 => ⟨S_, .i32⟩
  | 116 => ⟨S4096x3, .i32⟩
  | 117 => ⟨S4096x3, .i32⟩
  | 118 => ⟨S4096x3, .i32⟩
  | 119 => ⟨S4096x3x1, .i32⟩
  | 120 => ⟨S1, .i32⟩
  | 121 => ⟨S_, .i32⟩
  | 122 => ⟨S4096x3x1, .i32⟩
  | 123 => ⟨S4096x3x1, .i1⟩
  | 124 => ⟨S1x1x1, .i32⟩
  | 125 => ⟨S4096x3x1, .i32⟩
  | 126 => ⟨S4096x3x1, .i1⟩
  | 127 => ⟨S4096x3x1, .i1⟩
  | _ => ⟨S4096x2000, .i32⟩

abbrev hbmTy0_3 (i : Nat) : BufTy := match i % 128 with
  | 0 => ⟨S_, .i1⟩
  | 1 => ⟨S4096x3, .i1⟩
  | 2 => ⟨S4096x3, .f32⟩
  | 3 => ⟨S_, .f32⟩
  | 4 => ⟨S4096x3, .f32⟩
  | 5 => ⟨S4096x3, .f32⟩
  | 6 => ⟨S4096x3x2000, .i32⟩
  | 7 => ⟨S_, .f32⟩
  | 8 => ⟨S_, .i32⟩
  | 9 => ⟨S4096x3, .f32⟩
  | 10 => ⟨S4096x3, .i32⟩
  | 11 => ⟨S4096x3x1, .i32⟩
  | 12 => ⟨S_, .i32⟩
  | 13 => ⟨S4096x3x1, .i32⟩
  | 14 => ⟨S4096x3x1, .i1⟩
  | 15 => ⟨S_, .i32⟩
  | 16 => ⟨S4096x3x1, .i32⟩
  | 17 => ⟨S4096x3x1, .i32⟩
  | 18 => ⟨S4096x3x1, .i32⟩
  | 19 => ⟨S4096x3x1x1, .i32⟩
  | 20 => ⟨S1, .i32⟩
  | 21 => ⟨S_, .i32⟩
  | 22 => ⟨S4096x3x1x1, .i32⟩
  | 23 => ⟨S4096x3x1x1, .i1⟩
  | 24 => ⟨S1x1x1x1, .i32⟩
  | 25 => ⟨S4096x3x1x1, .i32⟩
  | 26 => ⟨S4096x3x1x1, .i1⟩
  | 27 => ⟨S4096x3x1x1, .i1⟩
  | 28 => ⟨S_, .i1⟩
  | 29 => ⟨S4096x3x1, .i1⟩
  | 30 => ⟨S4096x3x1, .f32⟩
  | 31 => ⟨S_, .f32⟩
  | 32 => ⟨S4096x3x1, .f32⟩
  | 33 => ⟨S4096x3x1, .f32⟩
  | 34 => ⟨S4096x3, .f32⟩
  | 35 => ⟨S4096x1x2000, .i32⟩
  | 36 => ⟨S4096x3x2000, .i32⟩
  | 37 => ⟨S4096x3x1, .i32⟩
  | 38 => ⟨S4096x3x2000, .i32⟩
  | 39 => ⟨S4096x3x2000, .i1⟩
  | 40 => ⟨S4096x3x2000, .i32⟩
  | 41 => ⟨S4096x3x2000, .i32⟩
  | 42 => ⟨S_, .i32⟩
  | 43 => ⟨S_, .i32⟩
  | 44 => ⟨S4096x3, .i32⟩
  | 45 => ⟨S4096x3, .i32⟩
  | 46 => ⟨S_, .i32⟩
  | 47 => ⟨S4096x3, .i32⟩
  | 48 => ⟨S4096x3, .i32⟩
  | 49 => ⟨S_, .i32⟩
  | 50 => ⟨S_, .i32⟩
  | 51 => ⟨S_, .i32⟩
  | 52 => ⟨S_, .i1⟩
  | 53 => ⟨S_, .i32⟩
  | 54 => ⟨S_, .i32⟩
  | 55 => ⟨S4096x3, .i32⟩
  | 56 => ⟨S4096x3, .i32⟩
  | 57 => ⟨S_, .i32⟩
  | 58 => ⟨S4096x3, .i32⟩
  | 59 => ⟨S4096x3, .i1⟩
  | 60 => ⟨S_, .i32⟩
  | 61 => ⟨S4096x3, .i32⟩
  | 62 => ⟨S4096x3, .i1⟩
  | 63 => ⟨S_, .i32⟩
  | 64 => ⟨S_, .i1⟩
  | 65 => ⟨S4096x3, .i1⟩
  | 66 => ⟨S4096x3, .i1⟩
  | 67 => ⟨S4096x3, .i1⟩
  | 68 => ⟨S4096x3, .i32⟩
  | 69 => ⟨S4096x3, .i32⟩
  | 70 => ⟨S4096x3, .i32⟩
  | 71 => ⟨S4096x3x1, .i32⟩
  | 72 => ⟨S_, .i32⟩
  | 73 => ⟨S4096x3x1, .i32⟩
  | 74 => ⟨S4096x3x1, .i1⟩
  | 75 => ⟨S_, .i32⟩
  | 76 => ⟨S4096x3x1, .i32⟩
  | 77 => ⟨S4096x3x1, .i32⟩
  | 78 => ⟨S4096x3x1, .i32⟩
  | 79 => ⟨S4096x3x1x1, .i32⟩
  | 80 => ⟨S1, .i32⟩
  | 81 => ⟨S_, .i32⟩
  | 82 => ⟨S4096x3x1x1, .i32⟩
  | 83 => ⟨S4096x3x1x1, .i1⟩
  | 84 => ⟨S1x1x1x1, .i32⟩
  | 85 => ⟨S4096x3x1x1, .i32⟩
  | 86 => ⟨S4096x3x1x1, .i1⟩
  | 87 => ⟨S4096x3x1x1, .i1⟩
  | 88 => ⟨S_, .i1⟩
  | 89 => ⟨S4096x3x1, .i1⟩
  | 90 => ⟨S4096x3x1, .i32⟩
  | 91 => ⟨S_, .i32⟩
  | 92 => ⟨S4096x3x1, .i32⟩
  | 93 => ⟨S4096x3x1, .i32⟩
  | 94 => ⟨S4096x3, .i32⟩
  | 95 => ⟨S4096x3x1, .i32⟩
  | 96 => ⟨S_, .i32⟩
  | 97 => ⟨S4096x3x1, .i32⟩
  | 98 => ⟨S4096x3x1, .i1⟩
  | 99 => ⟨S_, .i32⟩
  | 100 => ⟨S4096x3x1, .i32⟩
  | 101 => ⟨S4096x3x1, .i32⟩
  | 102 => ⟨S4096x3x1, .i32⟩
  | 103 => ⟨S4096x3x1x1, .i32⟩
  | 104 => ⟨S1, .i32⟩
  | 105 => ⟨S_, .i32⟩
  | 106 => ⟨S4096x3x1x1, .i32⟩
  | 107 => ⟨S4096x3x1x1, .i1⟩
  | 108 => ⟨S1x1x1x1, .i32⟩
  | 109 => ⟨S4096x3x1x1, .i32⟩
  | 110 => ⟨S4096x3x1x1, .i1⟩
  | 111 => ⟨S4096x3x1x1, .i1⟩
  | 112 => ⟨S_, .i1⟩
  | 113 => ⟨S4096x3x1, .i1⟩
  | 114 => ⟨S4096x3x1, .i32⟩
  | 115 => ⟨S_, .i32⟩
  | 116 => ⟨S4096x3x1, .i32⟩
  | 117 => ⟨S4096x3x1, .i32⟩
  | 118 => ⟨S4096x3, .i32⟩
  | 119 => ⟨S4096x3x1, .i32⟩
  | 120 => ⟨S4096x3x1, .i32⟩
  | 121 => ⟨S4096x3x2, .i32⟩
  | 122 => ⟨S4096x3, .f32⟩
  | 123 => ⟨S4096x3, .f32⟩
  | 124 => ⟨S4096x1x3, .f32⟩
  | 125 => ⟨S4096x3, .f32⟩
  | 126 => ⟨S4096x6, .i32⟩
  | _ => ⟨S4096x2000, .i32⟩

abbrev hbmTy (i : Nat) : BufTy := match i / 128 with
  | 0 => hbmTy0_0 i
  | 1 => hbmTy0_1 i
  | 2 => hbmTy0_2 i
  | 3 => hbmTy0_3 i
  | _ => ⟨S4096x2000, .i32⟩

abbrev bufTy : (tb : Table) → Fin (tcTables nBuf tb) → BufTy
  | .hbm, ⟨i, _⟩ => hbmTy i
  | _, _ => ⟨S4096x2000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_1 : Ref sig .tc := ⟨.hbm, 10, rfl⟩
abbrev main_v3 : Ref sig .tc := ⟨.hbm, 11, rfl⟩
abbrev main_v4 : Ref sig .tc := ⟨.hbm, 12, rfl⟩
abbrev main_c_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_3 : Ref sig .tc := ⟨.hbm, 21, rfl⟩
abbrev main_v12 : Ref sig .tc := ⟨.hbm, 22, rfl⟩
abbrev main_v13 : Ref sig .tc := ⟨.hbm, 23, rfl⟩
abbrev main_c_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_5 : Ref sig .tc := ⟨.hbm, 30, rfl⟩
abbrev main_v19 : Ref sig .tc := ⟨.hbm, 31, rfl⟩
abbrev main_v20 : Ref sig .tc := ⟨.hbm, 32, rfl⟩
abbrev main_c_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_7 : Ref sig .tc := ⟨.hbm, 39, rfl⟩
abbrev main_v26 : Ref sig .tc := ⟨.hbm, 40, rfl⟩
abbrev main_v27 : Ref sig .tc := ⟨.hbm, 41, rfl⟩
abbrev main_c_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_9 : Ref sig .tc := ⟨.hbm, 48, rfl⟩
abbrev main_v33 : Ref sig .tc := ⟨.hbm, 49, rfl⟩
abbrev main_v34 : Ref sig .tc := ⟨.hbm, 50, rfl⟩
abbrev main_c_10 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_11 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_12 : Ref sig .tc := ⟨.hbm, 64, rfl⟩
abbrev main_v46 : Ref sig .tc := ⟨.hbm, 65, rfl⟩
abbrev main_v47 : Ref sig .tc := ⟨.hbm, 66, rfl⟩
abbrev main_c_13 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c_14 : Ref sig .tc := ⟨.hbm, 73, rfl⟩
abbrev main_v53 : Ref sig .tc := ⟨.hbm, 74, rfl⟩
abbrev main_v54 : Ref sig .tc := ⟨.hbm, 75, rfl⟩
abbrev main_c_15 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_16 : Ref sig .tc := ⟨.hbm, 82, rfl⟩
abbrev main_v60 : Ref sig .tc := ⟨.hbm, 83, rfl⟩
abbrev main_v61 : Ref sig .tc := ⟨.hbm, 84, rfl⟩
abbrev main_c_17 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_c_18 : Ref sig .tc := ⟨.hbm, 91, rfl⟩
abbrev main_v67 : Ref sig .tc := ⟨.hbm, 92, rfl⟩
abbrev main_v68 : Ref sig .tc := ⟨.hbm, 93, rfl⟩
abbrev main_c_19 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_c_20 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_c_21 : Ref sig .tc := ⟨.hbm, 107, rfl⟩
abbrev main_v80 : Ref sig .tc := ⟨.hbm, 108, rfl⟩
abbrev main_v81 : Ref sig .tc := ⟨.hbm, 109, rfl⟩
abbrev main_c_22 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_c_23 : Ref sig .tc := ⟨.hbm, 116, rfl⟩
abbrev main_v87 : Ref sig .tc := ⟨.hbm, 117, rfl⟩
abbrev main_v88 : Ref sig .tc := ⟨.hbm, 118, rfl⟩
abbrev main_c_24 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_c_25 : Ref sig .tc := ⟨.hbm, 125, rfl⟩
abbrev main_v94 : Ref sig .tc := ⟨.hbm, 126, rfl⟩
abbrev main_v95 : Ref sig .tc := ⟨.hbm, 127, rfl⟩
abbrev main_c_26 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_c_27 : Ref sig .tc := ⟨.hbm, 134, rfl⟩
abbrev main_v101 : Ref sig .tc := ⟨.hbm, 135, rfl⟩
abbrev main_v102 : Ref sig .tc := ⟨.hbm, 136, rfl⟩
abbrev main_c_28 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_c_29 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_c_30 : Ref sig .tc := ⟨.hbm, 150, rfl⟩
abbrev main_v114 : Ref sig .tc := ⟨.hbm, 151, rfl⟩
abbrev main_v115 : Ref sig .tc := ⟨.hbm, 152, rfl⟩
abbrev main_c_31 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_c_32 : Ref sig .tc := ⟨.hbm, 159, rfl⟩
abbrev main_v121 : Ref sig .tc := ⟨.hbm, 160, rfl⟩
abbrev main_v122 : Ref sig .tc := ⟨.hbm, 161, rfl⟩
abbrev main_c_33 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_c_34 : Ref sig .tc := ⟨.hbm, 168, rfl⟩
abbrev main_v128 : Ref sig .tc := ⟨.hbm, 169, rfl⟩
abbrev main_v129 : Ref sig .tc := ⟨.hbm, 170, rfl⟩
abbrev main_c_35 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_c_36 : Ref sig .tc := ⟨.hbm, 177, rfl⟩
abbrev main_v135 : Ref sig .tc := ⟨.hbm, 178, rfl⟩
abbrev main_v136 : Ref sig .tc := ⟨.hbm, 179, rfl⟩
abbrev main_c_37 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_c_38 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_c_39 : Ref sig .tc := ⟨.hbm, 193, rfl⟩
abbrev main_v148 : Ref sig .tc := ⟨.hbm, 194, rfl⟩
abbrev main_v149 : Ref sig .tc := ⟨.hbm, 195, rfl⟩
abbrev main_c_40 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_c_41 : Ref sig .tc := ⟨.hbm, 202, rfl⟩
abbrev main_v155 : Ref sig .tc := ⟨.hbm, 203, rfl⟩
abbrev main_v156 : Ref sig .tc := ⟨.hbm, 204, rfl⟩
abbrev main_c_42 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_c_43 : Ref sig .tc := ⟨.hbm, 211, rfl⟩
abbrev main_v162 : Ref sig .tc := ⟨.hbm, 212, rfl⟩
abbrev main_v163 : Ref sig .tc := ⟨.hbm, 213, rfl⟩
abbrev main_c_44 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_c_45 : Ref sig .tc := ⟨.hbm, 220, rfl⟩
abbrev main_v169 : Ref sig .tc := ⟨.hbm, 221, rfl⟩
abbrev main_v170 : Ref sig .tc := ⟨.hbm, 222, rfl⟩
abbrev main_c_46 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_c_47 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_c_48 : Ref sig .tc := ⟨.hbm, 236, rfl⟩
abbrev main_v182 : Ref sig .tc := ⟨.hbm, 237, rfl⟩
abbrev main_v183 : Ref sig .tc := ⟨.hbm, 238, rfl⟩
abbrev main_c_49 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_cst : Ref sig .tc := ⟨.hbm, 243, rfl⟩
abbrev main_v187 : Ref sig .tc := ⟨.hbm, 244, rfl⟩
abbrev main_v188 : Ref sig .tc := ⟨.hbm, 245, rfl⟩
abbrev main_cst_50 : Ref sig .tc := ⟨.hbm, 246, rfl⟩
abbrev main_v189 : Ref sig .tc := ⟨.hbm, 247, rfl⟩
abbrev main_v190 : Ref sig .tc := ⟨.hbm, 248, rfl⟩
abbrev main_cst_51 : Ref sig .tc := ⟨.hbm, 249, rfl⟩
abbrev main_v191 : Ref sig .tc := ⟨.hbm, 250, rfl⟩
abbrev main_v192 : Ref sig .tc := ⟨.hbm, 251, rfl⟩
abbrev main_cst_52 : Ref sig .tc := ⟨.hbm, 252, rfl⟩
abbrev main_v193 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩
abbrev main_v197 : Ref sig .tc := ⟨.hbm, 257, rfl⟩
abbrev main_v198 : Ref sig .tc := ⟨.hbm, 258, rfl⟩
abbrev main_v199 : Ref sig .tc := ⟨.hbm, 259, rfl⟩
abbrev main_v200 : Ref sig .tc := ⟨.hbm, 260, rfl⟩
abbrev main_v201 : Ref sig .tc := ⟨.hbm, 261, rfl⟩
abbrev main_v202 : Ref sig .tc := ⟨.hbm, 262, rfl⟩
abbrev main_v203 : Ref sig .tc := ⟨.hbm, 263, rfl⟩
abbrev main_v204 : Ref sig .tc := ⟨.hbm, 264, rfl⟩
abbrev main_cst_53 : Ref sig .tc := ⟨.hbm, 265, rfl⟩
abbrev main_call0_v0 : Ref sig .tc := ⟨.hbm, 266, rfl⟩
abbrev main_call0_v1 : Ref sig .tc := ⟨.hbm, 267, rfl⟩
abbrev main_v205 : Ref sig .tc := ⟨.hbm, 268, rfl⟩
abbrev main_v206 : Ref sig .tc := ⟨.hbm, 269, rfl⟩
abbrev main_v207 : Ref sig .tc := ⟨.hbm, 270, rfl⟩
abbrev main_v208 : Ref sig .tc := ⟨.hbm, 271, rfl⟩
abbrev main_v209 : Ref sig .tc := ⟨.hbm, 272, rfl⟩
abbrev main_v210 : Ref sig .tc := ⟨.hbm, 273, rfl⟩
abbrev main_v211 : Ref sig .tc := ⟨.hbm, 274, rfl⟩
abbrev main_v212 : Ref sig .tc := ⟨.hbm, 275, rfl⟩
abbrev main_call1_v0 : Ref sig .tc := ⟨.hbm, 276, rfl⟩
abbrev main_call1_cst : Ref sig .tc := ⟨.hbm, 277, rfl⟩
abbrev main_call1_c : Ref sig .tc := ⟨.hbm, 278, rfl⟩
abbrev main_call1_v1_0 : Ref sig .tc := ⟨.hbm, 279, rfl⟩
abbrev main_v213 : Ref sig .tc := ⟨.hbm, 280, rfl⟩
abbrev main_v214 : Ref sig .tc := ⟨.hbm, 281, rfl⟩
abbrev main_v215 : Ref sig .tc := ⟨.hbm, 282, rfl⟩
abbrev main_v216 : Ref sig .tc := ⟨.hbm, 283, rfl⟩
abbrev main_v217 : Ref sig .tc := ⟨.hbm, 284, rfl⟩
abbrev main_v218 : Ref sig .tc := ⟨.hbm, 285, rfl⟩
abbrev main_v219 : Ref sig .tc := ⟨.hbm, 286, rfl⟩
abbrev main_v220 : Ref sig .tc := ⟨.hbm, 287, rfl⟩
abbrev main_v221 : Ref sig .tc := ⟨.hbm, 288, rfl⟩
abbrev main_v222 : Ref sig .tc := ⟨.hbm, 289, rfl⟩
abbrev main_cst_54 : Ref sig .tc := ⟨.hbm, 290, rfl⟩
abbrev main_call2_v0 : Ref sig .tc := ⟨.hbm, 291, rfl⟩
abbrev main_call2_v1 : Ref sig .tc := ⟨.hbm, 292, rfl⟩
abbrev main_v223 : Ref sig .tc := ⟨.hbm, 293, rfl⟩
abbrev main_cst_55 : Ref sig .tc := ⟨.hbm, 294, rfl⟩
abbrev main_v224 : Ref sig .tc := ⟨.hbm, 295, rfl⟩
abbrev main_v225 : Ref sig .tc := ⟨.hbm, 296, rfl⟩
abbrev main_v226 : Ref sig .tc := ⟨.hbm, 297, rfl⟩
abbrev main_v227 : Ref sig .tc := ⟨.hbm, 298, rfl⟩
abbrev main_v228 : Ref sig .tc := ⟨.hbm, 299, rfl⟩
abbrev main_v229 : Ref sig .tc := ⟨.hbm, 300, rfl⟩
abbrev main_v230 : Ref sig .tc := ⟨.hbm, 301, rfl⟩
abbrev main_v231 : Ref sig .tc := ⟨.hbm, 302, rfl⟩
abbrev main_v232 : Ref sig .tc := ⟨.hbm, 303, rfl⟩
abbrev main_call3_cst : Ref sig .tc := ⟨.hbm, 304, rfl⟩
abbrev main_call3_v0 : Ref sig .tc := ⟨.hbm, 305, rfl⟩
abbrev main_call3_cst_0 : Ref sig .tc := ⟨.hbm, 306, rfl⟩
abbrev main_call3_v1 : Ref sig .tc := ⟨.hbm, 307, rfl⟩
abbrev main_call3_v2 : Ref sig .tc := ⟨.hbm, 308, rfl⟩
abbrev main_call3_v3 : Ref sig .tc := ⟨.hbm, 309, rfl⟩
abbrev main_call3_v4 : Ref sig .tc := ⟨.hbm, 310, rfl⟩
abbrev main_call3_v5 : Ref sig .tc := ⟨.hbm, 311, rfl⟩
abbrev main_call3_v6 : Ref sig .tc := ⟨.hbm, 312, rfl⟩
abbrev main_call3_cst_1 : Ref sig .tc := ⟨.hbm, 313, rfl⟩
abbrev main_call3_v7 : Ref sig .tc := ⟨.hbm, 314, rfl⟩
abbrev main_call3_v8 : Ref sig .tc := ⟨.hbm, 315, rfl⟩
abbrev main_call3_v9 : Ref sig .tc := ⟨.hbm, 316, rfl⟩
abbrev main_call3_v10 : Ref sig .tc := ⟨.hbm, 317, rfl⟩
abbrev main_v233 : Ref sig .tc := ⟨.hbm, 318, rfl⟩
abbrev main_call4_v0 : Ref sig .tc := ⟨.hbm, 319, rfl⟩
abbrev main_call4_cst : Ref sig .tc := ⟨.hbm, 320, rfl⟩
abbrev main_call4_c : Ref sig .tc := ⟨.hbm, 321, rfl⟩
abbrev main_call4_v1_0 : Ref sig .tc := ⟨.hbm, 322, rfl⟩
abbrev main_v234 : Ref sig .tc := ⟨.hbm, 323, rfl⟩
abbrev main_v235 : Ref sig .tc := ⟨.hbm, 324, rfl⟩
abbrev main_call5_c : Ref sig .tc := ⟨.hbm, 325, rfl⟩
abbrev main_call5_v0 : Ref sig .tc := ⟨.hbm, 326, rfl⟩
abbrev main_call5_v1 : Ref sig .tc := ⟨.hbm, 327, rfl⟩
abbrev main_call5_c_0 : Ref sig .tc := ⟨.hbm, 328, rfl⟩
abbrev main_call5_v2 : Ref sig .tc := ⟨.hbm, 329, rfl⟩
abbrev main_call5_v3 : Ref sig .tc := ⟨.hbm, 330, rfl⟩
abbrev main_call5_v4 : Ref sig .tc := ⟨.hbm, 331, rfl⟩
abbrev main_call5_v5 : Ref sig .tc := ⟨.hbm, 332, rfl⟩
abbrev main_call5_c_1 : Ref sig .tc := ⟨.hbm, 333, rfl⟩
abbrev main_call5_c_2 : Ref sig .tc := ⟨.hbm, 334, rfl⟩
abbrev main_call5_v6 : Ref sig .tc := ⟨.hbm, 335, rfl⟩
abbrev main_call5_v7 : Ref sig .tc := ⟨.hbm, 336, rfl⟩
abbrev main_call5_v8 : Ref sig .tc := ⟨.hbm, 337, rfl⟩
abbrev main_call5_v9 : Ref sig .tc := ⟨.hbm, 338, rfl⟩
abbrev main_call5_v10 : Ref sig .tc := ⟨.hbm, 339, rfl⟩
abbrev main_call5_v11 : Ref sig .tc := ⟨.hbm, 340, rfl⟩
abbrev main_call5_c_3 : Ref sig .tc := ⟨.hbm, 341, rfl⟩
abbrev main_call5_v12 : Ref sig .tc := ⟨.hbm, 342, rfl⟩
abbrev main_call5_v13 : Ref sig .tc := ⟨.hbm, 343, rfl⟩
abbrev main_call5_cst : Ref sig .tc := ⟨.hbm, 344, rfl⟩
abbrev main_call5_v14 : Ref sig .tc := ⟨.hbm, 345, rfl⟩
abbrev main_v236 : Ref sig .tc := ⟨.hbm, 346, rfl⟩
abbrev main_call6_cst : Ref sig .tc := ⟨.hbm, 347, rfl⟩
abbrev main_call6_v0 : Ref sig .tc := ⟨.hbm, 348, rfl⟩
abbrev main_call6_cst_0 : Ref sig .tc := ⟨.hbm, 349, rfl⟩
abbrev main_call6_v1 : Ref sig .tc := ⟨.hbm, 350, rfl⟩
abbrev main_call6_v2 : Ref sig .tc := ⟨.hbm, 351, rfl⟩
abbrev main_call6_v3 : Ref sig .tc := ⟨.hbm, 352, rfl⟩
abbrev main_call6_v4 : Ref sig .tc := ⟨.hbm, 353, rfl⟩
abbrev main_call6_v5 : Ref sig .tc := ⟨.hbm, 354, rfl⟩
abbrev main_call6_v6 : Ref sig .tc := ⟨.hbm, 355, rfl⟩
abbrev main_call6_cst_1 : Ref sig .tc := ⟨.hbm, 356, rfl⟩
abbrev main_call6_v7 : Ref sig .tc := ⟨.hbm, 357, rfl⟩
abbrev main_call6_v8 : Ref sig .tc := ⟨.hbm, 358, rfl⟩
abbrev main_call6_v9 : Ref sig .tc := ⟨.hbm, 359, rfl⟩
abbrev main_call6_v10 : Ref sig .tc := ⟨.hbm, 360, rfl⟩
abbrev main_v237 : Ref sig .tc := ⟨.hbm, 361, rfl⟩
abbrev main_call7_v0 : Ref sig .tc := ⟨.hbm, 362, rfl⟩
abbrev main_call7_cst : Ref sig .tc := ⟨.hbm, 363, rfl⟩
abbrev main_call7_c : Ref sig .tc := ⟨.hbm, 364, rfl⟩
abbrev main_call7_v1_0 : Ref sig .tc := ⟨.hbm, 365, rfl⟩
abbrev main_v238 : Ref sig .tc := ⟨.hbm, 366, rfl⟩
abbrev main_v239 : Ref sig .tc := ⟨.hbm, 367, rfl⟩
abbrev main_call8_c : Ref sig .tc := ⟨.hbm, 368, rfl⟩
abbrev main_call8_v0 : Ref sig .tc := ⟨.hbm, 369, rfl⟩
abbrev main_call8_v1 : Ref sig .tc := ⟨.hbm, 370, rfl⟩
abbrev main_call8_c_0 : Ref sig .tc := ⟨.hbm, 371, rfl⟩
abbrev main_call8_v2 : Ref sig .tc := ⟨.hbm, 372, rfl⟩
abbrev main_call8_v3 : Ref sig .tc := ⟨.hbm, 373, rfl⟩
abbrev main_call8_v4 : Ref sig .tc := ⟨.hbm, 374, rfl⟩
abbrev main_call8_v5 : Ref sig .tc := ⟨.hbm, 375, rfl⟩
abbrev main_call8_c_1 : Ref sig .tc := ⟨.hbm, 376, rfl⟩
abbrev main_call8_c_2 : Ref sig .tc := ⟨.hbm, 377, rfl⟩
abbrev main_call8_v6 : Ref sig .tc := ⟨.hbm, 378, rfl⟩
abbrev main_call8_v7 : Ref sig .tc := ⟨.hbm, 379, rfl⟩
abbrev main_call8_v8 : Ref sig .tc := ⟨.hbm, 380, rfl⟩
abbrev main_call8_v9 : Ref sig .tc := ⟨.hbm, 381, rfl⟩
abbrev main_call8_v10 : Ref sig .tc := ⟨.hbm, 382, rfl⟩
abbrev main_call8_v11 : Ref sig .tc := ⟨.hbm, 383, rfl⟩
abbrev main_call8_c_3 : Ref sig .tc := ⟨.hbm, 384, rfl⟩
abbrev main_call8_v12 : Ref sig .tc := ⟨.hbm, 385, rfl⟩
abbrev main_call8_v13 : Ref sig .tc := ⟨.hbm, 386, rfl⟩
abbrev main_call8_cst : Ref sig .tc := ⟨.hbm, 387, rfl⟩
abbrev main_call8_v14 : Ref sig .tc := ⟨.hbm, 388, rfl⟩
abbrev main_v240 : Ref sig .tc := ⟨.hbm, 389, rfl⟩
abbrev main_call9_v0 : Ref sig .tc := ⟨.hbm, 390, rfl⟩
abbrev main_call9_cst : Ref sig .tc := ⟨.hbm, 391, rfl⟩
abbrev main_call9_c : Ref sig .tc := ⟨.hbm, 392, rfl⟩
abbrev main_call9_v1_0 : Ref sig .tc := ⟨.hbm, 393, rfl⟩
abbrev main_v241 : Ref sig .tc := ⟨.hbm, 394, rfl⟩
abbrev main_v242 : Ref sig .tc := ⟨.hbm, 395, rfl⟩
abbrev main_call10_c : Ref sig .tc := ⟨.hbm, 396, rfl⟩
abbrev main_call10_v0 : Ref sig .tc := ⟨.hbm, 397, rfl⟩
abbrev main_call10_v1 : Ref sig .tc := ⟨.hbm, 398, rfl⟩
abbrev main_call10_c_0 : Ref sig .tc := ⟨.hbm, 399, rfl⟩
abbrev main_call10_v2 : Ref sig .tc := ⟨.hbm, 400, rfl⟩
abbrev main_call10_v3 : Ref sig .tc := ⟨.hbm, 401, rfl⟩
abbrev main_call10_v4 : Ref sig .tc := ⟨.hbm, 402, rfl⟩
abbrev main_call10_v5 : Ref sig .tc := ⟨.hbm, 403, rfl⟩
abbrev main_call10_c_1 : Ref sig .tc := ⟨.hbm, 404, rfl⟩
abbrev main_call10_c_2 : Ref sig .tc := ⟨.hbm, 405, rfl⟩
abbrev main_call10_v6 : Ref sig .tc := ⟨.hbm, 406, rfl⟩
abbrev main_call10_v7 : Ref sig .tc := ⟨.hbm, 407, rfl⟩
abbrev main_call10_v8 : Ref sig .tc := ⟨.hbm, 408, rfl⟩
abbrev main_call10_v9 : Ref sig .tc := ⟨.hbm, 409, rfl⟩
abbrev main_call10_v10 : Ref sig .tc := ⟨.hbm, 410, rfl⟩
abbrev main_call10_v11 : Ref sig .tc := ⟨.hbm, 411, rfl⟩
abbrev main_call10_c_3 : Ref sig .tc := ⟨.hbm, 412, rfl⟩
abbrev main_call10_v12 : Ref sig .tc := ⟨.hbm, 413, rfl⟩
abbrev main_call10_v13 : Ref sig .tc := ⟨.hbm, 414, rfl⟩
abbrev main_call10_cst : Ref sig .tc := ⟨.hbm, 415, rfl⟩
abbrev main_call10_v14 : Ref sig .tc := ⟨.hbm, 416, rfl⟩
abbrev main_v243 : Ref sig .tc := ⟨.hbm, 417, rfl⟩
abbrev main_v244 : Ref sig .tc := ⟨.hbm, 418, rfl⟩
abbrev main_v245 : Ref sig .tc := ⟨.hbm, 419, rfl⟩
abbrev main_v246 : Ref sig .tc := ⟨.hbm, 420, rfl⟩
abbrev main_v247 : Ref sig .tc := ⟨.hbm, 421, rfl⟩
abbrev main_v248 : Ref sig .tc := ⟨.hbm, 422, rfl⟩
abbrev main_v249 : Ref sig .tc := ⟨.hbm, 423, rfl⟩
abbrev main_v250 : Ref sig .tc := ⟨.hbm, 424, rfl⟩
abbrev main_call11_v0 : Ref sig .tc := ⟨.hbm, 425, rfl⟩
abbrev main_call11_c : Ref sig .tc := ⟨.hbm, 426, rfl⟩
abbrev main_call11_c_0 : Ref sig .tc := ⟨.hbm, 427, rfl⟩
abbrev main_call11_v1_0 : Ref sig .tc := ⟨.hbm, 428, rfl⟩
abbrev main_v251 : Ref sig .tc := ⟨.hbm, 429, rfl⟩
abbrev main_c_56 : Ref sig .tc := ⟨.hbm, 430, rfl⟩
abbrev main_v252 : Ref sig .tc := ⟨.hbm, 431, rfl⟩
abbrev main_v253 : Ref sig .tc := ⟨.hbm, 432, rfl⟩
abbrev main_c_57 : Ref sig .tc := ⟨.hbm, 433, rfl⟩
abbrev main_call12_v0 : Ref sig .tc := ⟨.hbm, 434, rfl⟩
abbrev main_call12_c : Ref sig .tc := ⟨.hbm, 435, rfl⟩
abbrev main_call12_v1 : Ref sig .tc := ⟨.hbm, 436, rfl⟩
abbrev main_call12_c_0 : Ref sig .tc := ⟨.hbm, 437, rfl⟩
abbrev main_call12_v2 : Ref sig .tc := ⟨.hbm, 438, rfl⟩
abbrev main_call12_v3 : Ref sig .tc := ⟨.hbm, 439, rfl⟩
abbrev main_call12_v4 : Ref sig .tc := ⟨.hbm, 440, rfl⟩
abbrev main_call12_c_1 : Ref sig .tc := ⟨.hbm, 441, rfl⟩
abbrev main_call12_v5 : Ref sig .tc := ⟨.hbm, 442, rfl⟩
abbrev main_call12_v6 : Ref sig .tc := ⟨.hbm, 443, rfl⟩
abbrev main_call12_c_2 : Ref sig .tc := ⟨.hbm, 444, rfl⟩
abbrev main_call12_v7 : Ref sig .tc := ⟨.hbm, 445, rfl⟩
abbrev main_call12_v8 : Ref sig .tc := ⟨.hbm, 446, rfl⟩
abbrev main_call12_c_3 : Ref sig .tc := ⟨.hbm, 447, rfl⟩
abbrev main_call12_v9 : Ref sig .tc := ⟨.hbm, 448, rfl⟩
abbrev main_call12_v10 : Ref sig .tc := ⟨.hbm, 449, rfl⟩
abbrev main_call12_v11 : Ref sig .tc := ⟨.hbm, 450, rfl⟩
abbrev main_call12_v12 : Ref sig .tc := ⟨.hbm, 451, rfl⟩
abbrev main_call12_v13 : Ref sig .tc := ⟨.hbm, 452, rfl⟩
abbrev main_call12_v14 : Ref sig .tc := ⟨.hbm, 453, rfl⟩
abbrev main_v254 : Ref sig .tc := ⟨.hbm, 454, rfl⟩
abbrev main_v255 : Ref sig .tc := ⟨.hbm, 455, rfl⟩
abbrev main_call13_c : Ref sig .tc := ⟨.hbm, 456, rfl⟩
abbrev main_call13_v0 : Ref sig .tc := ⟨.hbm, 457, rfl⟩
abbrev main_call13_v1 : Ref sig .tc := ⟨.hbm, 458, rfl⟩
abbrev main_call13_c_0 : Ref sig .tc := ⟨.hbm, 459, rfl⟩
abbrev main_call13_v2 : Ref sig .tc := ⟨.hbm, 460, rfl⟩
abbrev main_call13_v3 : Ref sig .tc := ⟨.hbm, 461, rfl⟩
abbrev main_call13_v4 : Ref sig .tc := ⟨.hbm, 462, rfl⟩
abbrev main_call13_v5 : Ref sig .tc := ⟨.hbm, 463, rfl⟩
abbrev main_call13_c_1 : Ref sig .tc := ⟨.hbm, 464, rfl⟩
abbrev main_call13_c_2 : Ref sig .tc := ⟨.hbm, 465, rfl⟩
abbrev main_call13_v6 : Ref sig .tc := ⟨.hbm, 466, rfl⟩
abbrev main_call13_v7 : Ref sig .tc := ⟨.hbm, 467, rfl⟩
abbrev main_call13_v8 : Ref sig .tc := ⟨.hbm, 468, rfl⟩
abbrev main_call13_v9 : Ref sig .tc := ⟨.hbm, 469, rfl⟩
abbrev main_call13_v10 : Ref sig .tc := ⟨.hbm, 470, rfl⟩
abbrev main_call13_v11 : Ref sig .tc := ⟨.hbm, 471, rfl⟩
abbrev main_call13_c_3 : Ref sig .tc := ⟨.hbm, 472, rfl⟩
abbrev main_call13_v12 : Ref sig .tc := ⟨.hbm, 473, rfl⟩
abbrev main_call13_v13 : Ref sig .tc := ⟨.hbm, 474, rfl⟩
abbrev main_call13_c_4 : Ref sig .tc := ⟨.hbm, 475, rfl⟩
abbrev main_call13_v14 : Ref sig .tc := ⟨.hbm, 476, rfl⟩
abbrev main_v256 : Ref sig .tc := ⟨.hbm, 477, rfl⟩
abbrev main_v257 : Ref sig .tc := ⟨.hbm, 478, rfl⟩
abbrev main_v258 : Ref sig .tc := ⟨.hbm, 479, rfl⟩
abbrev main_call14_c : Ref sig .tc := ⟨.hbm, 480, rfl⟩
abbrev main_call14_v0 : Ref sig .tc := ⟨.hbm, 481, rfl⟩
abbrev main_call14_v1 : Ref sig .tc := ⟨.hbm, 482, rfl⟩
abbrev main_call14_c_0 : Ref sig .tc := ⟨.hbm, 483, rfl⟩
abbrev main_call14_v2 : Ref sig .tc := ⟨.hbm, 484, rfl⟩
abbrev main_call14_v3 : Ref sig .tc := ⟨.hbm, 485, rfl⟩
abbrev main_call14_v4 : Ref sig .tc := ⟨.hbm, 486, rfl⟩
abbrev main_call14_v5 : Ref sig .tc := ⟨.hbm, 487, rfl⟩
abbrev main_call14_c_1 : Ref sig .tc := ⟨.hbm, 488, rfl⟩
abbrev main_call14_c_2 : Ref sig .tc := ⟨.hbm, 489, rfl⟩
abbrev main_call14_v6 : Ref sig .tc := ⟨.hbm, 490, rfl⟩
abbrev main_call14_v7 : Ref sig .tc := ⟨.hbm, 491, rfl⟩
abbrev main_call14_v8 : Ref sig .tc := ⟨.hbm, 492, rfl⟩
abbrev main_call14_v9 : Ref sig .tc := ⟨.hbm, 493, rfl⟩
abbrev main_call14_v10 : Ref sig .tc := ⟨.hbm, 494, rfl⟩
abbrev main_call14_v11 : Ref sig .tc := ⟨.hbm, 495, rfl⟩
abbrev main_call14_c_3 : Ref sig .tc := ⟨.hbm, 496, rfl⟩
abbrev main_call14_v12 : Ref sig .tc := ⟨.hbm, 497, rfl⟩
abbrev main_call14_v13 : Ref sig .tc := ⟨.hbm, 498, rfl⟩
abbrev main_call14_c_4 : Ref sig .tc := ⟨.hbm, 499, rfl⟩
abbrev main_call14_v14 : Ref sig .tc := ⟨.hbm, 500, rfl⟩
abbrev main_v259 : Ref sig .tc := ⟨.hbm, 501, rfl⟩
abbrev main_v260 : Ref sig .tc := ⟨.hbm, 502, rfl⟩
abbrev main_v261 : Ref sig .tc := ⟨.hbm, 503, rfl⟩
abbrev main_v262 : Ref sig .tc := ⟨.hbm, 504, rfl⟩
abbrev main_v263 : Ref sig .tc := ⟨.hbm, 505, rfl⟩
abbrev main_v264 : Ref sig .tc := ⟨.hbm, 506, rfl⟩
abbrev main_v265 : Ref sig .tc := ⟨.hbm, 507, rfl⟩
abbrev main_v266 : Ref sig .tc := ⟨.hbm, 508, rfl⟩
abbrev main_v267 : Ref sig .tc := ⟨.hbm, 509, rfl⟩
abbrev main_v268 : Ref sig .tc := ⟨.hbm, 510, rfl⟩

abbrev nD : Nat := 1
abbrev τ : Topo := Topo.v7x

variable {F : FTy → Type} [FloatOps F]
-- ==== Proof.K.OkKernel.lean ====
module

public import proofs.«01_k».proof.Defs
public import proofs.«01_k».proof.Proof.Gen.Kernel.Frame

@[expose] public section

noncomputable section

namespace Cert.Kernel.Own

open Idealize.ShloMosaic Idealize.SL.Sem Cert.Kernel Cert.Kernel.Gen

set_option backward.proofsInPublic true in
/-- The prefetched table's contents: one zero word. -/
def pfZ : pre0.Contents (Elt Bits) :=
  fun | ⟨0, _⟩ => fun _ => 0#32 | ⟨_ + 1, h⟩ => absurd h (by simp)

/-- The host fills the table with zeros before the launch. -/
theorem tbl_eq (m : (ℓ : Loc nD τ sig) → Buf (Elt Bits) ℓ) : tbl m = pfZ := by
  funext j x
  match j with
  | ⟨0, _⟩ => rfl

/-- At the zero table every block is inside its array. -/
theorem ok (m : (ℓ : Loc nD τ sig) → Buf (Elt Bits) ℓ) : Ok (F := Bits) m := by
  unfold Ok; rw [tbl_eq m]; decide

end Cert.Kernel.Own
-- ==== Proof.K.OkKernelIdeal.lean ====
module

public import proofs.«01_k».proof.Defs
public import proofs.«01_k».proof.Proof.Gen.KernelIdeal.Frame

@[expose] public section

noncomputable section

namespace Cert.KernelIdeal.Own

open Idealize.ShloMosaic Idealize.SL.Sem Cert.KernelIdeal Cert.KernelIdeal.Gen

set_option backward.proofsInPublic true in
/-- The prefetched table's contents: one zero word. -/
def pfZ : pre0.Contents (Elt Ideal) :=
  fun | ⟨0, _⟩ => fun _ => 0#32 | ⟨_ + 1, h⟩ => absurd h (by simp)

/-- The host fills the table with zeros before the launch. -/
theorem tbl_eq (m : (ℓ : Loc nD τ sig) → Buf (Elt Ideal) ℓ) : tbl m = pfZ := by
  funext j x
  match j with
  | ⟨0, _⟩ => rfl

/-- At the zero table every block is inside its array. -/
theorem ok (m : (ℓ : Loc nD τ sig) → Buf (Elt Ideal) ℓ) : Ok (F := Ideal) m := by
  unfold Ok; rw [tbl_eq m]; decide

end Cert.KernelIdeal.Own
-- ==== Proof.K.Model.lean ====
module

public import Idealize.ShloMosaic.PureOps
public import Idealize.ShloMosaic.PureOps.Ideal

@[expose] public section

noncomputable section

/-! The drawn numbers, one at a time: the hash of a counter under a key, and the Gumbel number it gives. -/

namespace Cert.Own

open Idealize.ShloMosaic

/-- The two words of a hash in progress. -/
abbrev St := BitVec 32 × BitVec 32

/-- One round, of the vector unit: add, rotate left by `a` (`b` is `32 - a`), exclusive or. -/
def rnd (a b : BitVec 32) (s : St) : St :=
  (IntOp.addi s.1 s.2, IntOp.xori (IntOp.ori (IntOp.shli .vector s.2 a) (IntOp.shrui .vector s.2 b)) (IntOp.addi s.1 s.2))

/-- The four rounds of the even groups. -/
def fourA (s : St) : St := rnd 6#32 26#32 (rnd 26#32 6#32 (rnd 15#32 17#32 (rnd 13#32 19#32 s)))

/-- The four rounds of the odd groups. -/
def fourB (s : St) : St := rnd 24#32 8#32 (rnd 16#32 16#32 (rnd 29#32 3#32 (rnd 17#32 15#32 s)))

/-- A key injection, with its number. -/
def inj (u v c : BitVec 32) (s : St) : St := (IntOp.addi s.1 u, IntOp.addi (IntOp.addi s.2 v) c)

/-- A key's three words. -/
structure Key where
  a : BitVec 32
  b : BitVec 32
  c : BitVec 32

def hash1 (k : Key) (n : BitVec 32) : St := inj k.b k.c 1#32 (fourA (k.a, IntOp.addi n k.b))
def hash2 (k : Key) (n : BitVec 32) : St := inj k.c k.a 2#32 (fourB (hash1 k n))
def hash3 (k : Key) (n : BitVec 32) : St := inj k.a k.b 3#32 (fourA (hash2 k n))
def hash4 (k : Key) (n : BitVec 32) : St := inj k.b k.c 4#32 (fourB (hash3 k n))
def hash5 (k : Key) (n : BitVec 32) : St := inj k.c k.a 5#32 (fourA (hash4 k n))

/-- The random word of a hash's end. -/
def word (s : St) : BitVec 32 := IntOp.xori s.1 s.2

/-- The float in `[0, 1)` with a word's upper 23 bits as mantissa, times one. -/
def unitF {F : FTy → Type} [FloatOps F] (w : BitVec 32) : F .f32 :=
  FloatOps.mulf (FloatOps.subf (FloatOps.ofBits .f32 (IntOp.ori (IntOp.shrui .vector w 9#32) 1065353216#32))
    (FloatOps.ofBits .f32 0x3F800000#32)) (FloatOps.ofBits .f32 0x3F800000#32)

/-- The Gumbel number of a unit float, as the kernel spells it. -/
def gumF {F : FTy → Type} [FloatOps F] (u : F .f32) : F .f32 :=
  FloatOps.subf (FloatOps.ofBits .f32 0x00000000#32) (FloatOps.log (FloatOps.subf (FloatOps.ofBits .f32 0x00000000#32)
    (FloatOps.log (FloatOps.maximumf (FloatOps.addf u (FloatOps.ofBits .f32 0x00800000#32)) (FloatOps.ofBits .f32 0x00800000#32)))))

/-- The Gumbel number of counter `n` under key `k`. -/
def gum {F : FTy → Type} [FloatOps F] (k : Key) (n : BitVec 32) : F .f32 := gumF (unitF (word (hash5 k n)))

/-- The three heads' keys. -/
def keyB : Key := ⟨1832780943#32, 270669613#32, 1724713080#32⟩
def keyC : Key := ⟨64467757#32, 2916123636#32, 3050711811#32⟩
def keyE : Key := ⟨2465931498#32, 255383827#32, 2249384483#32⟩

end Cert.Own
-- ==== Proof.K.Block.lean ====
module

public import proofs.«01_k».proof.Proof.Gen.KernelIdeal.Frame
public import proofs.«01_k».proof.Proof.K.Model

@[expose] public section

noncomputable section

/-! What the kernel's body stores, of the blocks it reads: the body's text with each head written once. -/

namespace Cert.KernelIdeal.Own

open Idealize.ShloMosaic Idealize.ShloMosaic.TcCoe Idealize.SL.Sem Cert.KernelIdeal Cert.KernelIdeal.Gen Cert.Own

variable {F : FTy → Type} [FloatOps F]

/-- The column numbers. -/
def colV : IVec S512x2000 32 := iota .tc S512x2000 32 [1] iota_S512x2000_d1_w32

/-- The row numbers of block `i`, at the table's word `w`. -/
def rowV (i : grid0.Coords) (w : BitVec 32) : IVec S512x2000 32 :=
  addi (iota .tc S512x2000 32 [0] iota_S512x2000_d0_w32)
    (broadcast S512x2000 (Scalar.muli (Scalar.addi w (BitVec.ofNat 32 (i 0).val)) 512#32))

/-- The counters of the backtrack and city heads' sample with first row number `o`. -/
def ctrS (row : IVec S512x2000 32) (o : BitVec 32) : IVec S512x2000 32 :=
  addi (muli (addi (broadcast S512x2000 o) row) (broadcast S512x2000 2000#32)) colV

/-- The counters of the edge head's sample `o`. -/
def ctrE (row : IVec S512x2000 32) (o : BitVec 32) : IVec S512x2000 32 :=
  addi (muli (addi (muli row (broadcast S512x2000 3#32)) (broadcast S512x2000 o)) (broadcast S512x2000 2000#32)) colV

/-- A row's greatest entry. -/
def maxV (x : FVec F S512x2000 .f32) : FVec F S512x1 .f32 :=
  shapeCast S512x1 (multiReduction .maximumf [1] S512 x 0xFF800000#32 reduces_S512x2000_S512 (.inl rfl) rfl) shapeCasts_S512_S512x1

/-- A row's sum. -/
def sumV (x : FVec F S512x2000 .f32) : FVec F S512x1 .f32 :=
  shapeCast S512x1 (multiReduction .add [1] S512 x 0x00000000#32 reduces_S512x2000_S512 (.inl rfl) rfl) shapeCasts_S512_S512x1

/-- A column spread over the row. -/
def spreadV {e : EltTy} (x : Vec F S512x1 e) : Vec F S512x2000 e := broadcastTo S512x2000 x broadcasts_S512x1_S512x2000

/-- The logarithm of the sum of the exponentials, of the entries less the greatest. -/
def lseV (x : FVec F S512x2000 .f32) : FVec F S512x1 .f32 := log (sumV (exp (subf x (spreadV (e := .f32) (maxV x)))))

/-- The logarithm of the entries, none below the clip. -/
def clipLogV (x : FVec F S512x2000 .f32) : FVec F S512x2000 .f32 :=
  log (maximumf x (broadcast S512x2000 (Scalar.ofBits .f32 0x0DA24260#32)))

/-- Logits with their noise: the scores a draw is made from. -/
def scoreV (k : Key) (n : IVec S512x2000 32) (x : FVec F S512x2000 .f32) : FVec F S512x2000 .f32 := addf x (fun j => gum k (n j))

/-- Where a row's scores are greatest. -/
def topV (s : FVec F S512x2000 .f32) : IVec S512x2000 1 := cmpf .oeq s (spreadV (e := .f32) (maxV s))

/-- The first column marked, or the row's length where none is. -/
def firstV (b : IVec S512x2000 1) : IVec S512x1 32 :=
  shapeCast S512x1 (multiReductionI .minsi [1] S512 (select b colV (broadcast S512x2000 2000#32)) 2147483647#32 reduces_S512x2000_S512 rfl)
    shapeCasts_S512_S512x1

/-- The sum of the marked entries. -/
def pickV (b : IVec S512x2000 1) (x : FVec F S512x2000 .f32) : FVec F S512x1 .f32 :=
  sumV (select (α := F .f32) b x (broadcast S512x2000 (Scalar.ofBits .f32 0x00000000#32)))

/-- A draw's log-probability under the softmax of `x`. -/
def alpV (b : IVec S512x2000 1) (x : FVec F S512x2000 .f32) : FVec F S512x1 .f32 := subf (subf (pickV b x) (maxV x)) (lseV x)

/-- The log-probabilities of the edges, the city drawn masked. -/
def edgeLogV (ci : IVec S512x1 32) (ep : FVec F S512x2000 .f32) : FVec F S512x2000 .f32 :=
  let masked := select (α := F .f32) (cmpi .eq colV (spreadV (F := F) (e := .i32) ci)) (broadcast S512x2000 (Scalar.ofBits .f32 0x3089705F#32)) ep
  log (divf masked (spreadV (e := .f32) (sumV masked)))

/-- Where the tour holds the node drawn, first. -/
def posV (tour : IVec S512x2000 32) (e : IVec S512x1 32) : IVec S512x1 32 := firstV (cmpi .eq tour (spreadV (F := F) (e := .i32) e))

/-- The edge's first node. -/
def startV (tour : IVec S512x2000 32) (e : IVec S512x1 32) : IVec S512x1 32 :=
  select (cmpi .slt (posV (F := F) tour e) (broadcast S512x1 2000#32)) e (extractStridedSlice S512x1 ![0, 0] tour slices_S512x2000_o0_0_S512x1)

/-- The place after it in the tour. -/
def nextV (tour : IVec S512x2000 32) (e : IVec S512x1 32) : IVec S512x1 32 :=
  let pos := select (cmpi .slt (posV (F := F) tour e) (broadcast S512x1 2000#32)) (posV (F := F) tour e) (broadcast S512x1 0#32)
  let nxt := addi pos (broadcast S512x1 1#32)
  select (cmpi .eq nxt (broadcast S512x1 2000#32)) (broadcast S512x1 0#32) nxt

/-- The edge's second node. -/
def endV (tour : IVec S512x2000 32) (e : IVec S512x1 32) : IVec S512x1 32 :=
  shapeCast S512x1 (multiReductionI .add [1] S512
    (select (cmpi .eq colV (spreadV (F := F) (e := .i32) (nextV (F := F) tour e))) tour (broadcast S512x2000 0#32)) 0#32 reduces_S512x2000_S512 rfl)
    shapeCasts_S512_S512x1

section
variable (row : IVec S512x2000 32) (tour : IVec S512x2000 32) (bt cp ep : FVec F S512x2000 .f32)

/-- Sample `o`'s marks of the backtrack head (`o` is `4096` times the sample). -/
def topB (o : BitVec 32) : IVec S512x2000 1 := topV (scoreV keyB (ctrS row o) bt)

/-- Sample `o`'s marks of the city head. -/
def topC (o : BitVec 32) : IVec S512x2000 1 := topV (scoreV keyC (ctrS row o) (clipLogV cp))

/-- Its masked edges' log-probabilities. -/
def elog (o : BitVec 32) : FVec F S512x2000 .f32 := edgeLogV (firstV (topC row cp o)) ep

/-- Sample `o`'s marks of the edge head (`p` is the sample). -/
def topE (o p : BitVec 32) : IVec S512x2000 1 := topV (scoreV keyE (ctrE row p) (elog row cp ep o))

/-- The sample's log-probability. -/
def alp (o p : BitVec 32) : FVec F S512x1 .f32 :=
  addf (addf (alpV (topB row bt o) bt) (alpV (topC row cp o) cp)) (pickV (topE row cp ep o p) (elog row cp ep o))

/-- Three samples' columns side by side. -/
def cat3 {α : Type} (f : BitVec 32 → BitVec 32 → S512x1.Idx → α) : S512x3.Idx → α :=
  concatenate S512x3 1 [⟨S512x1, f 0#32 0#32⟩, ⟨S512x1, f 4096#32 1#32⟩, ⟨S512x1, f 8192#32 2#32⟩] concatenates_S512x1_S512x1_S512x1_S512x3_d1

def blockB : IVec S512x3 32 := cat3 fun o _ => firstV (topB row bt o)
def blockC : IVec S512x3 32 := cat3 fun o _ => firstV (topC row cp o)
def blockA : FVec F S512x3 .f32 := cat3 (alp row bt cp ep)
def startE (o p : BitVec 32) : IVec S512x1 32 := startV (F := F) tour (firstV (topE row cp ep o p))
def endE (o p : BitVec 32) : IVec S512x1 32 := endV (F := F) tour (firstV (topE row cp ep o p))
def blockE : IVec S512x6 32 :=
  concatenate S512x6 1 [⟨S512x1, startE row tour cp ep 0#32 0#32⟩, ⟨S512x1, endE row tour cp ep 0#32 0#32⟩,
    ⟨S512x1, startE row tour cp ep 4096#32 1#32⟩, ⟨S512x1, endE row tour cp ep 4096#32 1#32⟩,
    ⟨S512x1, startE row tour cp ep 8192#32 2#32⟩, ⟨S512x1, endE row tour cp ep 8192#32 2#32⟩]
    concatenates_S512x1_S512x1_S512x1_S512x1_S512x1_S512x1_S512x6_d1
end

section
variable (c : Dev nD) (i : grid0.Coords) (xt0 : TbBuf0 (F := F) c tbM0_0)

/-- The row numbers the body computes. -/
abbrev rowK : IVec S512x2000 32 := rowV i (kernelRun0_A.sl.r c xt0)

variable {arg2 : Memref sig .tc .vmem S512x2000 .i32} (harg2 : arg2.IsWhole) {arg4 : Memref sig .tc .vmem S512x2000 .f32} (harg4 : arg4.IsWhole)
  {arg5 : Memref sig .tc .vmem S512x2000 .f32} (harg5 : arg5.IsWhole) {arg6 : Memref sig .tc .vmem S512x2000 .f32} (harg6 : arg6.IsWhole)
  (x0 : Vec F S512x2000 .i32) (x2 x3 x4 : Vec F S512x2000 .f32)

open kernelRun0_A

/-- What the body stores of the backtrack head's draws. -/
theorem pay_B : k0_pay409 (sl.r_13 c i arg4 harg4 x2 xt0) (sl.r_29 c i arg4 harg4 x2 xt0) (sl.r_46 c i arg4 harg4 x2 xt0)
    = blockB (rowK c i xt0) (sl.r_1 c arg4 harg4 x2) := by sl_kernel_rfl

/-- What it stores of the city head's draws. -/
theorem pay_C : k0_pay410 (sl.r_18 c i arg5 harg5 x3 xt0) (sl.r_35 c i arg5 harg5 x3 xt0) (sl.r_51 c i arg5 harg5 x3 xt0)
    = blockC (rowK c i xt0) (sl.r_2 c arg5 harg5 x3) := by sl_kernel_rfl

/-- What it stores of the edges. -/
theorem pay_E : sl.r_62 c i arg2 harg2 arg5 harg5 arg6 harg6 x0 x3 x4 xt0
    = blockE (rowK c i xt0) (sl.r_4 c arg2 harg2 x0) (sl.r_2 c arg5 harg5 x3) (sl.r_3 c arg6 harg6 x4) := by sl_kernel_rfl

/-- What it stores of the log-probabilities. -/
theorem pay_A : k0_pay1 (sl.r_26 c i arg4 harg4 arg5 harg5 arg6 harg6 x2 x3 x4 xt0) (sl.r_44 c i arg4 harg4 arg5 harg5 arg6 harg6 x2 x3 x4 xt0)
      (sl.r_61 c i arg4 harg4 arg5 harg5 arg6 harg6 x2 x3 x4 xt0)
    = blockA (rowK c i xt0) (sl.r_1 c arg4 harg4 x2) (sl.r_2 c arg5 harg5 x3) (sl.r_3 c arg6 harg6 x4) := by sl_kernel_rfl

end

end Cert.KernelIdeal.Own
-- ==== Proof.K.Outs.lean ====
module

public import proofs.«01_k».proof.Proof.K.Block
public import Idealize.ShloMosaic.Lib.Tactic
public import Idealize.ShloMosaic.Lib.WholeRead
public import Idealize.ShloMosaic.Lib.Pipeline.Value

@[expose] public section

set_option maxRecDepth 16384

noncomputable section

/-! What the body leaves in each output's buffer, as functions of the input blocks. -/

namespace Cert.KernelIdeal.Own

open Idealize.ShloMosaic Idealize.ShloMosaic.TcCoe Idealize.SL.Sem Cert.KernelIdeal Cert.KernelIdeal.Gen Cert.Own

variable {F : FTy → Type} [FloatOps F]

theorem zeros2 : (![0, 0] : Fin 2 → Nat) = fun _ => 0 := funext fun a => by fin_cases a <;> rfl

/-- A load of a whole buffer reads its contents. -/
theorem load_whole {S : Shape} {e : EltTy} {v : Memref sig .tc .vmem S e} (h : v.IsWhole) (X : Vec F S e)
    {off : Fin S.rank → Nat} (ho : off = fun _ => 0) (inb : ∀ a, off a + S.size a ≤ S.size a) :
    View.readAt (Elt F) v.view (Rect.unit off S.size inb).toLoadRect (h.unread X) = X := by
  subst ho
  funext x
  rw [h.readAt_unread]
  exact congrFun (View.ld_unit_zero (Val := Elt F) rfl inb X) x

variable (c : Dev nD) (i : grid0.Coords) (arg2 : Memref sig .tc .vmem S512x2000 .i32) (harg2 : arg2.IsWhole) (arg3 : Memref sig .tc .vmem S512x1 .f32) (harg3 : arg3.IsWhole) (arg4 : Memref sig .tc .vmem S512x2000 .f32) (harg4 : arg4.IsWhole) (arg5 : Memref sig .tc .vmem S512x2000 .f32) (harg5 : arg5.IsWhole) (arg6 : Memref sig .tc .vmem S512x2000 .f32) (harg6 : arg6.IsWhole) (arg7 : Memref sig .tc .vmem S512x3 .i32) (harg7 : arg7.IsWhole) (arg8 : Memref sig .tc .vmem S512x3 .i32) (harg8 : arg8.IsWhole) (arg9 : Memref sig .tc .vmem S512x6 .i32) (harg9 : arg9.IsWhole) (arg10 : Memref sig .tc .vmem S512x3 .f32) (harg10 : arg10.IsWhole) (arg11 : Memref sig .tc .vmem S512x3 .f32) (harg11 : arg11.IsWhole)
  (x0 : Vec F S512x2000 .i32) (x1 : Vec F S512x1 .f32) (x2 x3 x4 : Vec F S512x2000 .f32) (xt0 : TbBuf0 (F := F) c tbM0_0)

open kernelRun0_A

/-- A value along its row of samples. -/
def blockV (v : FVec F S512x1 .f32) : FVec F S512x3 .f32 := broadcastTo S512x3 v broadcasts_S512x1_S512x3

/-- The backtrack draws. -/
theorem out_B : out0_A_5 c i arg2 harg2 arg3 harg3 arg4 harg4 arg5 harg5 arg6 harg6 arg7 harg7 arg8 harg8 arg9 harg9 arg10 harg10 arg11 harg11 x0 x1 x2 x3 x4 xt0 = blockB (rowK c i xt0) x2 := by
  unfold out0_A_5
  have e : (kernelRun0_A c i arg2 harg2 arg3 harg3 arg4 harg4 arg5 harg5 arg6 harg6 arg7 harg7 arg8 harg8 arg9 harg9 arg10 harg10 arg11 harg11 x0 x1 x2 x3 x4 xt0).1
      = [⟨Rect.unit ![0, 0] S512x3.size inb_S512x3_S512x3_0_0, k0_pay409 (sl.r_13 c i arg4 harg4 x2 xt0) (sl.r_29 c i arg4 harg4 x2 xt0) (sl.r_46 c i arg4 harg4 x2 xt0)⟩] := by sl_kernel_rfl
  rw [View.read_writes_junk_eq_canon, e, View.canon_unit_zero zeros2, pay_B]
  rw [show sl.r_1 c arg4 harg4 x2 = x2 from load_whole harg4 x2 zeros2 _]

/-- The city draws. -/
theorem out_C : out0_A_6 c i arg2 harg2 arg3 harg3 arg4 harg4 arg5 harg5 arg6 harg6 arg7 harg7 arg8 harg8 arg9 harg9 arg10 harg10 arg11 harg11 x0 x1 x2 x3 x4 xt0 = blockC (rowK c i xt0) x3 := by
  unfold out0_A_6
  have e : (kernelRun0_A c i arg2 harg2 arg3 harg3 arg4 harg4 arg5 harg5 arg6 harg6 arg7 harg7 arg8 harg8 arg9 harg9 arg10 harg10 arg11 harg11 x0 x1 x2 x3 x4 xt0).2.1
      = [⟨Rect.unit ![0, 0] S512x3.size inb_S512x3_S512x3_0_0, k0_pay410 (sl.r_18 c i arg5 harg5 x3 xt0) (sl.r_35 c i arg5 harg5 x3 xt0) (sl.r_51 c i arg5 harg5 x3 xt0)⟩] := by sl_kernel_rfl
  rw [View.read_writes_junk_eq_canon, e, View.canon_unit_zero zeros2, pay_C]
  rw [show sl.r_2 c arg5 harg5 x3 = x3 from load_whole harg5 x3 zeros2 _]

/-- The edges. -/
theorem out_E : out0_A_7 c i arg2 harg2 arg3 harg3 arg4 harg4 arg5 harg5 arg6 harg6 arg7 harg7 arg8 harg8 arg9 harg9 arg10 harg10 arg11 harg11 x0 x1 x2 x3 x4 xt0 = blockE (rowK c i xt0) x0 x3 x4 := by
  unfold out0_A_7
  have e : (kernelRun0_A c i arg2 harg2 arg3 harg3 arg4 harg4 arg5 harg5 arg6 harg6 arg7 harg7 arg8 harg8 arg9 harg9 arg10 harg10 arg11 harg11 x0 x1 x2 x3 x4 xt0).2.2.1
      = [⟨Rect.unit ![0, 0] S512x6.size inb_S512x6_S512x6_0_0, sl.r_62 c i arg2 harg2 arg5 harg5 arg6 harg6 x0 x3 x4 xt0⟩] := by sl_kernel_rfl
  rw [View.read_writes_junk_eq_canon, e, View.canon_unit_zero zeros2, pay_E]
  rw [show sl.r_4 c arg2 harg2 x0 = x0 from load_whole harg2 x0 zeros2 _]
  rw [show sl.r_2 c arg5 harg5 x3 = x3 from load_whole harg5 x3 zeros2 _]
  rw [show sl.r_3 c arg6 harg6 x4 = x4 from load_whole harg6 x4 zeros2 _]

/-- The log-probabilities. -/
theorem out_A : out0_A_8 c i arg2 harg2 arg3 harg3 arg4 harg4 arg5 harg5 arg6 harg6 arg7 harg7 arg8 harg8 arg9 harg9 arg10 harg10 arg11 harg11 x0 x1 x2 x3 x4 xt0 = blockA (rowK c i xt0) x2 x3 x4 := by
  unfold out0_A_8
  have e : (kernelRun0_A c i arg2 harg2 arg3 harg3 arg4 harg4 arg5 harg5 arg6 harg6 arg7 harg7 arg8 harg8 arg9 harg9 arg10 harg10 arg11 harg11 x0 x1 x2 x3 x4 xt0).2.2.2.1
      = [⟨Rect.unit ![0, 0] S512x3.size inb_S512x3_S512x3_0_0, k0_pay1 (sl.r_26 c i arg4 harg4 arg5 harg5 arg6 harg6 x2 x3 x4 xt0) (sl.r_44 c i arg4 harg4 arg5 harg5 arg6 harg6 x2 x3 x4 xt0)
        (sl.r_61 c i arg4 harg4 arg5 harg5 arg6 harg6 x2 x3 x4 xt0)⟩] := by sl_kernel_rfl
  rw [View.read_writes_junk_eq_canon, e, View.canon_unit_zero zeros2, pay_A]
  rw [show sl.r_1 c arg4 harg4 x2 = x2 from load_whole harg4 x2 zeros2 _]
  rw [show sl.r_2 c arg5 harg5 x3 = x3 from load_whole harg5 x3 zeros2 _]
  rw [show sl.r_3 c arg6 harg6 x4 = x4 from load_whole harg6 x4 zeros2 _]

/-- The values. -/
theorem out_V : out0_A_9 c i arg2 harg2 arg3 harg3 arg4 harg4 arg5 harg5 arg6 harg6 arg7 harg7 arg8 harg8 arg9 harg9 arg10 harg10 arg11 harg11 x0 x1 x2 x3 x4 xt0 = blockV x1 := by
  unfold out0_A_9
  have e : (kernelRun0_A c i arg2 harg2 arg3 harg3 arg4 harg4 arg5 harg5 arg6 harg6 arg7 harg7 arg8 harg8 arg9 harg9 arg10 harg10 arg11 harg11 x0 x1 x2 x3 x4 xt0).2.2.2.2.1
      = [⟨Rect.unit ![0, 0] S512x3.size inb_S512x3_S512x3_0_0, k0_pay2 (View.readAt (Elt F) arg3.view (Rect.unit ![0, 0] S512x1.size inb_S512x1_S512x1_0_0).toLoadRect (harg3.unread x1))⟩] := by sl_kernel_rfl
  rw [View.read_writes_junk_eq_canon, e, View.canon_unit_zero zeros2, load_whole harg3 x1 zeros2]
  unfold k0_pay2 blockV
  rw [shapeCast_self]

end Cert.KernelIdeal.Own
-- ==== Proof.R.Ops.lean ====
module

public import proofs.«01_k».proof.Proof.Gen.ReferenceIdeal
public import Idealize.ShloMosaic.Lib.StableHlo.Run
public import Idealize.ShloMosaic.Lib.Pipeline.Frame

@[expose] public section

set_option maxRecDepth 16384

noncomputable section

/-! The reference's host operations, listed head by head. -/

namespace Cert.ReferenceIdeal.Own

open Cert.ReferenceIdeal Cert.ReferenceIdeal.Gen Idealize.ShloMosaic Idealize.ShloMosaic.TcCoe Idealize.SL.Sem Idealize.ShloMosaic.StableHlo

variable {F : FTy → Type} [FloatOps F]

/-- An array's contents. -/
abbrev T (F : FTy → Type) (S : Shape) (e : EltTy) := (⟨S, e⟩ : BufTy).Contents (Elt F)

/-- The pairs of nodes, side by side. -/
def fn_main_v263 : T F S4096x3x1 .i32 → T F S4096x3x1 .i32 → T F S4096x3x2 .i32 :=
  (fun a b => concatenate S4096x3x2 2 [⟨S4096x3x1, a⟩, ⟨S4096x3x1, b⟩] concatenates_S4096x3x1_S4096x3x1_S4096x3x2_d2)

/-- The keys and the counters. -/
abbrev opsI : List (HloOp τ sig (Elt F)) :=
  [ nullary main_c (fun i => lit0 (S3x1.rowMajor i)),
    nullary main_c_0 (fun i => lit1 (S3x1.rowMajor i)),
    nullary main_v0 (iotaInDim S24576000 32 0),
    unary main_v0 main_v1 (broadcastInDim S1x24576000 ![1] bcast_S24576000_S1x24576000_1 : T F S24576000 .i32 → T F S1x24576000 .i32),
    unary main_v1 main_v2 (broadcastInDim S3x24576000 ![0, 1] bcast_S1x24576000_S3x24576000_0_1 : T F S1x24576000 .i32 → T F S3x24576000 .i32),
    nullary main_c_1 (constantI S_ 32 0#32),
    unary main_c_1 main_v3 (broadcastInDim S3x24576000 ![] bcast_S_S3x24576000 : T F S_ .i32 → T F S3x24576000 .i32),
    binary main_c main_c_0 main_v4 (xori : T F S3x1 .i32 → T F S3x1 .i32 → T F S3x1 .i32),
    nullary main_c_2 (constantI S_ 32 466688986#32),
    unary main_c_2 main_v5 (broadcastInDim S3x1 ![] bcast_S_S3x1 : T F S_ .i32 → T F S3x1 .i32),
    binary main_v4 main_v5 main_v6 (xori : T F S3x1 .i32 → T F S3x1 .i32 → T F S3x1 .i32),
    unary main_c main_v7 (broadcastInDim S3x24576000 ![0, 1] bcast_S3x1_S3x24576000_0_1 : T F S3x1 .i32 → T F S3x24576000 .i32),
    binary main_v3 main_v7 main_v8 (addi : T F S3x24576000 .i32 → T F S3x24576000 .i32 → T F S3x24576000 .i32),
    unary main_c_0 main_v9 (broadcastInDim S3x24576000 ![0, 1] bcast_S3x1_S3x24576000_0_1 : T F S3x1 .i32 → T F S3x24576000 .i32),
    binary main_v2 main_v9 main_v10 (addi : T F S3x24576000 .i32 → T F S3x24576000 .i32 → T F S3x24576000 .i32) ]

/-- The first four rounds of the hash, and the key added. -/
abbrev opsG1 : List (HloOp τ sig (Elt F)) :=
  [ binary main_v8 main_v10 main_v11 (addi : T F S3x24576000 .i32 → T F S3x24576000 .i32 → T F S3x24576000 .i32),
    nullary main_c_3 (constantI S_ 32 13#32),
    unary main_c_3 main_v12 (broadcastInDim S3x24576000 ![] bcast_S_S3x24576000 : T F S_ .i32 → T F S3x24576000 .i32),
    binary main_v10 main_v12 main_v13 (Host.shli : T F S3x24576000 .i32 → T F S3x24576000 .i32 → T F S3x24576000 .i32),
    nullary main_c_4 (constantI S_ 32 19#32),
    unary main_c_4 main_v14 (broadcastInDim S3x24576000 ![] bcast_S_S3x24576000 : T F S_ .i32 → T F S3x24576000 .i32),
    binary main_v10 main_v14 main_v15 (Host.shrui : T F S3x24576000 .i32 → T F S3x24576000 .i32 → T F S3x24576000 .i32),
    binary main_v13 main_v15 main_v16 (ori : T F S3x24576000 .i32 → T F S3x24576000 .i32 → T F S3x24576000 .i32),
    binary main_v11 main_v16 main_v17 (xori : T F S3x24576000 .i32 → T F S3x24576000 .i32 → T F S3x24576000 .i32),
    binary main_v11 main_v17 main_v18 (addi : T F S3x24576000 .i32 → T F S3x24576000 .i32 → T F S3x24576000 .i32),
    nullary main_c_5 (constantI S_ 32 15#32),
    unary main_c_5 main_v19 (broadcastInDim S3x24576000 ![] bcast_S_S3x24576000 : T F S_ .i32 → T F S3x24576000 .i32),
    binary main_v17 main_v19 main_v20 (Host.shli : T F S3x24576000 .i32 → T F S3x24576000 .i32 → T F S3x24576000 .i32),
    nullary main_c_6 (constantI S_ 32 17#32),
    unary main_c_6 main_v21 (broadcastInDim S3x24576000 ![] bcast_S_S3x24576000 : T F S_ .i32 → T F S3x24576000 .i32),
    binary main_v17 main_v21 main_v22 (Host.shrui : T F S3x24576000 .i32 → T F S3x24576000 .i32 → T F S3x24576000 .i32),
    binary main_v20 main_v22 main_v23 (ori : T F S3x24576000 .i32 → T F S3x24576000 .i32 → T F S3x24576000 .i32),
    binary main_v18 main_v23 main_v24 (xori : T F S3x24576000 .i32 → T F S3x24576000 .i32 → T F S3x24576000 .i32),
    binary main_v18 main_v24 main_v25 (addi : T F S3x24576000 .i32 → T F S3x24576000 .i32 → T F S3x24576000 .i32),
    nullary main_c_7 (constantI S_ 32 26#32),
    unary main_c_7 main_v26 (broadcastInDim S3x24576000 ![] bcast_S_S3x24576000 : T F S_ .i32 → T F S3x24576000 .i32),
    binary main_v24 main_v26 main_v27 (Host.shli : T F S3x24576000 .i32 → T F S3x24576000 .i32 → T F S3x24576000 .i32),
    nullary main_c_8 (constantI S_ 32 6#32),
    unary main_c_8 main_v28 (broadcastInDim S3x24576000 ![] bcast_S_S3x24576000 : T F S_ .i32 → T F S3x24576000 .i32),
    binary main_v24 main_v28 main_v29 (Host.shrui : T F S3x24576000 .i32 → T F S3x24576000 .i32 → T F S3x24576000 .i32),
    binary main_v27 main_v29 main_v30 (ori : T F S3x24576000 .i32 → T F S3x24576000 .i32 → T F S3x24576000 .i32),
    binary main_v25 main_v30 main_v31 (xori : T F S3x24576000 .i32 → T F S3x24576000 .i32 → T F S3x24576000 .i32),
    binary main_v25 main_v31 main_v32 (addi : T F S3x24576000 .i32 → T F S3x24576000 .i32 → T F S3x24576000 .i32),
    nullary main_c_9 (constantI S_ 32 6#32),
    unary main_c_9 main_v33 (broadcastInDim S3x24576000 ![] bcast_S_S3x24576000 : T F S_ .i32 → T F S3x24576000 .i32),
    binary main_v31 main_v33 main_v34 (Host.shli : T F S3x24576000 .i32 → T F S3x24576000 .i32 → T F S3x24576000 .i32),
    nullary main_c_10 (constantI S_ 32 26#32),
    unary main_c_10 main_v35 (broadcastInDim S3x24576000 ![] bcast_S_S3x24576000 : T F S_ .i32 → T F S3x24576000 .i32),
    binary main_v31 main_v35 main_v36 (Host.shrui : T F S3x24576000 .i32 → T F S3x24576000 .i32 → T F S3x24576000 .i32),
    binary main_v34 main_v36 main_v37 (ori : T F S3x24576000 .i32 → T F S3x24576000 .i32 → T F S3x24576000 .i32),
    binary main_v32 main_v37 main_v38 (xori : T F S3x24576000 .i32 → T F S3x24576000 .i32 → T F S3x24576000 .i32),
    unary main_c_0 main_v39 (broadcastInDim S3x24576000 ![0, 1] bcast_S3x1_S3x24576000_0_1 : T F S3x1 .i32 → T F S3x24576000 .i32),
    binary main_v32 main_v39 main_v40 (addi : T F S3x24576000 .i32 → T F S3x24576000 .i32 → T F S3x24576000 .i32),
    unary main_v6 main_v41 (broadcastInDim S3x24576000 ![0, 1] bcast_S3x1_S3x24576000_0_1 : T F S3x1 .i32 → T F S3x24576000 .i32),
    binary main_v38 main_v41 main_v42 (addi : T F S3x24576000 .i32 → T F S3x24576000 .i32 → T F S3x24576000 .i32),
    nullary main_c_11 (constantI S_ 32 1#32),
    unary main_c_11 main_v43 (broadcastInDim S3x24576000 ![] bcast_S_S3x24576000 : T F S_ .i32 → T F S3x24576000 .i32),
    binary main_v42 main_v43 main_v44 (addi : T F S3x24576000 .i32 → T F S3x24576000 .i32 → T F S3x24576000 .i32) ]

/-- The next four rounds. -/
abbrev opsG2 : List (HloOp τ sig (Elt F)) :=
  [ binary main_v40 main_v44 main_v45 (addi : T F S3x24576000 .i32 → T F S3x24576000 .i32 → T F S3x24576000 .i32),
    nullary main_c_12 (constantI S_ 32 17#32),
    unary main_c_12 main_v46 (broadcastInDim S3x24576000 ![] bcast_S_S3x24576000 : T F S_ .i32 → T F S3x24576000 .i32),
    binary main_v44 main_v46 main_v47 (Host.shli : T F S3x24576000 .i32 → T F S3x24576000 .i32 → T F S3x24576000 .i32),
    nullary main_c_13 (constantI S_ 32 15#32),
    unary main_c_13 main_v48 (broadcastInDim S3x24576000 ![] bcast_S_S3x24576000 : T F S_ .i32 → T F S3x24576000 .i32),
    binary main_v44 main_v48 main_v49 (Host.shrui : T F S3x24576000 .i32 → T F S3x24576000 .i32 → T F S3x24576000 .i32),
    binary main_v47 main_v49 main_v50 (ori : T F S3x24576000 .i32 → T F S3x24576000 .i32 → T F S3x24576000 .i32),
    binary main_v45 main_v50 main_v51 (xori : T F S3x24576000 .i32 → T F S3x24576000 .i32 → T F S3x24576000 .i32),
    binary main_v45 main_v51 main_v52 (addi : T F S3x24576000 .i32 → T F S3x24576000 .i32 → T F S3x24576000 .i32),
    nullary main_c_14 (constantI S_ 32 29#32),
    unary main_c_14 main_v53 (broadcastInDim S3x24576000 ![] bcast_S_S3x24576000 : T F S_ .i32 → T F S3x24576000 .i32),
    binary main_v51 main_v53 main_v54 (Host.shli : T F S3x24576000 .i32 → T F S3x24576000 .i32 → T F S3x24576000 .i32),
    nullary main_c_15 (constantI S_ 32 3#32),
    unary main_c_15 main_v55 (broadcastInDim S3x24576000 ![] bcast_S_S3x24576000 : T F S_ .i32 → T F S3x24576000 .i32),
    binary main_v51 main_v55 main_v56 (Host.shrui : T F S3x24576000 .i32 → T F S3x24576000 .i32 → T F S3x24576000 .i32),
    binary main_v54 main_v56 main_v57 (ori : T F S3x24576000 .i32 → T F S3x24576000 .i32 → T F S3x24576000 .i32),
    binary main_v52 main_v57 main_v58 (xori : T F S3x24576000 .i32 → T F S3x24576000 .i32 → T F S3x24576000 .i32),
    binary main_v52 main_v58 main_v59 (addi : T F S3x24576000 .i32 → T F S3x24576000 .i32 → T F S3x24576000 .i32),
    nullary main_c_16 (constantI S_ 32 16#32),
    unary main_c_16 main_v60 (broadcastInDim S3x24576000 ![] bcast_S_S3x24576000 : T F S_ .i32 → T F S3x24576000 .i32),
    binary main_v58 main_v60 main_v61 (Host.shli : T F S3x24576000 .i32 → T F S3x24576000 .i32 → T F S3x24576000 .i32),
    nullary main_c_17 (constantI S_ 32 16#32),
    unary main_c_17 main_v62 (broadcastInDim S3x24576000 ![] bcast_S_S3x24576000 : T F S_ .i32 → T F S3x24576000 .i32),
    binary main_v58 main_v62 main_v63 (Host.shrui : T F S3x24576000 .i32 → T F S3x24576000 .i32 → T F S3x24576000 .i32),
    binary main_v61 main_v63 main_v64 (ori : T F S3x24576000 .i32 → T F S3x24576000 .i32 → T F S3x24576000 .i32),
    binary main_v59 main_v64 main_v65 (xori : T F S3x24576000 .i32 → T F S3x24576000 .i32 → T F S3x24576000 .i32),
    binary main_v59 main_v65 main_v66 (addi : T F S3x24576000 .i32 → T F S3x24576000 .i32 → T F S3x24576000 .i32),
    nullary main_c_18 (constantI S_ 32 24#32),
    unary main_c_18 main_v67 (broadcastInDim S3x24576000 ![] bcast_S_S3x24576000 : T F S_ .i32 → T F S3x24576000 .i32),
    binary main_v65 main_v67 main_v68 (Host.shli : T F S3x24576000 .i32 → T F S3x24576000 .i32 → T F S3x24576000 .i32),
    nullary main_c_19 (constantI S_ 32 8#32),
    unary main_c_19 main_v69 (broadcastInDim S3x24576000 ![] bcast_S_S3x24576000 : T F S_ .i32 → T F S3x24576000 .i32),
    binary main_v65 main_v69 main_v70 (Host.shrui : T F S3x24576000 .i32 → T F S3x24576000 .i32 → T F S3x24576000 .i32),
    binary main_v68 main_v70 main_v71 (ori : T F S3x24576000 .i32 → T F S3x24576000 .i32 → T F S3x24576000 .i32),
    binary main_v66 main_v71 main_v72 (xori : T F S3x24576000 .i32 → T F S3x24576000 .i32 → T F S3x24576000 .i32),
    unary main_v6 main_v73 (broadcastInDim S3x24576000 ![0, 1] bcast_S3x1_S3x24576000_0_1 : T F S3x1 .i32 → T F S3x24576000 .i32),
    binary main_v66 main_v73 main_v74 (addi : T F S3x24576000 .i32 → T F S3x24576000 .i32 → T F S3x24576000 .i32),
    unary main_c main_v75 (broadcastInDim S3x24576000 ![0, 1] bcast_S3x1_S3x24576000_0_1 : T F S3x1 .i32 → T F S3x24576000 .i32),
    binary main_v72 main_v75 main_v76 (addi : T F S3x24576000 .i32 → T F S3x24576000 .i32 → T F S3x24576000 .i32),
    nullary main_c_20 (constantI S_ 32 2#32),
    unary main_c_20 main_v77 (broadcastInDim S3x24576000 ![] bcast_S_S3x24576000 : T F S_ .i32 → T F S3x24576000 .i32),
    binary main_v76 main_v77 main_v78 (addi : T F S3x24576000 .i32 → T F S3x24576000 .i32 → T F S3x24576000 .i32) ]

/-- The next four rounds. -/
abbrev opsG3 : List (HloOp τ sig (Elt F)) :=
  [ binary main_v74 main_v78 main_v79 (addi : T F S3x24576000 .i32 → T F S3x24576000 .i32 → T F S3x24576000 .i32),
    nullary main_c_21 (constantI S_ 32 13#32),
    unary main_c_21 main_v80 (broadcastInDim S3x24576000 ![] bcast_S_S3x24576000 : T F S_ .i32 → T F S3x24576000 .i32),
    binary main_v78 main_v80 main_v81 (Host.shli : T F S3x24576000 .i32 → T F S3x24576000 .i32 → T F S3x24576000 .i32),
    nullary main_c_22 (constantI S_ 32 19#32),
    unary main_c_22 main_v82 (broadcastInDim S3x24576000 ![] bcast_S_S3x24576000 : T F S_ .i32 → T F S3x24576000 .i32),
    binary main_v78 main_v82 main_v83 (Host.shrui : T F S3x24576000 .i32 → T F S3x24576000 .i32 → T F S3x24576000 .i32),
    binary main_v81 main_v83 main_v84 (ori : T F S3x24576000 .i32 → T F S3x24576000 .i32 → T F S3x24576000 .i32),
    binary main_v79 main_v84 main_v85 (xori : T F S3x24576000 .i32 → T F S3x24576000 .i32 → T F S3x24576000 .i32),
    binary main_v79 main_v85 main_v86 (addi : T F S3x24576000 .i32 → T F S3x24576000 .i32 → T F S3x24576000 .i32),
    nullary main_c_23 (constantI S_ 32 15#32),
    unary main_c_23 main_v87 (broadcastInDim S3x24576000 ![] bcast_S_S3x24576000 : T F S_ .i32 → T F S3x24576000 .i32),
    binary main_v85 main_v87 main_v88 (Host.shli : T F S3x24576000 .i32 → T F S3x24576000 .i32 → T F S3x24576000 .i32),
    nullary main_c_24 (constantI S_ 32 17#32),
    unary main_c_24 main_v89 (broadcastInDim S3x24576000 ![] bcast_S_S3x24576000 : T F S_ .i32 → T F S3x24576000 .i32),
    binary main_v85 main_v89 main_v90 (Host.shrui : T F S3x24576000 .i32 → T F S3x24576000 .i32 → T F S3x24576000 .i32),
    binary main_v88 main_v90 main_v91 (ori : T F S3x24576000 .i32 → T F S3x24576000 .i32 → T F S3x24576000 .i32),
    binary main_v86 main_v91 main_v92 (xori : T F S3x24576000 .i32 → T F S3x24576000 .i32 → T F S3x24576000 .i32),
    binary main_v86 main_v92 main_v93 (addi : T F S3x24576000 .i32 → T F S3x24576000 .i32 → T F S3x24576000 .i32),
    nullary main_c_25 (constantI S_ 32 26#32),
    unary main_c_25 main_v94 (broadcastInDim S3x24576000 ![] bcast_S_S3x24576000 : T F S_ .i32 → T F S3x24576000 .i32),
    binary main_v92 main_v94 main_v95 (Host.shli : T F S3x24576000 .i32 → T F S3x24576000 .i32 → T F S3x24576000 .i32),
    nullary main_c_26 (constantI S_ 32 6#32),
    unary main_c_26 main_v96 (broadcastInDim S3x24576000 ![] bcast_S_S3x24576000 : T F S_ .i32 → T F S3x24576000 .i32),
    binary main_v92 main_v96 main_v97 (Host.shrui : T F S3x24576000 .i32 → T F S3x24576000 .i32 → T F S3x24576000 .i32),
    binary main_v95 main_v97 main_v98 (ori : T F S3x24576000 .i32 → T F S3x24576000 .i32 → T F S3x24576000 .i32),
    binary main_v93 main_v98 main_v99 (xori : T F S3x24576000 .i32 → T F S3x24576000 .i32 → T F S3x24576000 .i32),
    binary main_v93 main_v99 main_v100 (addi : T F S3x24576000 .i32 → T F S3x24576000 .i32 → T F S3x24576000 .i32),
    nullary main_c_27 (constantI S_ 32 6#32),
    unary main_c_27 main_v101 (broadcastInDim S3x24576000 ![] bcast_S_S3x24576000 : T F S_ .i32 → T F S3x24576000 .i32),
    binary main_v99 main_v101 main_v102 (Host.shli : T F S3x24576000 .i32 → T F S3x24576000 .i32 → T F S3x24576000 .i32),
    nullary main_c_28 (constantI S_ 32 26#32),
    unary main_c_28 main_v103 (broadcastInDim S3x24576000 ![] bcast_S_S3x24576000 : T F S_ .i32 → T F S3x24576000 .i32),
    binary main_v99 main_v103 main_v104 (Host.shrui : T F S3x24576000 .i32 → T F S3x24576000 .i32 → T F S3x24576000 .i32),
    binary main_v102 main_v104 main_v105 (ori : T F S3x24576000 .i32 → T F S3x24576000 .i32 → T F S3x24576000 .i32),
    binary main_v100 main_v105 main_v106 (xori : T F S3x24576000 .i32 → T F S3x24576000 .i32 → T F S3x24576000 .i32),
    unary main_c main_v107 (broadcastInDim S3x24576000 ![0, 1] bcast_S3x1_S3x24576000_0_1 : T F S3x1 .i32 → T F S3x24576000 .i32),
    binary main_v100 main_v107 main_v108 (addi : T F S3x24576000 .i32 → T F S3x24576000 .i32 → T F S3x24576000 .i32),
    unary main_c_0 main_v109 (broadcastInDim S3x24576000 ![0, 1] bcast_S3x1_S3x24576000_0_1 : T F S3x1 .i32 → T F S3x24576000 .i32),
    binary main_v106 main_v109 main_v110 (addi : T F S3x24576000 .i32 → T F S3x24576000 .i32 → T F S3x24576000 .i32),
    nullary main_c_29 (constantI S_ 32 3#32),
    unary main_c_29 main_v111 (broadcastInDim S3x24576000 ![] bcast_S_S3x24576000 : T F S_ .i32 → T F S3x24576000 .i32),
    binary main_v110 main_v111 main_v112 (addi : T F S3x24576000 .i32 → T F S3x24576000 .i32 → T F S3x24576000 .i32) ]

/-- The next four rounds. -/
abbrev opsG4 : List (HloOp τ sig (Elt F)) :=
  [ binary main_v108 main_v112 main_v113 (addi : T F S3x24576000 .i32 → T F S3x24576000 .i32 → T F S3x24576000 .i32),
    nullary main_c_30 (constantI S_ 32 17#32),
    unary main_c_30 main_v114 (broadcastInDim S3x24576000 ![] bcast_S_S3x24576000 : T F S_ .i32 → T F S3x24576000 .i32),
    binary main_v112 main_v114 main_v115 (Host.shli : T F S3x24576000 .i32 → T F S3x24576000 .i32 → T F S3x24576000 .i32),
    nullary main_c_31 (constantI S_ 32 15#32),
    unary main_c_31 main_v116 (broadcastInDim S3x24576000 ![] bcast_S_S3x24576000 : T F S_ .i32 → T F S3x24576000 .i32),
    binary main_v112 main_v116 main_v117 (Host.shrui : T F S3x24576000 .i32 → T F S3x24576000 .i32 → T F S3x24576000 .i32),
    binary main_v115 main_v117 main_v118 (ori : T F S3x24576000 .i32 → T F S3x24576000 .i32 → T F S3x24576000 .i32),
    binary main_v113 main_v118 main_v119 (xori : T F S3x24576000 .i32 → T F S3x24576000 .i32 → T F S3x24576000 .i32),
    binary main_v113 main_v119 main_v120 (addi : T F S3x24576000 .i32 → T F S3x24576000 .i32 → T F S3x24576000 .i32),
    nullary main_c_32 (constantI S_ 32 29#32),
    unary main_c_32 main_v121 (broadcastInDim S3x24576000 ![] bcast_S_S3x24576000 : T F S_ .i32 → T F S3x24576000 .i32),
    binary main_v119 main_v121 main_v122 (Host.shli : T F S3x24576000 .i32 → T F S3x24576000 .i32 → T F S3x24576000 .i32),
    nullary main_c_33 (constantI S_ 32 3#32),
    unary main_c_33 main_v123 (broadcastInDim S3x24576000 ![] bcast_S_S3x24576000 : T F S_ .i32 → T F S3x24576000 .i32),
    binary main_v119 main_v123 main_v124 (Host.shrui : T F S3x24576000 .i32 → T F S3x24576000 .i32 → T F S3x24576000 .i32),
    binary main_v122 main_v124 main_v125 (ori : T F S3x24576000 .i32 → T F S3x24576000 .i32 → T F S3x24576000 .i32),
    binary main_v120 main_v125 main_v126 (xori : T F S3x24576000 .i32 → T F S3x24576000 .i32 → T F S3x24576000 .i32),
    binary main_v120 main_v126 main_v127 (addi : T F S3x24576000 .i32 → T F S3x24576000 .i32 → T F S3x24576000 .i32),
    nullary main_c_34 (constantI S_ 32 16#32),
    unary main_c_34 main_v128 (broadcastInDim S3x24576000 ![] bcast_S_S3x24576000 : T F S_ .i32 → T F S3x24576000 .i32),
    binary main_v126 main_v128 main_v129 (Host.shli : T F S3x24576000 .i32 → T F S3x24576000 .i32 → T F S3x24576000 .i32),
    nullary main_c_35 (constantI S_ 32 16#32),
    unary main_c_35 main_v130 (broadcastInDim S3x24576000 ![] bcast_S_S3x24576000 : T F S_ .i32 → T F S3x24576000 .i32),
    binary main_v126 main_v130 main_v131 (Host.shrui : T F S3x24576000 .i32 → T F S3x24576000 .i32 → T F S3x24576000 .i32),
    binary main_v129 main_v131 main_v132 (ori : T F S3x24576000 .i32 → T F S3x24576000 .i32 → T F S3x24576000 .i32),
    binary main_v127 main_v132 main_v133 (xori : T F S3x24576000 .i32 → T F S3x24576000 .i32 → T F S3x24576000 .i32),
    binary main_v127 main_v133 main_v134 (addi : T F S3x24576000 .i32 → T F S3x24576000 .i32 → T F S3x24576000 .i32),
    nullary main_c_36 (constantI S_ 32 24#32),
    unary main_c_36 main_v135 (broadcastInDim S3x24576000 ![] bcast_S_S3x24576000 : T F S_ .i32 → T F S3x24576000 .i32),
    binary main_v133 main_v135 main_v136 (Host.shli : T F S3x24576000 .i32 → T F S3x24576000 .i32 → T F S3x24576000 .i32),
    nullary main_c_37 (constantI S_ 32 8#32),
    unary main_c_37 main_v137 (broadcastInDim S3x24576000 ![] bcast_S_S3x24576000 : T F S_ .i32 → T F S3x24576000 .i32),
    binary main_v133 main_v137 main_v138 (Host.shrui : T F S3x24576000 .i32 → T F S3x24576000 .i32 → T F S3x24576000 .i32),
    binary main_v136 main_v138 main_v139 (ori : T F S3x24576000 .i32 → T F S3x24576000 .i32 → T F S3x24576000 .i32),
    binary main_v134 main_v139 main_v140 (xori : T F S3x24576000 .i32 → T F S3x24576000 .i32 → T F S3x24576000 .i32),
    unary main_c_0 main_v141 (broadcastInDim S3x24576000 ![0, 1] bcast_S3x1_S3x24576000_0_1 : T F S3x1 .i32 → T F S3x24576000 .i32),
    binary main_v134 main_v141 main_v142 (addi : T F S3x24576000 .i32 → T F S3x24576000 .i32 → T F S3x24576000 .i32),
    unary main_v6 main_v143 (broadcastInDim S3x24576000 ![0, 1] bcast_S3x1_S3x24576000_0_1 : T F S3x1 .i32 → T F S3x24576000 .i32),
    binary main_v140 main_v143 main_v144 (addi : T F S3x24576000 .i32 → T F S3x24576000 .i32 → T F S3x24576000 .i32),
    nullary main_c_38 (constantI S_ 32 4#32),
    unary main_c_38 main_v145 (broadcastInDim S3x24576000 ![] bcast_S_S3x24576000 : T F S_ .i32 → T F S3x24576000 .i32),
    binary main_v144 main_v145 main_v146 (addi : T F S3x24576000 .i32 → T F S3x24576000 .i32 → T F S3x24576000 .i32) ]

/-- The last four rounds. -/
abbrev opsG5 : List (HloOp τ sig (Elt F)) :=
  [ binary main_v142 main_v146 main_v147 (addi : T F S3x24576000 .i32 → T F S3x24576000 .i32 → T F S3x24576000 .i32),
    nullary main_c_39 (constantI S_ 32 13#32),
    unary main_c_39 main_v148 (broadcastInDim S3x24576000 ![] bcast_S_S3x24576000 : T F S_ .i32 → T F S3x24576000 .i32),
    binary main_v146 main_v148 main_v149 (Host.shli : T F S3x24576000 .i32 → T F S3x24576000 .i32 → T F S3x24576000 .i32),
    nullary main_c_40 (constantI S_ 32 19#32),
    unary main_c_40 main_v150 (broadcastInDim S3x24576000 ![] bcast_S_S3x24576000 : T F S_ .i32 → T F S3x24576000 .i32),
    binary main_v146 main_v150 main_v151 (Host.shrui : T F S3x24576000 .i32 → T F S3x24576000 .i32 → T F S3x24576000 .i32),
    binary main_v149 main_v151 main_v152 (ori : T F S3x24576000 .i32 → T F S3x24576000 .i32 → T F S3x24576000 .i32),
    binary main_v147 main_v152 main_v153 (xori : T F S3x24576000 .i32 → T F S3x24576000 .i32 → T F S3x24576000 .i32),
    binary main_v147 main_v153 main_v154 (addi : T F S3x24576000 .i32 → T F S3x24576000 .i32 → T F S3x24576000 .i32),
    nullary main_c_41 (constantI S_ 32 15#32),
    unary main_c_41 main_v155 (broadcastInDim S3x24576000 ![] bcast_S_S3x24576000 : T F S_ .i32 → T F S3x24576000 .i32),
    binary main_v153 main_v155 main_v156 (Host.shli : T F S3x24576000 .i32 → T F S3x24576000 .i32 → T F S3x24576000 .i32),
    nullary main_c_42 (constantI S_ 32 17#32),
    unary main_c_42 main_v157 (broadcastInDim S3x24576000 ![] bcast_S_S3x24576000 : T F S_ .i32 → T F S3x24576000 .i32),
    binary main_v153 main_v157 main_v158 (Host.shrui : T F S3x24576000 .i32 → T F S3x24576000 .i32 → T F S3x24576000 .i32),
    binary main_v156 main_v158 main_v159 (ori : T F S3x24576000 .i32 → T F S3x24576000 .i32 → T F S3x24576000 .i32),
    binary main_v154 main_v159 main_v160 (xori : T F S3x24576000 .i32 → T F S3x24576000 .i32 → T F S3x24576000 .i32),
    binary main_v154 main_v160 main_v161 (addi : T F S3x24576000 .i32 → T F S3x24576000 .i32 → T F S3x24576000 .i32),
    nullary main_c_43 (constantI S_ 32 26#32),
    unary main_c_43 main_v162 (broadcastInDim S3x24576000 ![] bcast_S_S3x24576000 : T F S_ .i32 → T F S3x24576000 .i32),
    binary main_v160 main_v162 main_v163 (Host.shli : T F S3x24576000 .i32 → T F S3x24576000 .i32 → T F S3x24576000 .i32),
    nullary main_c_44 (constantI S_ 32 6#32),
    unary main_c_44 main_v164 (broadcastInDim S3x24576000 ![] bcast_S_S3x24576000 : T F S_ .i32 → T F S3x24576000 .i32),
    binary main_v160 main_v164 main_v165 (Host.shrui : T F S3x24576000 .i32 → T F S3x24576000 .i32 → T F S3x24576000 .i32),
    binary main_v163 main_v165 main_v166 (ori : T F S3x24576000 .i32 → T F S3x24576000 .i32 → T F S3x24576000 .i32),
    binary main_v161 main_v166 main_v167 (xori : T F S3x24576000 .i32 → T F S3x24576000 .i32 → T F S3x24576000 .i32),
    binary main_v161 main_v167 main_v168 (addi : T F S3x24576000 .i32 → T F S3x24576000 .i32 → T F S3x24576000 .i32),
    nullary main_c_45 (constantI S_ 32 6#32),
    unary main_c_45 main_v169 (broadcastInDim S3x24576000 ![] bcast_S_S3x24576000 : T F S_ .i32 → T F S3x24576000 .i32),
    binary main_v167 main_v169 main_v170 (Host.shli : T F S3x24576000 .i32 → T F S3x24576000 .i32 → T F S3x24576000 .i32),
    nullary main_c_46 (constantI S_ 32 26#32),
    unary main_c_46 main_v171 (broadcastInDim S3x24576000 ![] bcast_S_S3x24576000 : T F S_ .i32 → T F S3x24576000 .i32),
    binary main_v167 main_v171 main_v172 (Host.shrui : T F S3x24576000 .i32 → T F S3x24576000 .i32 → T F S3x24576000 .i32),
    binary main_v170 main_v172 main_v173 (ori : T F S3x24576000 .i32 → T F S3x24576000 .i32 → T F S3x24576000 .i32),
    binary main_v168 main_v173 main_v174 (xori : T F S3x24576000 .i32 → T F S3x24576000 .i32 → T F S3x24576000 .i32),
    unary main_v6 main_v175 (broadcastInDim S3x24576000 ![0, 1] bcast_S3x1_S3x24576000_0_1 : T F S3x1 .i32 → T F S3x24576000 .i32),
    binary main_v168 main_v175 main_v176 (addi : T F S3x24576000 .i32 → T F S3x24576000 .i32 → T F S3x24576000 .i32),
    unary main_c main_v177 (broadcastInDim S3x24576000 ![0, 1] bcast_S3x1_S3x24576000_0_1 : T F S3x1 .i32 → T F S3x24576000 .i32),
    binary main_v174 main_v177 main_v178 (addi : T F S3x24576000 .i32 → T F S3x24576000 .i32 → T F S3x24576000 .i32),
    nullary main_c_47 (constantI S_ 32 5#32),
    unary main_c_47 main_v179 (broadcastInDim S3x24576000 ![] bcast_S_S3x24576000 : T F S_ .i32 → T F S3x24576000 .i32),
    binary main_v178 main_v179 main_v180 (addi : T F S3x24576000 .i32 → T F S3x24576000 .i32 → T F S3x24576000 .i32) ]

/-- The noise from the hash. -/
abbrev opsN : List (HloOp τ sig (Elt F)) :=
  [ binary main_v176 main_v180 main_v181 (xori : T F S3x24576000 .i32 → T F S3x24576000 .i32 → T F S3x24576000 .i32),
    nullary main_c_48 (constantI S_ 32 9#32),
    unary main_c_48 main_v182 (broadcastInDim S3x24576000 ![] bcast_S_S3x24576000 : T F S_ .i32 → T F S3x24576000 .i32),
    binary main_v181 main_v182 main_v183 (Host.shrui : T F S3x24576000 .i32 → T F S3x24576000 .i32 → T F S3x24576000 .i32),
    nullary main_c_49 (constantI S_ 32 1065353216#32),
    unary main_c_49 main_v184 (broadcastInDim S3x24576000 ![] bcast_S_S3x24576000 : T F S_ .i32 → T F S3x24576000 .i32),
    binary main_v183 main_v184 main_v185 (ori : T F S3x24576000 .i32 → T F S3x24576000 .i32 → T F S3x24576000 .i32),
    unary main_v185 main_v186 (bitcastToFloat (F := F) .f32 : T F S3x24576000 .i32 → T F S3x24576000 .f32),
    nullary main_cst (constant S_ .f32 0x3F800000#32),
    unary main_cst main_v187 (broadcastInDim S3x24576000 ![] bcast_S_S3x24576000 : T F S_ .f32 → T F S3x24576000 .f32),
    binary main_v186 main_v187 main_v188 (subf : T F S3x24576000 .f32 → T F S3x24576000 .f32 → T F S3x24576000 .f32),
    nullary main_cst_50 (constant S_ .f32 0x3F800000#32),
    unary main_cst_50 main_v189 (broadcastInDim S3x24576000 ![] bcast_S_S3x24576000 : T F S_ .f32 → T F S3x24576000 .f32),
    binary main_v188 main_v189 main_v190 (mulf : T F S3x24576000 .f32 → T F S3x24576000 .f32 → T F S3x24576000 .f32),
    nullary main_cst_51 (constant S_ .f32 0x00800000#32),
    unary main_cst_51 main_v191 (broadcastInDim S3x24576000 ![] bcast_S_S3x24576000 : T F S_ .f32 → T F S3x24576000 .f32),
    binary main_v190 main_v191 main_v192 (addf : T F S3x24576000 .f32 → T F S3x24576000 .f32 → T F S3x24576000 .f32),
    nullary main_cst_52 (constant S_ .f32 0x00800000#32),
    unary main_cst_52 main_v193 (broadcastInDim S3x24576000 ![] bcast_S_S3x24576000 : T F S_ .f32 → T F S3x24576000 .f32),
    binary main_v193 main_v192 main_v194 (maximumf : T F S3x24576000 .f32 → T F S3x24576000 .f32 → T F S3x24576000 .f32),
    unary main_v194 main_v195 (Host.log : T F S3x24576000 .f32 → T F S3x24576000 .f32),
    unary main_v195 main_v196 (Host.negf : T F S3x24576000 .f32 → T F S3x24576000 .f32),
    unary main_v196 main_v197 (Host.log : T F S3x24576000 .f32 → T F S3x24576000 .f32),
    unary main_v197 main_v198 (Host.negf : T F S3x24576000 .f32 → T F S3x24576000 .f32) ]

/-- The scores of the backtrack head. -/
abbrev opsB : List (HloOp τ sig (Elt F)) :=
  [ unary main_v198 main_v199 ((extractStridedSlice S1x24576000 ![0, 0] · slices_S3x24576000_S1x24576000_0_0) : T F S3x24576000 .f32 → T F S1x24576000 .f32),
    reshape main_v199 main_v200 (rfl : (.f32 : EltTy) = .f32) shapeCasts_S1x24576000_S24576000,
    reshape main_v200 main_v201 (rfl : (.f32 : EltTy) = .f32) shapeCasts_S24576000_S3x4096x2000,
    unary main_arg2 main_v202 (broadcastInDim S1x4096x2000 ![1, 2] bcast_S4096x2000_S1x4096x2000_1_2 : T F S4096x2000 .f32 → T F S1x4096x2000 .f32),
    unary main_v202 main_v203 (broadcastInDim S3x4096x2000 ![0, 1, 2] bcast_S1x4096x2000_S3x4096x2000_0_1_2 : T F S1x4096x2000 .f32 → T F S3x4096x2000 .f32),
    binary main_v201 main_v203 main_v204 (addf : T F S3x4096x2000 .f32 → T F S3x4096x2000 .f32 → T F S3x4096x2000 .f32) ]

/-- The scores of the city head. -/
abbrev opsC : List (HloOp τ sig (Elt F)) :=
  [ nullary main_cst_53 (constant S_ .f32 0x0DA24260#32),
    TRef.unary (TRef.of (T := ⟨S_, .f32⟩) main_cst_53) (TRef.of (T := ⟨S_, .f32⟩) main_call0_v0) id,
    TRef.unary (TRef.of (T := ⟨S_, .f32⟩) main_call0_v0) (TRef.of (T := ⟨S4096x2000, .f32⟩) main_call0_v1) (broadcastInDim S4096x2000 ![] bcast_S_S4096x2000),
    TRef.binary (TRef.of (T := ⟨S4096x2000, .f32⟩) main_call0_v1) (TRef.of (T := ⟨S4096x2000, .f32⟩) main_arg3) (TRef.of (T := ⟨S4096x2000, .f32⟩) main_v205) maximumf,
    unary main_v205 main_v206 (Host.log : T F S4096x2000 .f32 → T F S4096x2000 .f32),
    unary main_v198 main_v207 ((extractStridedSlice S1x24576000 ![1, 0] · slices_S3x24576000_S1x24576000_1_0) : T F S3x24576000 .f32 → T F S1x24576000 .f32),
    reshape main_v207 main_v208 (rfl : (.f32 : EltTy) = .f32) shapeCasts_S1x24576000_S24576000,
    reshape main_v208 main_v209 (rfl : (.f32 : EltTy) = .f32) shapeCasts_S24576000_S3x4096x2000,
    unary main_v206 main_v210 (broadcastInDim S1x4096x2000 ![1, 2] bcast_S4096x2000_S1x4096x2000_1_2 : T F S4096x2000 .f32 → T F S1x4096x2000 .f32),
    unary main_v210 main_v211 (broadcastInDim S3x4096x2000 ![0, 1, 2] bcast_S1x4096x2000_S3x4096x2000_0_1_2 : T F S1x4096x2000 .f32 → T F S3x4096x2000 .f32),
    binary main_v209 main_v211 main_v212 (addf : T F S3x4096x2000 .f32 → T F S3x4096x2000 .f32 → T F S3x4096x2000 .f32) ]

/-- The cities drawn, for the mask. -/
abbrev opsK : List (HloOp τ sig (Elt F)) :=
  [ TRef.nullary (TRef.of (T := ⟨S3x4096x2000, .i32⟩) main_call1_v0) (iotaInDim S3x4096x2000 32 2),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S3x4096x2000, .f32⟩) main_v212) (TRef.of (T := ⟨S3x4096x2000, .i32⟩) main_call1_v0) (TRef.of (T := ⟨S_, .f32⟩) main_call1_cst) (TRef.of (T := ⟨S_, .i32⟩) main_call1_c) (TRef.of (T := ⟨S3x4096, .f32⟩) main_call1_v1_0) (fun x y u v j => (Host.argReduce reducer_argmax_f32_i32 x y u v reducesTo_S3x4096x2000_S3x4096_d2 h_S_ j).1),
    TRef.quaternary (TRef.of (T := ⟨S3x4096x2000, .f32⟩) main_v212) (TRef.of (T := ⟨S3x4096x2000, .i32⟩) main_call1_v0) (TRef.of (T := ⟨S_, .f32⟩) main_call1_cst) (TRef.of (T := ⟨S_, .i32⟩) main_call1_c) (TRef.of (T := ⟨S3x4096, .i32⟩) main_v213) (fun x y u v j => (Host.argReduce reducer_argmax_f32_i32 x y u v reducesTo_S3x4096x2000_S3x4096_d2 h_S_ j).2),
    unary main_v213 main_v214 ((transpose S4096x3 [1, 0] · transposes_S3x4096_S4096x3_1_0) : T F S3x4096 .i32 → T F S4096x3 .i32) ]

/-- The log-probabilities of the masked edges. -/
abbrev opsM : List (HloOp τ sig (Elt F)) :=
  [ nullary main_v215 (iotaInDim S2000 32 0),
    unary main_v215 main_v216 (broadcastInDim S1x1x2000 ![2] bcast_S2000_S1x1x2000_2 : T F S2000 .i32 → T F S1x1x2000 .i32),
    unary main_v214 main_v217 (broadcastInDim S4096x3x1 ![0, 1] bcast_S4096x3_S4096x3x1_0_1 : T F S4096x3 .i32 → T F S4096x3x1 .i32),
    unary main_v216 main_v218 (broadcastInDim S4096x3x2000 ![0, 1, 2] bcast_S1x1x2000_S4096x3x2000_0_1_2 : T F S1x1x2000 .i32 → T F S4096x3x2000 .i32),
    unary main_v217 main_v219 (broadcastInDim S4096x3x2000 ![0, 1, 2] bcast_S4096x3x1_S4096x3x2000_0_1_2 : T F S4096x3x1 .i32 → T F S4096x3x2000 .i32),
    binary main_v218 main_v219 main_v220 (cmpi .ne : T F S4096x3x2000 .i32 → T F S4096x3x2000 .i32 → T F S4096x3x2000 .i1),
    unary main_arg4 main_v221 (broadcastInDim S4096x1x2000 ![0, 2] bcast_S4096x2000_S4096x1x2000_0_2 : T F S4096x2000 .f32 → T F S4096x1x2000 .f32),
    unary main_v221 main_v222 (broadcastInDim S4096x3x2000 ![0, 1, 2] bcast_S4096x1x2000_S4096x3x2000_0_1_2 : T F S4096x1x2000 .f32 → T F S4096x3x2000 .f32),
    nullary main_cst_54 (constant S_ .f32 0x3089705F#32),
    TRef.unary (TRef.of (T := ⟨S_, .f32⟩) main_cst_54) (TRef.of (T := ⟨S_, .f32⟩) main_call2_v0) id,
    TRef.unary (TRef.of (T := ⟨S_, .f32⟩) main_call2_v0) (TRef.of (T := ⟨S4096x3x2000, .f32⟩) main_call2_v1) (broadcastInDim S4096x3x2000 ![] bcast_S_S4096x3x2000),
    TRef.ternary (TRef.of (T := ⟨S4096x3x2000, .i1⟩) main_v220) (TRef.of (T := ⟨S4096x3x2000, .f32⟩) main_v222) (TRef.of (T := ⟨S4096x3x2000, .f32⟩) main_call2_v1) (TRef.of (T := ⟨S4096x3x2000, .f32⟩) main_v223) select,
    nullary main_cst_55 (constant S_ .f32 0x00000000#32),
    binary main_v223 main_cst_55 main_v224 ((fun x v => Host.reduceAdd x v reducesTo_S4096x3x2000_S4096x3_d2 h_S_) : T F S4096x3x2000 .f32 → T F S_ .f32 → T F S4096x3 .f32),
    unary main_v224 main_v225 (broadcastInDim S4096x3x1 ![0, 1] bcast_S4096x3_S4096x3x1_0_1 : T F S4096x3 .f32 → T F S4096x3x1 .f32),
    unary main_v225 main_v226 (broadcastInDim S4096x3x2000 ![0, 1, 2] bcast_S4096x3x1_S4096x3x2000_0_1_2 : T F S4096x3x1 .f32 → T F S4096x3x2000 .f32),
    binary main_v223 main_v226 main_v227 (Host.divf : T F S4096x3x2000 .f32 → T F S4096x3x2000 .f32 → T F S4096x3x2000 .f32),
    unary main_v227 main_v228 (Host.log : T F S4096x3x2000 .f32 → T F S4096x3x2000 .f32) ]

/-- The scores of the edge head. -/
abbrev opsE : List (HloOp τ sig (Elt F)) :=
  [ unary main_v198 main_v229 ((extractStridedSlice S1x24576000 ![2, 0] · slices_S3x24576000_S1x24576000_2_0) : T F S3x24576000 .f32 → T F S1x24576000 .f32),
    reshape main_v229 main_v230 (rfl : (.f32 : EltTy) = .f32) shapeCasts_S1x24576000_S24576000,
    reshape main_v230 main_v231 (rfl : (.f32 : EltTy) = .f32) shapeCasts_S24576000_S4096x3x2000,
    binary main_v231 main_v228 main_v232 (addf : T F S4096x3x2000 .f32 → T F S4096x3x2000 .f32 → T F S4096x3x2000 .f32) ]

/-- The log-softmax of the backtrack head. -/
abbrev opsL1 : List (HloOp τ sig (Elt F)) :=
  [ TRef.nullary (TRef.of (T := ⟨S_, .f32⟩) main_call3_cst) (constant S_ .f32 0xFF800000#32),
    TRef.binary (TRef.of (T := ⟨S4096x2000, .f32⟩) main_arg2) (TRef.of (T := ⟨S_, .f32⟩) main_call3_cst) (TRef.of (T := ⟨S4096, .f32⟩) main_call3_v0) (fun x v => Host.reduce FloatOps.maximumf x v reducesTo_S4096x2000_S4096_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S4096, .f32⟩) main_call3_v1) (broadcastInDim S4096 ![] bcast_S_S4096),
    TRef.binary (TRef.of (T := ⟨S4096, .f32⟩) main_call3_v1) (TRef.of (T := ⟨S4096, .f32⟩) main_call3_v0) (TRef.of (T := ⟨S4096, .f32⟩) main_call3_v2) maximumf,
    TRef.unary (TRef.of (T := ⟨S4096, .f32⟩) main_call3_v2) (TRef.of (T := ⟨S4096x1, .f32⟩) main_call3_v3) (broadcastInDim S4096x1 ![0] bcast_S4096_S4096x1_0),
    TRef.unary (TRef.of (T := ⟨S4096x1, .f32⟩) main_call3_v3) (TRef.of (T := ⟨S4096x2000, .f32⟩) main_call3_v4) (broadcastInDim S4096x2000 ![0, 1] bcast_S4096x1_S4096x2000_0_1),
    TRef.binary (TRef.of (T := ⟨S4096x2000, .f32⟩) main_arg2) (TRef.of (T := ⟨S4096x2000, .f32⟩) main_call3_v4) (TRef.of (T := ⟨S4096x2000, .f32⟩) main_call3_v5) subf,
    TRef.unary (TRef.of (T := ⟨S4096x2000, .f32⟩) main_call3_v5) (TRef.of (T := ⟨S4096x2000, .f32⟩) main_call3_v6) Host.exp,
    TRef.nullary (TRef.of (T := ⟨S_, .f32⟩) main_call3_cst_1) (constant S_ .f32 0x00000000#32),
    TRef.binary (TRef.of (T := ⟨S4096x2000, .f32⟩) main_call3_v6) (TRef.of (T := ⟨S_, .f32⟩) main_call3_cst_1) (TRef.of (T := ⟨S4096, .f32⟩) main_call3_v7) (fun x v => Host.reduceAdd x v reducesTo_S4096x2000_S4096_d1 h_S_),
    TRef.unary (TRef.of (T := ⟨S4096, .f32⟩) main_call3_v7) (TRef.of (T := ⟨S4096x1, .f32⟩) main_call3_v8) (broadcastInDim S4096x1 ![0] bcast_S4096_S4096x1_0),
    TRef.unary (TRef.of (T := ⟨S4096x1, .f32⟩) main_call3_v8) (TRef.of (T := ⟨S4096x1, .f32⟩) main_call3_v9) Host.log,
    TRef.unary (TRef.of (T := ⟨S4096x1, .f32⟩) main_call3_v9) (TRef.of (T := ⟨S4096x2000, .f32⟩) main_call3_v10) (broadcastInDim S4096x2000 ![0, 1] bcast_S4096x1_S4096x2000_0_1),
    TRef.binary (TRef.of (T := ⟨S4096x2000, .f32⟩) main_call3_v5) (TRef.of (T := ⟨S4096x2000, .f32⟩) main_call3_v10) (TRef.of (T := ⟨S4096x2000, .f32⟩) main_v233) subf ]

/-- The backtrack draws. -/
abbrev opsD1 : List (HloOp τ sig (Elt F)) :=
  [ TRef.nullary (TRef.of (T := ⟨S3x4096x2000, .i32⟩) main_call4_v0) (iotaInDim S3x4096x2000 32 2),
    TRef.nullary (TRef.of (T := ⟨S_, .f32⟩) main_call4_cst) (constant S_ .f32 0xFF800000#32),
    TRef.nullary (TRef.of (T := ⟨S_, .i32⟩) main_call4_c) (constantI S_ 32 0#32),
    TRef.quaternary (TRef.of (T := ⟨S3x4096x2000, .f32⟩) main_v204) (TRef.of (T := ⟨S3x4096x2000, .i32⟩) main_call4_v0) (TRef.of (T := ⟨S_, .f32⟩) main_call4_cst) (TRef.of (T := ⟨S_, .i32⟩) main_call4_c) (TRef.of (T := ⟨S3x4096, .f32⟩) main_call4_v1_0) (fun x y u v j => (Host.argReduce reducer_argmax_f32_i32 x y u v reducesTo_S3x4096x2000_S3x4096_d2 h_S_ j).1),
    TRef.quaternary (TRef.of (T := ⟨S3x4096x2000, .f32⟩) main_v204) (TRef.of (T := ⟨S3x4096x2000, .i32⟩) main_call4_v0) (TRef.of (T := ⟨S_, .f32⟩) main_call4_cst) (TRef.of (T := ⟨S_, .i32⟩) main_call4_c) (TRef.of (T := ⟨S3x4096, .i32⟩) main_v234) (fun x y u v j => (Host.argReduce reducer_argmax_f32_i32 x y u v reducesTo_S3x4096x2000_S3x4096_d2 h_S_ j).2),
    unary main_v234 main_v235 ((transpose S4096x3 [1, 0] · transposes_S3x4096_S4096x3_1_0) : T F S3x4096 .i32 → T F S4096x3 .i32) ]

/-- Their log-probabilities. -/
abbrev opsT1 : List (HloOp τ sig (Elt F)) :=
  [ TRef.nullary (TRef.of (T := ⟨S_, .i32⟩) main_call5_c) (constantI S_ 32 0#32),
    TRef.unary (TRef.of (T := ⟨S_, .i32⟩) main_call5_c) (TRef.of (T := ⟨S4096x3, .i32⟩) main_call5_v0) (broadcastInDim S4096x3 ![] bcast_S_S4096x3),
    TRef.binary (TRef.of (T := ⟨S4096x3, .i32⟩) main_v235) (TRef.of (T := ⟨S4096x3, .i32⟩) main_call5_v0) (TRef.of (T := ⟨S4096x3, .i1⟩) main_call5_v1) (cmpi .slt),
    TRef.nullary (TRef.of (T := ⟨S_, .i32⟩) main_call5_c_0) (constantI S_ 32 2000#32),
    TRef.unary (TRef.of (T := ⟨S_, .i32⟩) main_call5_c_0) (TRef.of (T := ⟨S4096x3, .i32⟩) main_call5_v2) (broadcastInDim S4096x3 ![] bcast_S_S4096x3),
    TRef.binary (TRef.of (T := ⟨S4096x3, .i32⟩) main_v235) (TRef.of (T := ⟨S4096x3, .i32⟩) main_call5_v2) (TRef.of (T := ⟨S4096x3, .i32⟩) main_call5_v3) addi,
    TRef.ternary (TRef.of (T := ⟨S4096x3, .i1⟩) main_call5_v1) (TRef.of (T := ⟨S4096x3, .i32⟩) main_call5_v3) (TRef.of (T := ⟨S4096x3, .i32⟩) main_v235) (TRef.of (T := ⟨S4096x3, .i32⟩) main_call5_v4) select,
    TRef.reshape (TRef.of (T := ⟨S4096x3, .i32⟩) main_call5_v4) (TRef.of (T := ⟨S4096x3x1, .i32⟩) main_call5_v5) (rfl : (.i32 : EltTy) = .i32) shapeCasts_S4096x3_S4096x3x1,
    TRef.nullary (TRef.of (T := ⟨S1, .i32⟩) main_call5_c_1) (constantI S1 32 1999#32),
    TRef.nullary (TRef.of (T := ⟨S_, .i32⟩) main_call5_c_2) (constantI S_ 32 0#32),
    TRef.unary (TRef.of (T := ⟨S_, .i32⟩) main_call5_c_2) (TRef.of (T := ⟨S4096x3x1, .i32⟩) main_call5_v6) (broadcastInDim S4096x3x1 ![] bcast_S_S4096x3x1),
    TRef.binary (TRef.of (T := ⟨S4096x3x1, .i32⟩) main_call5_v5) (TRef.of (T := ⟨S4096x3x1, .i32⟩) main_call5_v6) (TRef.of (T := ⟨S4096x3x1, .i1⟩) main_call5_v7) (cmpi .sge),
    TRef.unary (TRef.of (T := ⟨S1, .i32⟩) main_call5_c_1) (TRef.of (T := ⟨S1x1x1, .i32⟩) main_call5_v8) (broadcastInDim S1x1x1 ![2] bcast_S1_S1x1x1_2),
    TRef.unary (TRef.of (T := ⟨S1x1x1, .i32⟩) main_call5_v8) (TRef.of (T := ⟨S4096x3x1, .i32⟩) main_call5_v9) (broadcastInDim S4096x3x1 ![0, 1, 2] bcast_S1x1x1_S4096x3x1_0_1_2),
    TRef.binary (TRef.of (T := ⟨S4096x3x1, .i32⟩) main_call5_v5) (TRef.of (T := ⟨S4096x3x1, .i32⟩) main_call5_v9) (TRef.of (T := ⟨S4096x3x1, .i1⟩) main_call5_v10) (cmpi .sle),
    TRef.binary (TRef.of (T := ⟨S4096x3x1, .i1⟩) main_call5_v7) (TRef.of (T := ⟨S4096x3x1, .i1⟩) main_call5_v10) (TRef.of (T := ⟨S4096x3x1, .i1⟩) main_call5_v11) andi,
    TRef.nullary (TRef.of (T := ⟨S_, .i1⟩) main_call5_c_3) (constantI S_ 1 1#1),
    TRef.binary (TRef.of (T := ⟨S4096x3x1, .i1⟩) main_call5_v11) (TRef.of (T := ⟨S_, .i1⟩) main_call5_c_3) (TRef.of (T := ⟨S4096x3, .i1⟩) main_call5_v12) (fun x v => Host.reduce IntOp.andi x v reducesTo_S4096x3x1_S4096x3_d2 h_S_),
    TRef.binary (TRef.of (T := ⟨S4096x2000, .f32⟩) main_v233) (TRef.of (T := ⟨S4096x3x1, .i32⟩) main_call5_v5) (TRef.of (T := ⟨S4096x3, .f32⟩) main_call5_v13) (fun x i => Host.gather gather_S4096x2000_S4096x3x1_S4096x3_n_1_0_0_1_2_11 x i),
    TRef.nullary (TRef.of (T := ⟨S_, .f32⟩) main_call5_cst) (constant S_ .f32 0x7FC00000#32),
    TRef.unary (TRef.of (T := ⟨S_, .f32⟩) main_call5_cst) (TRef.of (T := ⟨S4096x3, .f32⟩) main_call5_v14) (broadcastInDim S4096x3 ![] bcast_S_S4096x3),
    TRef.ternary (TRef.of (T := ⟨S4096x3, .i1⟩) main_call5_v12) (TRef.of (T := ⟨S4096x3, .f32⟩) main_call5_v13) (TRef.of (T := ⟨S4096x3, .f32⟩) main_call5_v14) (TRef.of (T := ⟨S4096x3, .f32⟩) main_v236) select ]

/-- The log-softmax of the city head. -/
abbrev opsL2 : List (HloOp τ sig (Elt F)) :=
  [ TRef.nullary (TRef.of (T := ⟨S_, .f32⟩) main_call6_cst) (constant S_ .f32 0xFF800000#32),
    TRef.binary (TRef.of (T := ⟨S4096x2000, .f32⟩) main_arg3) (TRef.of (T := ⟨S_, .f32⟩) main_call6_cst) (TRef.of (T := ⟨S4096, .f32⟩) main_call6_v0) (fun x v => Host.reduce FloatOps.maximumf x v reducesTo_S4096x2000_S4096_d1 h_S_),
    TRef.nullary (TRef.of (T := ⟨S_, .f32⟩) main_call6_cst_0) (constant S_ .f32 0xFF800000#32),
    TRef.unary (TRef.of (T := ⟨S_, .f32⟩) main_call6_cst_0) (TRef.of (T := ⟨S4096, .f32⟩) main_call6_v1) (broadcastInDim S4096 ![] bcast_S_S4096),
    TRef.binary (TRef.of (T := ⟨S4096, .f32⟩) main_call6_v1) (TRef.of (T := ⟨S4096, .f32⟩) main_call6_v0) (TRef.of (T := ⟨S4096, .f32⟩) main_call6_v2) maximumf,
    TRef.unary (TRef.of (T := ⟨S4096, .f32⟩) main_call6_v2) (TRef.of (T := ⟨S4096x1, .f32⟩) main_call6_v3) (broadcastInDim S4096x1 ![0] bcast_S4096_S4096x1_0),
    TRef.unary (TRef.of (T := ⟨S4096x1, .f32⟩) main_call6_v3) (TRef.of (T := ⟨S4096x2000, .f32⟩) main_call6_v4) (broadcastInDim S4096x2000 ![0, 1] bcast_S4096x1_S4096x2000_0_1),
    TRef.binary (TRef.of (T := ⟨S4096x2000, .f32⟩) main_arg3) (TRef.of (T := ⟨S4096x2000, .f32⟩) main_call6_v4) (TRef.of (T := ⟨S4096x2000, .f32⟩) main_call6_v5) subf,
    TRef.unary (TRef.of (T := ⟨S4096x2000, .f32⟩) main_call6_v5) (TRef.of (T := ⟨S4096x2000, .f32⟩) main_call6_v6) Host.exp,
    TRef.nullary (TRef.of (T := ⟨S_, .f32⟩) main_call6_cst_1) (constant S_ .f32 0x00000000#32),
    TRef.binary (TRef.of (T := ⟨S4096x2000, .f32⟩) main_call6_v6) (TRef.of (T := ⟨S_, .f32⟩) main_call6_cst_1) (TRef.of (T := ⟨S4096, .f32⟩) main_call6_v7) (fun x v => Host.reduceAdd x v reducesTo_S4096x2000_S4096_d1 h_S_),
    TRef.unary (TRef.of (T := ⟨S4096, .f32⟩) main_call6_v7) (TRef.of (T := ⟨S4096x1, .f32⟩) main_call6_v8) (broadcastInDim S4096x1 ![0] bcast_S4096_S4096x1_0),
    TRef.unary (TRef.of (T := ⟨S4096x1, .f32⟩) main_call6_v8) (TRef.of (T := ⟨S4096x1, .f32⟩) main_call6_v9) Host.log,
    TRef.unary (TRef.of (T := ⟨S4096x1, .f32⟩) main_call6_v9) (TRef.of (T := ⟨S4096x2000, .f32⟩) main_call6_v10) (broadcastInDim S4096x2000 ![0, 1] bcast_S4096x1_S4096x2000_0_1),
    TRef.binary (TRef.of (T := ⟨S4096x2000, .f32⟩) main_call6_v5) (TRef.of (T := ⟨S4096x2000, .f32⟩) main_call6_v10) (TRef.of (T := ⟨S4096x2000, .f32⟩) main_v237) subf ]

/-- The city draws. -/
abbrev opsD2 : List (HloOp τ sig (Elt F)) :=
  [ TRef.nullary (TRef.of (T := ⟨S3x4096x2000, .i32⟩) main_call7_v0) (iotaInDim S3x4096x2000 32 2),
    TRef.nullary (TRef.of (T := ⟨S_, .f32⟩) main_call7_cst) (constant S_ .f32 0xFF800000#32),
    TRef.nullary (TRef.of (T := ⟨S_, .i32⟩) main_call7_c) (constantI S_ 32 0#32),
    TRef.quaternary (TRef.of (T := ⟨S3x4096x2000, .f32⟩) main_v212) (TRef.of (T := ⟨S3x4096x2000, .i32⟩) main_call7_v0) (TRef.of (T := ⟨S_, .f32⟩) main_call7_cst) (TRef.of (T := ⟨S_, .i32⟩) main_call7_c) (TRef.of (T := ⟨S3x4096, .f32⟩) main_call7_v1_0) (fun x y u v j => (Host.argReduce reducer_argmax_f32_i32 x y u v reducesTo_S3x4096x2000_S3x4096_d2 h_S_ j).1),
    TRef.quaternary (TRef.of (T := ⟨S3x4096x2000, .f32⟩) main_v212) (TRef.of (T := ⟨S3x4096x2000, .i32⟩) main_call7_v0) (TRef.of (T := ⟨S_, .f32⟩) main_call7_cst) (TRef.of (T := ⟨S_, .i32⟩) main_call7_c) (TRef.of (T := ⟨S3x4096, .i32⟩) main_v238) (fun x y u v j => (Host.argReduce reducer_argmax_f32_i32 x y u v reducesTo_S3x4096x2000_S3x4096_d2 h_S_ j).2),
    unary main_v238 main_v239 ((transpose S4096x3 [1, 0] · transposes_S3x4096_S4096x3_1_0) : T F S3x4096 .i32 → T F S4096x3 .i32) ]

/-- Their log-probabilities. -/
abbrev opsT2 : List (HloOp τ sig (Elt F)) :=
  [ TRef.nullary (TRef.of (T := ⟨S_, .i32⟩) main_call8_c) (constantI S_ 32 0#32),
    TRef.unary (TRef.of (T := ⟨S_, .i32⟩) main_call8_c) (TRef.of (T := ⟨S4096x3, .i32⟩) main_call8_v0) (broadcastInDim S4096x3 ![] bcast_S_S4096x3),
    TRef.binary (TRef.of (T := ⟨S4096x3, .i32⟩) main_v239) (TRef.of (T := ⟨S4096x3, .i32⟩) main_call8_v0) (TRef.of (T := ⟨S4096x3, .i1⟩) main_call8_v1) (cmpi .slt),
    TRef.nullary (TRef.of (T := ⟨S_, .i32⟩) main_call8_c_0) (constantI S_ 32 2000#32),
    TRef.unary (TRef.of (T := ⟨S_, .i32⟩) main_call8_c_0) (TRef.of (T := ⟨S4096x3, .i32⟩) main_call8_v2) (broadcastInDim S4096x3 ![] bcast_S_S4096x3),
    TRef.binary (TRef.of (T := ⟨S4096x3, .i32⟩) main_v239) (TRef.of (T := ⟨S4096x3, .i32⟩) main_call8_v2) (TRef.of (T := ⟨S4096x3, .i32⟩) main_call8_v3) addi,
    TRef.ternary (TRef.of (T := ⟨S4096x3, .i1⟩) main_call8_v1) (TRef.of (T := ⟨S4096x3, .i32⟩) main_call8_v3) (TRef.of (T := ⟨S4096x3, .i32⟩) main_v239) (TRef.of (T := ⟨S4096x3, .i32⟩) main_call8_v4) select,
    TRef.reshape (TRef.of (T := ⟨S4096x3, .i32⟩) main_call8_v4) (TRef.of (T := ⟨S4096x3x1, .i32⟩) main_call8_v5) (rfl : (.i32 : EltTy) = .i32) shapeCasts_S4096x3_S4096x3x1,
    TRef.nullary (TRef.of (T := ⟨S1, .i32⟩) main_call8_c_1) (constantI S1 32 1999#32),
    TRef.nullary (TRef.of (T := ⟨S_, .i32⟩) main_call8_c_2) (constantI S_ 32 0#32),
    TRef.unary (TRef.of (T := ⟨S_, .i32⟩) main_call8_c_2) (TRef.of (T := ⟨S4096x3x1, .i32⟩) main_call8_v6) (broadcastInDim S4096x3x1 ![] bcast_S_S4096x3x1),
    TRef.binary (TRef.of (T := ⟨S4096x3x1, .i32⟩) main_call8_v5) (TRef.of (T := ⟨S4096x3x1, .i32⟩) main_call8_v6) (TRef.of (T := ⟨S4096x3x1, .i1⟩) main_call8_v7) (cmpi .sge),
    TRef.unary (TRef.of (T := ⟨S1, .i32⟩) main_call8_c_1) (TRef.of (T := ⟨S1x1x1, .i32⟩) main_call8_v8) (broadcastInDim S1x1x1 ![2] bcast_S1_S1x1x1_2),
    TRef.unary (TRef.of (T := ⟨S1x1x1, .i32⟩) main_call8_v8) (TRef.of (T := ⟨S4096x3x1, .i32⟩) main_call8_v9) (broadcastInDim S4096x3x1 ![0, 1, 2] bcast_S1x1x1_S4096x3x1_0_1_2),
    TRef.binary (TRef.of (T := ⟨S4096x3x1, .i32⟩) main_call8_v5) (TRef.of (T := ⟨S4096x3x1, .i32⟩) main_call8_v9) (TRef.of (T := ⟨S4096x3x1, .i1⟩) main_call8_v10) (cmpi .sle),
    TRef.binary (TRef.of (T := ⟨S4096x3x1, .i1⟩) main_call8_v7) (TRef.of (T := ⟨S4096x3x1, .i1⟩) main_call8_v10) (TRef.of (T := ⟨S4096x3x1, .i1⟩) main_call8_v11) andi,
    TRef.nullary (TRef.of (T := ⟨S_, .i1⟩) main_call8_c_3) (constantI S_ 1 1#1),
    TRef.binary (TRef.of (T := ⟨S4096x3x1, .i1⟩) main_call8_v11) (TRef.of (T := ⟨S_, .i1⟩) main_call8_c_3) (TRef.of (T := ⟨S4096x3, .i1⟩) main_call8_v12) (fun x v => Host.reduce IntOp.andi x v reducesTo_S4096x3x1_S4096x3_d2 h_S_),
    TRef.binary (TRef.of (T := ⟨S4096x2000, .f32⟩) main_v237) (TRef.of (T := ⟨S4096x3x1, .i32⟩) main_call8_v5) (TRef.of (T := ⟨S4096x3, .f32⟩) main_call8_v13) (fun x i => Host.gather gather_S4096x2000_S4096x3x1_S4096x3_n_1_0_0_1_2_11 x i),
    TRef.nullary (TRef.of (T := ⟨S_, .f32⟩) main_call8_cst) (constant S_ .f32 0x7FC00000#32),
    TRef.unary (TRef.of (T := ⟨S_, .f32⟩) main_call8_cst) (TRef.of (T := ⟨S4096x3, .f32⟩) main_call8_v14) (broadcastInDim S4096x3 ![] bcast_S_S4096x3),
    TRef.ternary (TRef.of (T := ⟨S4096x3, .i1⟩) main_call8_v12) (TRef.of (T := ⟨S4096x3, .f32⟩) main_call8_v13) (TRef.of (T := ⟨S4096x3, .f32⟩) main_call8_v14) (TRef.of (T := ⟨S4096x3, .f32⟩) main_v240) select ]

/-- The edge draws. -/
abbrev opsD3 : List (HloOp τ sig (Elt F)) :=
  [ TRef.nullary (TRef.of (T := ⟨S4096x3x2000, .i32⟩) main_call9_v0) (iotaInDim S4096x3x2000 32 2),
    TRef.nullary (TRef.of (T := ⟨S_, .f32⟩) main_call9_cst) (constant S_ .f32 0xFF800000#32),
    TRef.nullary (TRef.of (T := ⟨S_, .i32⟩) main_call9_c) (constantI S_ 32 0#32),
    TRef.quaternary (TRef.of (T := ⟨S4096x3x2000, .f32⟩) main_v232) (TRef.of (T := ⟨S4096x3x2000, .i32⟩) main_call9_v0) (TRef.of (T := ⟨S_, .f32⟩) main_call9_cst) (TRef.of (T := ⟨S_, .i32⟩) main_call9_c) (TRef.of (T := ⟨S4096x3, .f32⟩) main_call9_v1_0) (fun x y u v j => (Host.argReduce reducer_argmax_f32_i32 x y u v reducesTo_S4096x3x2000_S4096x3_d2 h_S_ j).1),
    TRef.quaternary (TRef.of (T := ⟨S4096x3x2000, .f32⟩) main_v232) (TRef.of (T := ⟨S4096x3x2000, .i32⟩) main_call9_v0) (TRef.of (T := ⟨S_, .f32⟩) main_call9_cst) (TRef.of (T := ⟨S_, .i32⟩) main_call9_c) (TRef.of (T := ⟨S4096x3, .i32⟩) main_v241) (fun x y u v j => (Host.argReduce reducer_argmax_f32_i32 x y u v reducesTo_S4096x3x2000_S4096x3_d2 h_S_ j).2) ]

/-- Their log-probabilities. -/
abbrev opsT3 : List (HloOp τ sig (Elt F)) :=
  [ unary main_v241 main_v242 (broadcastInDim S4096x3x1 ![0, 1] bcast_S4096x3_S4096x3x1_0_1 : T F S4096x3 .i32 → T F S4096x3x1 .i32),
    TRef.nullary (TRef.of (T := ⟨S_, .i32⟩) main_call10_c) (constantI S_ 32 0#32),
    TRef.unary (TRef.of (T := ⟨S_, .i32⟩) main_call10_c) (TRef.of (T := ⟨S4096x3x1, .i32⟩) main_call10_v0) (broadcastInDim S4096x3x1 ![] bcast_S_S4096x3x1),
    TRef.binary (TRef.of (T := ⟨S4096x3x1, .i32⟩) main_v242) (TRef.of (T := ⟨S4096x3x1, .i32⟩) main_call10_v0) (TRef.of (T := ⟨S4096x3x1, .i1⟩) main_call10_v1) (cmpi .slt),
    TRef.nullary (TRef.of (T := ⟨S_, .i32⟩) main_call10_c_0) (constantI S_ 32 2000#32),
    TRef.unary (TRef.of (T := ⟨S_, .i32⟩) main_call10_c_0) (TRef.of (T := ⟨S4096x3x1, .i32⟩) main_call10_v2) (broadcastInDim S4096x3x1 ![] bcast_S_S4096x3x1),
    TRef.binary (TRef.of (T := ⟨S4096x3x1, .i32⟩) main_v242) (TRef.of (T := ⟨S4096x3x1, .i32⟩) main_call10_v2) (TRef.of (T := ⟨S4096x3x1, .i32⟩) main_call10_v3) addi,
    TRef.ternary (TRef.of (T := ⟨S4096x3x1, .i1⟩) main_call10_v1) (TRef.of (T := ⟨S4096x3x1, .i32⟩) main_call10_v3) (TRef.of (T := ⟨S4096x3x1, .i32⟩) main_v242) (TRef.of (T := ⟨S4096x3x1, .i32⟩) main_call10_v4) select,
    TRef.reshape (TRef.of (T := ⟨S4096x3x1, .i32⟩) main_call10_v4) (TRef.of (T := ⟨S4096x3x1x1, .i32⟩) main_call10_v5) (rfl : (.i32 : EltTy) = .i32) shapeCasts_S4096x3x1_S4096x3x1x1,
    TRef.nullary (TRef.of (T := ⟨S1, .i32⟩) main_call10_c_1) (constantI S1 32 1999#32),
    TRef.nullary (TRef.of (T := ⟨S_, .i32⟩) main_call10_c_2) (constantI S_ 32 0#32),
    TRef.unary (TRef.of (T := ⟨S_, .i32⟩) main_call10_c_2) (TRef.of (T := ⟨S4096x3x1x1, .i32⟩) main_call10_v6) (broadcastInDim S4096x3x1x1 ![] bcast_S_S4096x3x1x1),
    TRef.binary (TRef.of (T := ⟨S4096x3x1x1, .i32⟩) main_call10_v5) (TRef.of (T := ⟨S4096x3x1x1, .i32⟩) main_call10_v6) (TRef.of (T := ⟨S4096x3x1x1, .i1⟩) main_call10_v7) (cmpi .sge),
    TRef.unary (TRef.of (T := ⟨S1, .i32⟩) main_call10_c_1) (TRef.of (T := ⟨S1x1x1x1, .i32⟩) main_call10_v8) (broadcastInDim S1x1x1x1 ![3] bcast_S1_S1x1x1x1_3),
    TRef.unary (TRef.of (T := ⟨S1x1x1x1, .i32⟩) main_call10_v8) (TRef.of (T := ⟨S4096x3x1x1, .i32⟩) main_call10_v9) (broadcastInDim S4096x3x1x1 ![0, 1, 2, 3] bcast_S1x1x1x1_S4096x3x1x1_0_1_2_3),
    TRef.binary (TRef.of (T := ⟨S4096x3x1x1, .i32⟩) main_call10_v5) (TRef.of (T := ⟨S4096x3x1x1, .i32⟩) main_call10_v9) (TRef.of (T := ⟨S4096x3x1x1, .i1⟩) main_call10_v10) (cmpi .sle),
    TRef.binary (TRef.of (T := ⟨S4096x3x1x1, .i1⟩) main_call10_v7) (TRef.of (T := ⟨S4096x3x1x1, .i1⟩) main_call10_v10) (TRef.of (T := ⟨S4096x3x1x1, .i1⟩) main_call10_v11) andi,
    TRef.nullary (TRef.of (T := ⟨S_, .i1⟩) main_call10_c_3) (constantI S_ 1 1#1),
    TRef.binary (TRef.of (T := ⟨S4096x3x1x1, .i1⟩) main_call10_v11) (TRef.of (T := ⟨S_, .i1⟩) main_call10_c_3) (TRef.of (T := ⟨S4096x3x1, .i1⟩) main_call10_v12) (fun x v => Host.reduce IntOp.andi x v reducesTo_S4096x3x1x1_S4096x3x1_d3 h_S_),
    TRef.binary (TRef.of (T := ⟨S4096x3x2000, .f32⟩) main_v228) (TRef.of (T := ⟨S4096x3x1x1, .i32⟩) main_call10_v5) (TRef.of (T := ⟨S4096x3x1, .f32⟩) main_call10_v13) (fun x i => Host.gather gather_S4096x3x2000_S4096x3x1x1_S4096x3x1_n_2_01_01_2_3_111 x i),
    TRef.nullary (TRef.of (T := ⟨S_, .f32⟩) main_call10_cst) (constant S_ .f32 0x7FC00000#32),
    TRef.unary (TRef.of (T := ⟨S_, .f32⟩) main_call10_cst) (TRef.of (T := ⟨S4096x3x1, .f32⟩) main_call10_v14) (broadcastInDim S4096x3x1 ![] bcast_S_S4096x3x1),
    TRef.ternary (TRef.of (T := ⟨S4096x3x1, .i1⟩) main_call10_v12) (TRef.of (T := ⟨S4096x3x1, .f32⟩) main_call10_v13) (TRef.of (T := ⟨S4096x3x1, .f32⟩) main_call10_v14) (TRef.of (T := ⟨S4096x3x1, .f32⟩) main_v243) select,
    reshape main_v243 main_v244 (rfl : (.f32 : EltTy) = .f32) shapeCasts_S4096x3x1_S4096x3 ]

/-- Where the tours hold the nodes drawn. -/
abbrev opsA : List (HloOp τ sig (Elt F)) :=
  [ unary main_arg0 main_v245 (broadcastInDim S4096x1x2000 ![0, 2] bcast_S4096x2000_S4096x1x2000_0_2 : T F S4096x2000 .i32 → T F S4096x1x2000 .i32),
    unary main_v245 main_v246 (broadcastInDim S4096x3x2000 ![0, 1, 2] bcast_S4096x1x2000_S4096x3x2000_0_1_2 : T F S4096x1x2000 .i32 → T F S4096x3x2000 .i32),
    unary main_v241 main_v247 (broadcastInDim S4096x3x1 ![0, 1] bcast_S4096x3_S4096x3x1_0_1 : T F S4096x3 .i32 → T F S4096x3x1 .i32),
    unary main_v247 main_v248 (broadcastInDim S4096x3x2000 ![0, 1, 2] bcast_S4096x3x1_S4096x3x2000_0_1_2 : T F S4096x3x1 .i32 → T F S4096x3x2000 .i32),
    binary main_v246 main_v248 main_v249 (cmpi .eq : T F S4096x3x2000 .i32 → T F S4096x3x2000 .i32 → T F S4096x3x2000 .i1),
    unary main_v249 main_v250 ((extui 32 · natLt_1_32) : T F S4096x3x2000 .i1 → T F S4096x3x2000 .i32) ]

/-- The first such place. -/
abbrev opsP : List (HloOp τ sig (Elt F)) :=
  [ TRef.nullary (TRef.of (T := ⟨S4096x3x2000, .i32⟩) main_call11_v0) (iotaInDim S4096x3x2000 32 2),
    TRef.nullary (TRef.of (T := ⟨S_, .i32⟩) main_call11_c) (constantI S_ 32 2147483648#32),
    TRef.nullary (TRef.of (T := ⟨S_, .i32⟩) main_call11_c_0) (constantI S_ 32 0#32),
    TRef.quaternary (TRef.of (T := ⟨S4096x3x2000, .i32⟩) main_v250) (TRef.of (T := ⟨S4096x3x2000, .i32⟩) main_call11_v0) (TRef.of (T := ⟨S_, .i32⟩) main_call11_c) (TRef.of (T := ⟨S_, .i32⟩) main_call11_c_0) (TRef.of (T := ⟨S4096x3, .i32⟩) main_call11_v1_0) (fun x y u v j => (Host.reduce2 reducer_argmax_i32_i32 x y u v reducesTo_S4096x3x2000_S4096x3_d2 h_S_ j).1),
    TRef.quaternary (TRef.of (T := ⟨S4096x3x2000, .i32⟩) main_v250) (TRef.of (T := ⟨S4096x3x2000, .i32⟩) main_call11_v0) (TRef.of (T := ⟨S_, .i32⟩) main_call11_c) (TRef.of (T := ⟨S_, .i32⟩) main_call11_c_0) (TRef.of (T := ⟨S4096x3, .i32⟩) main_v251) (fun x y u v j => (Host.reduce2 reducer_argmax_i32_i32 x y u v reducesTo_S4096x3x2000_S4096x3_d2 h_S_ j).2) ]

/-- The place after it, round the tour. -/
abbrev opsX : List (HloOp τ sig (Elt F)) :=
  [ nullary main_c_56 (constantI S_ 32 1#32),
    unary main_c_56 main_v252 (broadcastInDim S4096x3 ![] bcast_S_S4096x3 : T F S_ .i32 → T F S4096x3 .i32),
    binary main_v251 main_v252 main_v253 (addi : T F S4096x3 .i32 → T F S4096x3 .i32 → T F S4096x3 .i32),
    nullary main_c_57 (constantI S_ 32 2000#32),
    TRef.unary (TRef.of (T := ⟨S_, .i32⟩) main_c_57) (TRef.of (T := ⟨S_, .i32⟩) main_call12_v0) id,
    TRef.nullary (TRef.of (T := ⟨S_, .i32⟩) main_call12_c) (constantI S_ 32 0#32),
    TRef.binary (TRef.of (T := ⟨S_, .i32⟩) main_call12_v0) (TRef.of (T := ⟨S_, .i32⟩) main_call12_c) (TRef.of (T := ⟨S_, .i1⟩) main_call12_v1) (cmpi .eq),
    TRef.nullary (TRef.of (T := ⟨S_, .i32⟩) main_call12_c_0) (constantI S_ 32 1#32),
    TRef.ternary (TRef.of (T := ⟨S_, .i1⟩) main_call12_v1) (TRef.of (T := ⟨S_, .i32⟩) main_call12_c_0) (TRef.of (T := ⟨S_, .i32⟩) main_call12_v0) (TRef.of (T := ⟨S_, .i32⟩) main_call12_v2) select,
    TRef.unary (TRef.of (T := ⟨S_, .i32⟩) main_call12_v2) (TRef.of (T := ⟨S4096x3, .i32⟩) main_call12_v3) (broadcastInDim S4096x3 ![] bcast_S_S4096x3),
    TRef.binary (TRef.of (T := ⟨S4096x3, .i32⟩) main_v253) (TRef.of (T := ⟨S4096x3, .i32⟩) main_call12_v3) (TRef.of (T := ⟨S4096x3, .i32⟩) main_call12_v4) Host.remsi,
    TRef.nullary (TRef.of (T := ⟨S_, .i32⟩) main_call12_c_1) (constantI S_ 32 0#32),
    TRef.unary (TRef.of (T := ⟨S_, .i32⟩) main_call12_c_1) (TRef.of (T := ⟨S4096x3, .i32⟩) main_call12_v5) (broadcastInDim S4096x3 ![] bcast_S_S4096x3),
    TRef.binary (TRef.of (T := ⟨S4096x3, .i32⟩) main_call12_v4) (TRef.of (T := ⟨S4096x3, .i32⟩) main_call12_v5) (TRef.of (T := ⟨S4096x3, .i1⟩) main_call12_v6) (cmpi .ne),
    TRef.nullary (TRef.of (T := ⟨S_, .i32⟩) main_call12_c_2) (constantI S_ 32 0#32),
    TRef.unary (TRef.of (T := ⟨S_, .i32⟩) main_call12_c_2) (TRef.of (T := ⟨S4096x3, .i32⟩) main_call12_v7) (broadcastInDim S4096x3 ![] bcast_S_S4096x3),
    TRef.binary (TRef.of (T := ⟨S4096x3, .i32⟩) main_call12_v4) (TRef.of (T := ⟨S4096x3, .i32⟩) main_call12_v7) (TRef.of (T := ⟨S4096x3, .i1⟩) main_call12_v8) (cmpi .slt),
    TRef.nullary (TRef.of (T := ⟨S_, .i32⟩) main_call12_c_3) (constantI S_ 32 0#32),
    TRef.binary (TRef.of (T := ⟨S_, .i32⟩) main_call12_v2) (TRef.of (T := ⟨S_, .i32⟩) main_call12_c_3) (TRef.of (T := ⟨S_, .i1⟩) main_call12_v9) (cmpi .slt),
    TRef.unary (TRef.of (T := ⟨S_, .i1⟩) main_call12_v9) (TRef.of (T := ⟨S4096x3, .i1⟩) main_call12_v10) (broadcastInDim S4096x3 ![] bcast_S_S4096x3),
    TRef.binary (TRef.of (T := ⟨S4096x3, .i1⟩) main_call12_v8) (TRef.of (T := ⟨S4096x3, .i1⟩) main_call12_v10) (TRef.of (T := ⟨S4096x3, .i1⟩) main_call12_v11) (cmpi .ne),
    TRef.binary (TRef.of (T := ⟨S4096x3, .i1⟩) main_call12_v11) (TRef.of (T := ⟨S4096x3, .i1⟩) main_call12_v6) (TRef.of (T := ⟨S4096x3, .i1⟩) main_call12_v12) andi,
    TRef.unary (TRef.of (T := ⟨S_, .i32⟩) main_call12_v2) (TRef.of (T := ⟨S4096x3, .i32⟩) main_call12_v13) (broadcastInDim S4096x3 ![] bcast_S_S4096x3),
    TRef.binary (TRef.of (T := ⟨S4096x3, .i32⟩) main_call12_v4) (TRef.of (T := ⟨S4096x3, .i32⟩) main_call12_v13) (TRef.of (T := ⟨S4096x3, .i32⟩) main_call12_v14) addi,
    TRef.ternary (TRef.of (T := ⟨S4096x3, .i1⟩) main_call12_v12) (TRef.of (T := ⟨S4096x3, .i32⟩) main_call12_v14) (TRef.of (T := ⟨S4096x3, .i32⟩) main_call12_v4) (TRef.of (T := ⟨S4096x3, .i32⟩) main_v254) select ]

/-- The nodes at the places. -/
abbrev opsT4 : List (HloOp τ sig (Elt F)) :=
  [ unary main_v251 main_v255 (broadcastInDim S4096x3x1 ![0, 1] bcast_S4096x3_S4096x3x1_0_1 : T F S4096x3 .i32 → T F S4096x3x1 .i32),
    TRef.nullary (TRef.of (T := ⟨S_, .i32⟩) main_call13_c) (constantI S_ 32 0#32),
    TRef.unary (TRef.of (T := ⟨S_, .i32⟩) main_call13_c) (TRef.of (T := ⟨S4096x3x1, .i32⟩) main_call13_v0) (broadcastInDim S4096x3x1 ![] bcast_S_S4096x3x1),
    TRef.binary (TRef.of (T := ⟨S4096x3x1, .i32⟩) main_v255) (TRef.of (T := ⟨S4096x3x1, .i32⟩) main_call13_v0) (TRef.of (T := ⟨S4096x3x1, .i1⟩) main_call13_v1) (cmpi .slt),
    TRef.nullary (TRef.of (T := ⟨S_, .i32⟩) main_call13_c_0) (constantI S_ 32 2000#32),
    TRef.unary (TRef.of (T := ⟨S_, .i32⟩) main_call13_c_0) (TRef.of (T := ⟨S4096x3x1, .i32⟩) main_call13_v2) (broadcastInDim S4096x3x1 ![] bcast_S_S4096x3x1),
    TRef.binary (TRef.of (T := ⟨S4096x3x1, .i32⟩) main_v255) (TRef.of (T := ⟨S4096x3x1, .i32⟩) main_call13_v2) (TRef.of (T := ⟨S4096x3x1, .i32⟩) main_call13_v3) addi,
    TRef.ternary (TRef.of (T := ⟨S4096x3x1, .i1⟩) main_call13_v1) (TRef.of (T := ⟨S4096x3x1, .i32⟩) main_call13_v3) (TRef.of (T := ⟨S4096x3x1, .i32⟩) main_v255) (TRef.of (T := ⟨S4096x3x1, .i32⟩) main_call13_v4) select,
    TRef.reshape (TRef.of (T := ⟨S4096x3x1, .i32⟩) main_call13_v4) (TRef.of (T := ⟨S4096x3x1x1, .i32⟩) main_call13_v5) (rfl : (.i32 : EltTy) = .i32) shapeCasts_S4096x3x1_S4096x3x1x1,
    TRef.nullary (TRef.of (T := ⟨S1, .i32⟩) main_call13_c_1) (constantI S1 32 1999#32),
    TRef.nullary (TRef.of (T := ⟨S_, .i32⟩) main_call13_c_2) (constantI S_ 32 0#32),
    TRef.unary (TRef.of (T := ⟨S_, .i32⟩) main_call13_c_2) (TRef.of (T := ⟨S4096x3x1x1, .i32⟩) main_call13_v6) (broadcastInDim S4096x3x1x1 ![] bcast_S_S4096x3x1x1),
    TRef.binary (TRef.of (T := ⟨S4096x3x1x1, .i32⟩) main_call13_v5) (TRef.of (T := ⟨S4096x3x1x1, .i32⟩) main_call13_v6) (TRef.of (T := ⟨S4096x3x1x1, .i1⟩) main_call13_v7) (cmpi .sge),
    TRef.unary (TRef.of (T := ⟨S1, .i32⟩) main_call13_c_1) (TRef.of (T := ⟨S1x1x1x1, .i32⟩) main_call13_v8) (broadcastInDim S1x1x1x1 ![3] bcast_S1_S1x1x1x1_3),
    TRef.unary (TRef.of (T := ⟨S1x1x1x1, .i32⟩) main_call13_v8) (TRef.of (T := ⟨S4096x3x1x1, .i32⟩) main_call13_v9) (broadcastInDim S4096x3x1x1 ![0, 1, 2, 3] bcast_S1x1x1x1_S4096x3x1x1_0_1_2_3),
    TRef.binary (TRef.of (T := ⟨S4096x3x1x1, .i32⟩) main_call13_v5) (TRef.of (T := ⟨S4096x3x1x1, .i32⟩) main_call13_v9) (TRef.of (T := ⟨S4096x3x1x1, .i1⟩) main_call13_v10) (cmpi .sle),
    TRef.binary (TRef.of (T := ⟨S4096x3x1x1, .i1⟩) main_call13_v7) (TRef.of (T := ⟨S4096x3x1x1, .i1⟩) main_call13_v10) (TRef.of (T := ⟨S4096x3x1x1, .i1⟩) main_call13_v11) andi,
    TRef.nullary (TRef.of (T := ⟨S_, .i1⟩) main_call13_c_3) (constantI S_ 1 1#1),
    TRef.binary (TRef.of (T := ⟨S4096x3x1x1, .i1⟩) main_call13_v11) (TRef.of (T := ⟨S_, .i1⟩) main_call13_c_3) (TRef.of (T := ⟨S4096x3x1, .i1⟩) main_call13_v12) (fun x v => Host.reduce IntOp.andi x v reducesTo_S4096x3x1x1_S4096x3x1_d3 h_S_),
    TRef.binary (TRef.of (T := ⟨S4096x3x2000, .i32⟩) main_v246) (TRef.of (T := ⟨S4096x3x1x1, .i32⟩) main_call13_v5) (TRef.of (T := ⟨S4096x3x1, .i32⟩) main_call13_v13) (fun x i => Host.gather gather_S4096x3x2000_S4096x3x1x1_S4096x3x1_n_2_01_01_2_3_111 x i),
    TRef.nullary (TRef.of (T := ⟨S_, .i32⟩) main_call13_c_4) (constantI S_ 32 2147483648#32),
    TRef.unary (TRef.of (T := ⟨S_, .i32⟩) main_call13_c_4) (TRef.of (T := ⟨S4096x3x1, .i32⟩) main_call13_v14) (broadcastInDim S4096x3x1 ![] bcast_S_S4096x3x1),
    TRef.ternary (TRef.of (T := ⟨S4096x3x1, .i1⟩) main_call13_v12) (TRef.of (T := ⟨S4096x3x1, .i32⟩) main_call13_v13) (TRef.of (T := ⟨S4096x3x1, .i32⟩) main_call13_v14) (TRef.of (T := ⟨S4096x3x1, .i32⟩) main_v256) select,
    reshape main_v256 main_v257 (rfl : (.i32 : EltTy) = .i32) shapeCasts_S4096x3x1_S4096x3 ]

/-- The nodes after them. -/
abbrev opsT5 : List (HloOp τ sig (Elt F)) :=
  [ unary main_v254 main_v258 (broadcastInDim S4096x3x1 ![0, 1] bcast_S4096x3_S4096x3x1_0_1 : T F S4096x3 .i32 → T F S4096x3x1 .i32),
    TRef.nullary (TRef.of (T := ⟨S_, .i32⟩) main_call14_c) (constantI S_ 32 0#32),
    TRef.unary (TRef.of (T := ⟨S_, .i32⟩) main_call14_c) (TRef.of (T := ⟨S4096x3x1, .i32⟩) main_call14_v0) (broadcastInDim S4096x3x1 ![] bcast_S_S4096x3x1),
    TRef.binary (TRef.of (T := ⟨S4096x3x1, .i32⟩) main_v258) (TRef.of (T := ⟨S4096x3x1, .i32⟩) main_call14_v0) (TRef.of (T := ⟨S4096x3x1, .i1⟩) main_call14_v1) (cmpi .slt),
    TRef.nullary (TRef.of (T := ⟨S_, .i32⟩) main_call14_c_0) (constantI S_ 32 2000#32),
    TRef.unary (TRef.of (T := ⟨S_, .i32⟩) main_call14_c_0) (TRef.of (T := ⟨S4096x3x1, .i32⟩) main_call14_v2) (broadcastInDim S4096x3x1 ![] bcast_S_S4096x3x1),
    TRef.binary (TRef.of (T := ⟨S4096x3x1, .i32⟩) main_v258) (TRef.of (T := ⟨S4096x3x1, .i32⟩) main_call14_v2) (TRef.of (T := ⟨S4096x3x1, .i32⟩) main_call14_v3) addi,
    TRef.ternary (TRef.of (T := ⟨S4096x3x1, .i1⟩) main_call14_v1) (TRef.of (T := ⟨S4096x3x1, .i32⟩) main_call14_v3) (TRef.of (T := ⟨S4096x3x1, .i32⟩) main_v258) (TRef.of (T := ⟨S4096x3x1, .i32⟩) main_call14_v4) select,
    TRef.reshape (TRef.of (T := ⟨S4096x3x1, .i32⟩) main_call14_v4) (TRef.of (T := ⟨S4096x3x1x1, .i32⟩) main_call14_v5) (rfl : (.i32 : EltTy) = .i32) shapeCasts_S4096x3x1_S4096x3x1x1,
    TRef.nullary (TRef.of (T := ⟨S1, .i32⟩) main_call14_c_1) (constantI S1 32 1999#32),
    TRef.nullary (TRef.of (T := ⟨S_, .i32⟩) main_call14_c_2) (constantI S_ 32 0#32),
    TRef.unary (TRef.of (T := ⟨S_, .i32⟩) main_call14_c_2) (TRef.of (T := ⟨S4096x3x1x1, .i32⟩) main_call14_v6) (broadcastInDim S4096x3x1x1 ![] bcast_S_S4096x3x1x1),
    TRef.binary (TRef.of (T := ⟨S4096x3x1x1, .i32⟩) main_call14_v5) (TRef.of (T := ⟨S4096x3x1x1, .i32⟩) main_call14_v6) (TRef.of (T := ⟨S4096x3x1x1, .i1⟩) main_call14_v7) (cmpi .sge),
    TRef.unary (TRef.of (T := ⟨S1, .i32⟩) main_call14_c_1) (TRef.of (T := ⟨S1x1x1x1, .i32⟩) main_call14_v8) (broadcastInDim S1x1x1x1 ![3] bcast_S1_S1x1x1x1_3),
    TRef.unary (TRef.of (T := ⟨S1x1x1x1, .i32⟩) main_call14_v8) (TRef.of (T := ⟨S4096x3x1x1, .i32⟩) main_call14_v9) (broadcastInDim S4096x3x1x1 ![0, 1, 2, 3] bcast_S1x1x1x1_S4096x3x1x1_0_1_2_3),
    TRef.binary (TRef.of (T := ⟨S4096x3x1x1, .i32⟩) main_call14_v5) (TRef.of (T := ⟨S4096x3x1x1, .i32⟩) main_call14_v9) (TRef.of (T := ⟨S4096x3x1x1, .i1⟩) main_call14_v10) (cmpi .sle),
    TRef.binary (TRef.of (T := ⟨S4096x3x1x1, .i1⟩) main_call14_v7) (TRef.of (T := ⟨S4096x3x1x1, .i1⟩) main_call14_v10) (TRef.of (T := ⟨S4096x3x1x1, .i1⟩) main_call14_v11) andi,
    TRef.nullary (TRef.of (T := ⟨S_, .i1⟩) main_call14_c_3) (constantI S_ 1 1#1),
    TRef.binary (TRef.of (T := ⟨S4096x3x1x1, .i1⟩) main_call14_v11) (TRef.of (T := ⟨S_, .i1⟩) main_call14_c_3) (TRef.of (T := ⟨S4096x3x1, .i1⟩) main_call14_v12) (fun x v => Host.reduce IntOp.andi x v reducesTo_S4096x3x1x1_S4096x3x1_d3 h_S_),
    TRef.binary (TRef.of (T := ⟨S4096x3x2000, .i32⟩) main_v246) (TRef.of (T := ⟨S4096x3x1x1, .i32⟩) main_call14_v5) (TRef.of (T := ⟨S4096x3x1, .i32⟩) main_call14_v13) (fun x i => Host.gather gather_S4096x3x2000_S4096x3x1x1_S4096x3x1_n_2_01_01_2_3_111 x i),
    TRef.nullary (TRef.of (T := ⟨S_, .i32⟩) main_call14_c_4) (constantI S_ 32 2147483648#32),
    TRef.unary (TRef.of (T := ⟨S_, .i32⟩) main_call14_c_4) (TRef.of (T := ⟨S4096x3x1, .i32⟩) main_call14_v14) (broadcastInDim S4096x3x1 ![] bcast_S_S4096x3x1),
    TRef.ternary (TRef.of (T := ⟨S4096x3x1, .i1⟩) main_call14_v12) (TRef.of (T := ⟨S4096x3x1, .i32⟩) main_call14_v13) (TRef.of (T := ⟨S4096x3x1, .i32⟩) main_call14_v14) (TRef.of (T := ⟨S4096x3x1, .i32⟩) main_v259) select,
    reshape main_v259 main_v260 (rfl : (.i32 : EltTy) = .i32) shapeCasts_S4096x3x1_S4096x3 ]

/-- The results put together. -/
abbrev opsZ : List (HloOp τ sig (Elt F)) :=
  [ unary main_v257 main_v261 (broadcastInDim S4096x3x1 ![0, 1] bcast_S4096x3_S4096x3x1_0_1 : T F S4096x3 .i32 → T F S4096x3x1 .i32),
    unary main_v260 main_v262 (broadcastInDim S4096x3x1 ![0, 1] bcast_S4096x3_S4096x3x1_0_1 : T F S4096x3 .i32 → T F S4096x3x1 .i32),
    binary main_v261 main_v262 main_v263 (fn_main_v263 (F := F)),
    binary main_v236 main_v240 main_v264 (addf : T F S4096x3 .f32 → T F S4096x3 .f32 → T F S4096x3 .f32),
    binary main_v264 main_v244 main_v265 (addf : T F S4096x3 .f32 → T F S4096x3 .f32 → T F S4096x3 .f32),
    unary main_arg1 main_v266 (broadcastInDim S4096x1x3 ![0, 1] bcast_S4096x1_S4096x1x3_0_1 : T F S4096x1 .f32 → T F S4096x1x3 .f32),
    reshape main_v266 main_v267 (rfl : (.f32 : EltTy) = .f32) shapeCasts_S4096x1x3_S4096x3,
    reshape main_v263 main_v268 (rfl : (.i32 : EltTy) = .i32) shapeCasts_S4096x3x2_S4096x6 ]

/-- All of the operations, in order. -/
abbrev ops : List (HloOp τ sig (Elt F)) :=
  opsI ++ (opsG1 ++ (opsG2 ++ (opsG3 ++ (opsG4 ++ (opsG5 ++ (opsN ++ (opsB ++ (opsC ++ (opsK ++ (opsM ++ (opsE ++ (opsL1 ++ (opsD1 ++ (opsT1 ++ (opsL2 ++ (opsD2 ++ (opsT2 ++ (opsD3 ++ (opsT3 ++ (opsA ++ (opsP ++ (opsX ++ (opsT4 ++ (opsT5 ++ (opsZ)))))))))))))))))))))))))

/-- The program's parts are stretches of its list. -/
theorem part0_eq (c : Dev nD) : main_part0 (F := F) c = seq (ops.take 60) := rfl
theorem part1_eq (c : Dev nD) : main_part1 (F := F) c = seq ((ops.drop 60).take 60) := rfl
theorem part2_eq (c : Dev nD) : main_part2 (F := F) c = seq ((ops.drop 120).take 60) := rfl
theorem part3_eq (c : Dev nD) : main_part3 (F := F) c = seq ((ops.drop 180).take 60) := rfl
set_option maxHeartbeats 4000000 in
theorem part4_eq (c : Dev nD) : main_part4 (F := F) c = seq ((ops.drop 240).take 150) := rfl
set_option maxHeartbeats 4000000 in
theorem part5_eq (c : Dev nD) : main_part5 (F := F) c = seq (ops.drop 390) := rfl

/-- The program is its list of operations. -/
theorem main_eq (c : Dev nD) : main (F := F) c = seq ops := by
  have h : (ops : List (HloOp τ sig (Elt F))) = ops.take 60 ++ ((ops.drop 60).take 60 ++ ((ops.drop 120).take 60 ++
      ((ops.drop 180).take 60 ++ ((ops.drop 240).take 150 ++ ops.drop 390)))) := rfl
  rw [h]
  simp only [seq_append, ← part0_eq c, ← part1_eq c, ← part2_eq c, ← part3_eq c, ← part4_eq c, ← part5_eq c]
  rfl

theorem scopedRefs_eq : (Finset.univ.filter fun b : Ref sig .tc => b.isScoped) = ∅ := by decide
theorem scopedSems_eq : (Finset.univ.filter fun sm : SemLoc sig => sm.isScoped .tc) = ∅ := by decide

theorem opsI_sub : (opsI : List (HloOp τ sig (Elt F))).Forall fun op => op.bufs ⊆ tcRefs τ sig :=
  ⟨nullary_bufs_sub .., nullary_bufs_sub .., nullary_bufs_sub .., unary_bufs_sub .., unary_bufs_sub .., nullary_bufs_sub .., unary_bufs_sub ..,
    binary_bufs_sub .., nullary_bufs_sub .., unary_bufs_sub .., binary_bufs_sub .., unary_bufs_sub .., binary_bufs_sub .., unary_bufs_sub ..,
    binary_bufs_sub ..⟩
theorem opsG1_sub : (opsG1 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub ..,
    binary_bufs_sub .., binary_bufs_sub .., binary_bufs_sub .., nullary_bufs_sub .., unary_bufs_sub .., binary_bufs_sub .., nullary_bufs_sub ..,
    unary_bufs_sub .., binary_bufs_sub .., binary_bufs_sub .., binary_bufs_sub .., binary_bufs_sub .., nullary_bufs_sub .., unary_bufs_sub ..,
    binary_bufs_sub .., nullary_bufs_sub .., unary_bufs_sub .., binary_bufs_sub .., binary_bufs_sub .., binary_bufs_sub .., binary_bufs_sub ..,
    nullary_bufs_sub .., unary_bufs_sub .., binary_bufs_sub .., nullary_bufs_sub .., unary_bufs_sub .., binary_bufs_sub .., binary_bufs_sub ..,
    binary_bufs_sub .., unary_bufs_sub .., binary_bufs_sub .., unary_bufs_sub .., binary_bufs_sub .., nullary_bufs_sub .., unary_bufs_sub ..,
    binary_bufs_sub ..⟩
theorem opsG2_sub : (opsG2 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub ..,
    binary_bufs_sub .., binary_bufs_sub .., binary_bufs_sub .., nullary_bufs_sub .., unary_bufs_sub .., binary_bufs_sub .., nullary_bufs_sub ..,
    unary_bufs_sub .., binary_bufs_sub .., binary_bufs_sub .., binary_bufs_sub .., binary_bufs_sub .., nullary_bufs_sub .., unary_bufs_sub ..,
    binary_bufs_sub .., nullary_bufs_sub .., unary_bufs_sub .., binary_bufs_sub .., binary_bufs_sub .., binary_bufs_sub .., binary_bufs_sub ..,
    nullary_bufs_sub .., unary_bufs_sub .., binary_bufs_sub .., nullary_bufs_sub .., unary_bufs_sub .., binary_bufs_sub .., binary_bufs_sub ..,
    binary_bufs_sub .., unary_bufs_sub .., binary_bufs_sub .., unary_bufs_sub .., binary_bufs_sub .., nullary_bufs_sub .., unary_bufs_sub ..,
    binary_bufs_sub ..⟩
theorem opsG3_sub : (opsG3 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub ..,
    binary_bufs_sub .., binary_bufs_sub .., binary_bufs_sub .., nullary_bufs_sub .., unary_bufs_sub .., binary_bufs_sub .., nullary_bufs_sub ..,
    unary_bufs_sub .., binary_bufs_sub .., binary_bufs_sub .., binary_bufs_sub .., binary_bufs_sub .., nullary_bufs_sub .., unary_bufs_sub ..,
    binary_bufs_sub .., nullary_bufs_sub .., unary_bufs_sub .., binary_bufs_sub .., binary_bufs_sub .., binary_bufs_sub .., binary_bufs_sub ..,
    nullary_bufs_sub .., unary_bufs_sub .., binary_bufs_sub .., nullary_bufs_sub .., unary_bufs_sub .., binary_bufs_sub .., binary_bufs_sub ..,
    binary_bufs_sub .., unary_bufs_sub .., binary_bufs_sub .., unary_bufs_sub .., binary_bufs_sub .., nullary_bufs_sub .., unary_bufs_sub ..,
    binary_bufs_sub ..⟩
theorem opsG4_sub : (opsG4 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub ..,
    binary_bufs_sub .., binary_bufs_sub .., binary_bufs_sub .., nullary_bufs_sub .., unary_bufs_sub .., binary_bufs_sub .., nullary_bufs_sub ..,
    unary_bufs_sub .., binary_bufs_sub .., binary_bufs_sub .., binary_bufs_sub .., binary_bufs_sub .., nullary_bufs_sub .., unary_bufs_sub ..,
    binary_bufs_sub .., nullary_bufs_sub .., unary_bufs_sub .., binary_bufs_sub .., binary_bufs_sub .., binary_bufs_sub .., binary_bufs_sub ..,
    nullary_bufs_sub .., unary_bufs_sub .., binary_bufs_sub .., nullary_bufs_sub .., unary_bufs_sub .., binary_bufs_sub .., binary_bufs_sub ..,
    binary_bufs_sub .., unary_bufs_sub .., binary_bufs_sub .., unary_bufs_sub .., binary_bufs_sub .., nullary_bufs_sub .., unary_bufs_sub ..,
    binary_bufs_sub ..⟩
theorem opsG5_sub : (opsG5 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub ..,
    binary_bufs_sub .., binary_bufs_sub .., binary_bufs_sub .., nullary_bufs_sub .., unary_bufs_sub .., binary_bufs_sub .., nullary_bufs_sub ..,
    unary_bufs_sub .., binary_bufs_sub .., binary_bufs_sub .., binary_bufs_sub .., binary_bufs_sub .., nullary_bufs_sub .., unary_bufs_sub ..,
    binary_bufs_sub .., nullary_bufs_sub .., unary_bufs_sub .., binary_bufs_sub .., binary_bufs_sub .., binary_bufs_sub .., binary_bufs_sub ..,
    nullary_bufs_sub .., unary_bufs_sub .., binary_bufs_sub .., nullary_bufs_sub .., unary_bufs_sub .., binary_bufs_sub .., binary_bufs_sub ..,
    binary_bufs_sub .., unary_bufs_sub .., binary_bufs_sub .., unary_bufs_sub .., binary_bufs_sub .., nullary_bufs_sub .., unary_bufs_sub ..,
    binary_bufs_sub ..⟩
theorem opsN_sub : (opsN : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub ..,
    unary_bufs_sub .., nullary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., binary_bufs_sub .., unary_bufs_sub ..,
    unary_bufs_sub .., unary_bufs_sub .., unary_bufs_sub ..⟩
theorem opsB_sub : (opsB : List (HloOp τ sig (Elt F))).Forall fun op => op.bufs ⊆ tcRefs τ sig :=
  ⟨unary_bufs_sub .., reshape_bufs_sub .., reshape_bufs_sub .., unary_bufs_sub .., unary_bufs_sub .., binary_bufs_sub ..⟩
theorem opsC_sub : (opsC : List (HloOp τ sig (Elt F))).Forall fun op => op.bufs ⊆ tcRefs τ sig :=
  ⟨nullary_bufs_sub .., unary_bufs_sub .., unary_bufs_sub .., binary_bufs_sub .., unary_bufs_sub .., unary_bufs_sub .., reshape_bufs_sub ..,
    reshape_bufs_sub .., unary_bufs_sub .., unary_bufs_sub .., binary_bufs_sub ..⟩
theorem opsK_sub : (opsK : List (HloOp τ sig (Elt F))).Forall fun op => op.bufs ⊆ tcRefs τ sig :=
  ⟨nullary_bufs_sub .., nullary_bufs_sub .., nullary_bufs_sub .., quaternary_bufs_sub .., quaternary_bufs_sub .., unary_bufs_sub ..⟩
theorem opsM_sub : (opsM : List (HloOp τ sig (Elt F))).Forall fun op => op.bufs ⊆ tcRefs τ sig :=
  ⟨nullary_bufs_sub .., unary_bufs_sub .., unary_bufs_sub .., unary_bufs_sub .., unary_bufs_sub .., binary_bufs_sub .., unary_bufs_sub ..,
    unary_bufs_sub .., nullary_bufs_sub .., unary_bufs_sub .., unary_bufs_sub .., ternary_bufs_sub .., nullary_bufs_sub .., binary_bufs_sub ..,
    unary_bufs_sub .., unary_bufs_sub .., binary_bufs_sub .., unary_bufs_sub ..⟩
theorem opsE_sub : (opsE : List (HloOp τ sig (Elt F))).Forall fun op => op.bufs ⊆ tcRefs τ sig :=
  ⟨unary_bufs_sub .., reshape_bufs_sub .., reshape_bufs_sub .., binary_bufs_sub ..⟩
theorem opsL1_sub : (opsL1 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub ..,
    binary_bufs_sub .., unary_bufs_sub .., nullary_bufs_sub .., binary_bufs_sub .., unary_bufs_sub .., unary_bufs_sub .., unary_bufs_sub ..,
    binary_bufs_sub ..⟩
theorem opsD1_sub : (opsD1 : List (HloOp τ sig (Elt F))).Forall fun op => op.bufs ⊆ tcRefs τ sig :=
  ⟨nullary_bufs_sub .., nullary_bufs_sub .., nullary_bufs_sub .., quaternary_bufs_sub .., quaternary_bufs_sub .., unary_bufs_sub ..⟩
theorem opsT1_sub : (opsT1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..,
    reshape_bufs_sub .., nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., nullary_bufs_sub .., unary_bufs_sub ..,
    ternary_bufs_sub ..⟩
theorem opsL2_sub : (opsL2 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub ..,
    binary_bufs_sub .., unary_bufs_sub .., nullary_bufs_sub .., binary_bufs_sub .., unary_bufs_sub .., unary_bufs_sub .., unary_bufs_sub ..,
    binary_bufs_sub ..⟩
theorem opsD2_sub : (opsD2 : List (HloOp τ sig (Elt F))).Forall fun op => op.bufs ⊆ tcRefs τ sig :=
  ⟨nullary_bufs_sub .., nullary_bufs_sub .., nullary_bufs_sub .., quaternary_bufs_sub .., quaternary_bufs_sub .., unary_bufs_sub ..⟩
theorem opsT2_sub : (opsT2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..,
    reshape_bufs_sub .., nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., nullary_bufs_sub .., unary_bufs_sub ..,
    ternary_bufs_sub ..⟩
theorem opsD3_sub : (opsD3 : List (HloOp τ sig (Elt F))).Forall fun op => op.bufs ⊆ tcRefs τ sig :=
  ⟨nullary_bufs_sub .., nullary_bufs_sub .., nullary_bufs_sub .., quaternary_bufs_sub .., quaternary_bufs_sub ..⟩
theorem opsT3_sub : (opsT3 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub ..,
    ternary_bufs_sub .., reshape_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub .., nullary_bufs_sub ..,
    unary_bufs_sub .., ternary_bufs_sub .., reshape_bufs_sub ..⟩
theorem opsA_sub : (opsA : List (HloOp τ sig (Elt F))).Forall fun op => op.bufs ⊆ tcRefs τ sig :=
  ⟨unary_bufs_sub .., unary_bufs_sub .., unary_bufs_sub .., unary_bufs_sub .., binary_bufs_sub .., unary_bufs_sub ..⟩
theorem opsP_sub : (opsP : List (HloOp τ sig (Elt F))).Forall fun op => op.bufs ⊆ tcRefs τ sig :=
  ⟨nullary_bufs_sub .., nullary_bufs_sub .., nullary_bufs_sub .., quaternary_bufs_sub .., quaternary_bufs_sub ..⟩
theorem opsX_sub : (opsX : List (HloOp τ sig (Elt F))).Forall fun op => op.bufs ⊆ tcRefs τ sig :=
  ⟨nullary_bufs_sub .., unary_bufs_sub .., binary_bufs_sub .., nullary_bufs_sub .., unary_bufs_sub .., nullary_bufs_sub .., binary_bufs_sub ..,
    nullary_bufs_sub .., ternary_bufs_sub .., unary_bufs_sub .., binary_bufs_sub .., nullary_bufs_sub .., unary_bufs_sub .., binary_bufs_sub ..,
    nullary_bufs_sub .., unary_bufs_sub .., binary_bufs_sub .., nullary_bufs_sub .., binary_bufs_sub .., unary_bufs_sub .., binary_bufs_sub ..,
    binary_bufs_sub .., unary_bufs_sub .., binary_bufs_sub .., ternary_bufs_sub ..⟩
theorem opsT4_sub : (opsT4 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub ..,
    ternary_bufs_sub .., reshape_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub .., nullary_bufs_sub ..,
    unary_bufs_sub .., ternary_bufs_sub .., reshape_bufs_sub ..⟩
theorem opsT5_sub : (opsT5 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub ..,
    ternary_bufs_sub .., reshape_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub .., nullary_bufs_sub ..,
    unary_bufs_sub .., ternary_bufs_sub .., reshape_bufs_sub ..⟩
theorem opsZ_sub : (opsZ : List (HloOp τ sig (Elt F))).Forall fun op => op.bufs ⊆ tcRefs τ sig :=
  ⟨unary_bufs_sub .., unary_bufs_sub .., binary_bufs_sub .., binary_bufs_sub .., binary_bufs_sub .., unary_bufs_sub .., reshape_bufs_sub ..,
    reshape_bufs_sub ..⟩

/-- Every operation's buffers are arrays of the device. -/
theorem ops_sub : (ops : List (HloOp τ sig (Elt F))).Forall fun op => op.bufs ⊆ tcRefs τ sig := by
  simp only [ops, List.forall_append]
  exact ⟨opsI_sub, opsG1_sub, opsG2_sub, opsG3_sub, opsG4_sub, opsG5_sub, opsN_sub, opsB_sub, opsC_sub, opsK_sub, opsM_sub, opsE_sub, opsL1_sub,
    opsD1_sub, opsT1_sub, opsL2_sub, opsD2_sub, opsT2_sub, opsD3_sub, opsT3_sub, opsA_sub, opsP_sub, opsX_sub, opsT4_sub, opsT5_sub,
    opsZ_sub⟩

set_option maxHeartbeats 4000000 in
theorem ops_fresh_forall : (ops : List (HloOp τ sig (Elt F))).Forall fun op => op.fresh = ∅ := by
  repeat' (first | exact rfl | refine And.intro ?_ ?_)

/-- Every operation determines its results. -/
theorem ops_fresh (op : HloOp τ sig (Elt F)) (h : op ∈ (ops : List (HloOp τ sig (Elt F)))) : op.fresh = ∅ :=
  List.forall_iff_forall_mem.mp ops_fresh_forall op h

end Cert.ReferenceIdeal.Own
-- ==== Proof.R.Model.lean ====
module

public import proofs.«01_k».proof.Proof.R.Ops
public import Idealize.ShloMosaic.Lib.Tactic

@[expose] public section

set_option maxRecDepth 16384

noncomputable section

/-! The reference's results as functions of its arguments, each step written once. -/

namespace Cert.ReferenceIdeal.Own

open Cert.ReferenceIdeal Cert.ReferenceIdeal.Gen Idealize.ShloMosaic Idealize.ShloMosaic.TcCoe Idealize.SL.Sem Idealize.ShloMosaic.StableHlo

variable {F : FTy → Type} [FloatOps F]

/-- A key word of each head. -/
abbrev KeyV := IVec S3x1 32

def key0 : KeyV := fun i => lit0 (S3x1.rowMajor i)
def key1 : KeyV := fun i => lit1 (S3x1.rowMajor i)
def key2 : KeyV := xori (xori key0 key1) (broadcastInDim S3x1 ![] bcast_S_S3x1 (constantI S_ 32 466688986#32))

/-- A key word under each of its head's counters. -/
def spK (k : KeyV) : IVec S3x24576000 32 := broadcastInDim S3x24576000 ![0, 1] bcast_S3x1_S3x24576000_0_1 k

/-- One number everywhere. -/
def cst (c : BitVec 32) : IVec S3x24576000 32 := broadcastInDim S3x24576000 ![] bcast_S_S3x24576000 (constantI S_ 32 c)

/-- The two words of every hash. -/
abbrev StV := IVec S3x24576000 32 × IVec S3x24576000 32

def rndV (a b : BitVec 32) (s : StV) : StV :=
  (addi s.1 s.2, xori (addi s.1 s.2) (ori (Host.shli s.2 (cst a)) (Host.shrui s.2 (cst b))))
def fourAV (s : StV) : StV := rndV 6#32 26#32 (rndV 26#32 6#32 (rndV 15#32 17#32 (rndV 13#32 19#32 s)))
def fourBV (s : StV) : StV := rndV 24#32 8#32 (rndV 16#32 16#32 (rndV 29#32 3#32 (rndV 17#32 15#32 s)))
def injV (u v : KeyV) (c : BitVec 32) (s : StV) : StV := (addi s.1 (spK u), addi (addi s.2 (spK v)) (cst c))

/-- The counters. -/
def ctrV : IVec S3x24576000 32 :=
  broadcastInDim S3x24576000 ![0, 1] bcast_S1x24576000_S3x24576000_0_1
    (broadcastInDim S1x24576000 ![1] bcast_S24576000_S1x24576000_1 (iotaInDim S24576000 32 0))

def hash1V : StV := injV key1 key2 1#32 (fourAV (addi (cst 0#32) (spK key0), addi ctrV (spK key1)))
def hash2V : StV := injV key2 key0 2#32 (fourBV hash1V)
def hash3V : StV := injV key0 key1 3#32 (fourAV hash2V)
def hash4V : StV := injV key1 key2 4#32 (fourBV hash3V)
def hash5V : StV := injV key2 key0 5#32 (fourAV hash4V)

/-- A float constant everywhere. -/
def cstF (c : BitVec 32) : FVec F S3x24576000 .f32 := broadcastInDim S3x24576000 ![] bcast_S_S3x24576000 (constant S_ .f32 c)

/-- The Gumbel numbers of a hash's words. -/
def gumV (s : StV) : FVec F S3x24576000 .f32 :=
  Host.negf (Host.log (Host.negf (Host.log (maximumf (cstF 0x00800000#32)
    (addf (mulf (subf (bitcastToFloat (F := F) .f32 (ori (Host.shrui (xori s.1 s.2) (cst 9#32)) (cst 1065353216#32)))
      (cstF 0x3F800000#32)) (cstF 0x3F800000#32)) (cstF 0x00800000#32))))))

/-- The Gumbel numbers of the three heads. -/
def noiseV : FVec F S3x24576000 .f32 := gumV hash5V

/-- A head's numbers, one after the other. -/
def headB (g : FVec F S3x24576000 .f32) : FVec F S24576000 .f32 :=
  shapeCast S24576000 (extractStridedSlice S1x24576000 ![0, 0] g slices_S3x24576000_S1x24576000_0_0) shapeCasts_S1x24576000_S24576000
def headC (g : FVec F S3x24576000 .f32) : FVec F S24576000 .f32 :=
  shapeCast S24576000 (extractStridedSlice S1x24576000 ![1, 0] g slices_S3x24576000_S1x24576000_1_0) shapeCasts_S1x24576000_S24576000
def headE (g : FVec F S3x24576000 .f32) : FVec F S24576000 .f32 :=
  shapeCast S24576000 (extractStridedSlice S1x24576000 ![2, 0] g slices_S3x24576000_S1x24576000_2_0) shapeCasts_S1x24576000_S24576000

/-- A head's numbers over its logits, sample by sample. -/
def scoreS (g : FVec F S24576000 .f32) (x : FVec F S4096x2000 .f32) : FVec F S3x4096x2000 .f32 :=
  addf (shapeCast S3x4096x2000 g shapeCasts_S24576000_S3x4096x2000)
    (broadcastInDim S3x4096x2000 ![0, 1, 2] bcast_S1x4096x2000_S3x4096x2000_0_1_2
      (broadcastInDim S1x4096x2000 ![1, 2] bcast_S4096x2000_S1x4096x2000_1_2 x))

/-- The logarithm of the entries, none below the clip. -/
def clipLogR (x : FVec F S4096x2000 .f32) : FVec F S4096x2000 .f32 :=
  Host.log (maximumf (broadcastInDim S4096x2000 ![] bcast_S_S4096x2000 (constant S_ .f32 0x0DA24260#32)) x)

/-- The numbers of an array of pairs. -/
def numbers {α β : Type} {t : Shape} (f : t.Idx → α × β) : t.Idx → β := fun j => (f j).2

/-- Where each sample's scores are greatest, first. -/
def argS (x : FVec F S3x4096x2000 .f32) : IVec S3x4096 32 :=
  numbers (Host.argReduce reducer_argmax_f32_i32 x (iotaInDim S3x4096x2000 32 2) (constant S_ .f32 0xFF800000#32) (constantI S_ 32 0#32)
    reducesTo_S3x4096x2000_S3x4096_d2 h_S_)

/-- The draws, row by row. -/
def drawS (x : FVec F S3x4096x2000 .f32) : IVec S4096x3 32 := transpose S4096x3 [1, 0] (argS x) transposes_S3x4096_S4096x3_1_0

def drawB (bt : FVec F S4096x2000 .f32) : IVec S4096x3 32 := drawS (scoreS (headB noiseV) bt)
def drawC (cp : FVec F S4096x2000 .f32) : IVec S4096x3 32 := drawS (scoreS (headC noiseV) (clipLogR cp))

/-- A number of each sample along the columns. -/
def spR {α : Type} (x : S4096x3.Idx → α) : S4096x3x2000.Idx → α :=
  broadcastInDim S4096x3x2000 ![0, 1, 2] bcast_S4096x3x1_S4096x3x2000_0_1_2 (broadcastInDim S4096x3x1 ![0, 1] bcast_S4096x3_S4096x3x1_0_1 x)

/-- A row for each of its samples. -/
def repR {α : Type} (x : S4096x2000.Idx → α) : S4096x3x2000.Idx → α :=
  broadcastInDim S4096x3x2000 ![0, 1, 2] bcast_S4096x1x2000_S4096x3x2000_0_1_2 (broadcastInDim S4096x1x2000 ![0, 2] bcast_S4096x2000_S4096x1x2000_0_2 x)

/-- The edges, the city drawn masked. -/
def maskR (ci : IVec S4096x3 32) (ep : FVec F S4096x2000 .f32) : FVec F S4096x3x2000 .f32 :=
  select (α := F .f32) (cmpi .ne (broadcastInDim S4096x3x2000 ![0, 1, 2] bcast_S1x1x2000_S4096x3x2000_0_1_2
      (broadcastInDim S1x1x2000 ![2] bcast_S2000_S1x1x2000_2 (iotaInDim S2000 32 0))) (spR ci))
    (repR ep) (broadcastInDim S4096x3x2000 ![] bcast_S_S4096x3x2000 (constant S_ .f32 0x3089705F#32))

/-- Their log-probabilities. -/
def elogR (ci : IVec S4096x3 32) (ep : FVec F S4096x2000 .f32) : FVec F S4096x3x2000 .f32 :=
  Host.log (Host.divf (maskR ci ep) (spR (α := F .f32) (Host.reduceAdd (maskR ci ep) (constant S_ .f32 0x00000000#32) reducesTo_S4096x3x2000_S4096x3_d2 h_S_)))

/-- The edge head's scores. -/
def scoreE (g : FVec F S24576000 .f32) (l : FVec F S4096x3x2000 .f32) : FVec F S4096x3x2000 .f32 :=
  addf (shapeCast S4096x3x2000 g shapeCasts_S24576000_S4096x3x2000) l

/-- Where each sample's scores are greatest, first. -/
def argE (x : FVec F S4096x3x2000 .f32) : IVec S4096x3 32 :=
  numbers (Host.argReduce reducer_argmax_f32_i32 x (iotaInDim S4096x3x2000 32 2) (constant S_ .f32 0xFF800000#32) (constantI S_ 32 0#32)
    reducesTo_S4096x3x2000_S4096x3_d2 h_S_)

/-- A column along its row. -/
def spL {α : Type} (x : S4096.Idx → α) : S4096x2000.Idx → α :=
  broadcastInDim S4096x2000 ![0, 1] bcast_S4096x1_S4096x2000_0_1 (broadcastInDim S4096x1 ![0] bcast_S4096_S4096x1_0 x)

/-- The rows' greatest entries. -/
def topR (x : FVec F S4096x2000 .f32) : FVec F S4096 .f32 :=
  maximumf (broadcastInDim S4096 ![] bcast_S_S4096 (constant S_ .f32 0xFF800000#32))
    (Host.reduce FloatOps.maximumf x (constant S_ .f32 0xFF800000#32) reducesTo_S4096x2000_S4096_d1 h_S_)

/-- The entries less the logarithm of the row's sum of exponentials. -/
def lessLog (y : FVec F S4096x2000 .f32) : FVec F S4096x2000 .f32 :=
  subf y (broadcastInDim S4096x2000 ![0, 1] bcast_S4096x1_S4096x2000_0_1 (Host.log (broadcastInDim S4096x1 ![0] bcast_S4096_S4096x1_0
    (Host.reduceAdd (Host.exp y) (constant S_ .f32 0x00000000#32) reducesTo_S4096x2000_S4096_d1 h_S_))))

/-- The rows' log-softmax. -/
def logSoft (x : FVec F S4096x2000 .f32) : FVec F S4096x2000 .f32 :=
  lessLog (subf x (spL (α := F .f32) (topR x)))

/-- The entries of a row at given columns. -/
def take2 (x : FVec F S4096x2000 .f32) (j : IVec S4096x3 32) : FVec F S4096x3 .f32 :=
  let at' : IVec S4096x3x1 32 := shapeCast S4096x3x1 (select (cmpi .slt j (broadcastInDim S4096x3 ![] bcast_S_S4096x3 (constantI S_ 32 0#32)))
    (addi j (broadcastInDim S4096x3 ![] bcast_S_S4096x3 (constantI S_ 32 2000#32))) j) shapeCasts_S4096x3_S4096x3x1
  select (α := F .f32) (Host.reduce IntOp.andi (andi (cmpi .sge at' (broadcastInDim S4096x3x1 ![] bcast_S_S4096x3x1 (constantI S_ 32 0#32)))
      (cmpi .sle at' (broadcastInDim S4096x3x1 ![0, 1, 2] bcast_S1x1x1_S4096x3x1_0_1_2 (broadcastInDim S1x1x1 ![2] bcast_S1_S1x1x1_2 (constantI S1 32 1999#32)))))
      (constantI S_ 1 1#1) reducesTo_S4096x3x1_S4096x3_d2 h_S_)
    (Host.gather gather_S4096x2000_S4096x3x1_S4096x3_n_1_0_0_1_2_11 x at')
    (broadcastInDim S4096x3 ![] bcast_S_S4096x3 (constant S_ .f32 0x7FC00000#32))

/-- The entries of each sample's row at its given column. -/
def take3 {α : Type} (x : S4096x3x2000.Idx → α) (fill : S_.Idx → α) (j : IVec S4096x3 32) : S4096x3.Idx → α :=
  let k : IVec S4096x3x1 32 := broadcastInDim S4096x3x1 ![0, 1] bcast_S4096x3_S4096x3x1_0_1 j
  let at' : IVec S4096x3x1x1 32 := shapeCast S4096x3x1x1 (select (cmpi .slt k (broadcastInDim S4096x3x1 ![] bcast_S_S4096x3x1 (constantI S_ 32 0#32)))
    (addi k (broadcastInDim S4096x3x1 ![] bcast_S_S4096x3x1 (constantI S_ 32 2000#32))) k) shapeCasts_S4096x3x1_S4096x3x1x1
  shapeCast S4096x3 (select (Host.reduce IntOp.andi (andi (cmpi .sge at' (broadcastInDim S4096x3x1x1 ![] bcast_S_S4096x3x1x1 (constantI S_ 32 0#32)))
      (cmpi .sle at' (broadcastInDim S4096x3x1x1 ![0, 1, 2, 3] bcast_S1x1x1x1_S4096x3x1x1_0_1_2_3
        (broadcastInDim S1x1x1x1 ![3] bcast_S1_S1x1x1x1_3 (constantI S1 32 1999#32)))))
      (constantI S_ 1 1#1) reducesTo_S4096x3x1x1_S4096x3x1_d3 h_S_)
    (Host.gather gather_S4096x3x2000_S4096x3x1x1_S4096x3x1_n_2_01_01_2_3_111 x at')
    (broadcastInDim S4096x3x1 ![] bcast_S_S4096x3x1 fill)) shapeCasts_S4096x3x1_S4096x3

/-- The sampled edges. -/
def edgeR (cp ep : FVec F S4096x2000 .f32) : IVec S4096x3 32 := argE (scoreE (headE noiseV) (elogR (drawC cp) ep))

/-- Where the tour holds a node first. -/
def posR (tour : IVec S4096x2000 32) (e : IVec S4096x3 32) : IVec S4096x3 32 :=
  numbers (Host.reduce2 reducer_argmax_i32_i32 (extui 32 (cmpi .eq (repR tour) (spR e)) natLt_1_32) (iotaInDim S4096x3x2000 32 2)
    (constantI S_ 32 2147483648#32) (constantI S_ 32 0#32) reducesTo_S4096x3x2000_S4096x3_d2 h_S_)

/-- The row's length, as the remainder is taken by it. -/
def lenR : IVec S_ 32 := select (cmpi .eq (constantI S_ 32 2000#32) (constantI S_ 32 0#32)) (constantI S_ 32 1#32) (constantI S_ 32 2000#32)

/-- The remainder by the row's length, of the divisor's sign. -/
def modR (x : IVec S4096x3 32) : IVec S4096x3 32 :=
  let r : IVec S4096x3 32 := Host.remsi x (broadcastInDim S4096x3 ![] bcast_S_S4096x3 lenR)
  let z : IVec S4096x3 32 := broadcastInDim S4096x3 ![] bcast_S_S4096x3 (constantI S_ 32 0#32)
  select (andi (cmpi .ne (cmpi .slt r z) (broadcastInDim S4096x3 ![] bcast_S_S4096x3 (cmpi .slt lenR (constantI S_ 32 0#32)))) (cmpi .ne r z))
    (addi r (broadcastInDim S4096x3 ![] bcast_S_S4096x3 lenR)) r

/-- The place after a place. -/
def nextR (p : IVec S4096x3 32) : IVec S4096x3 32 := modR (addi p (broadcastInDim S4096x3 ![] bcast_S_S4096x3 (constantI S_ 32 1#32)))

/-- The tour's node at a place. -/
def nodeR (tour : IVec S4096x2000 32) (p : IVec S4096x3 32) : IVec S4096x3 32 := take3 (repR tour) (constantI S_ 32 2147483648#32) p

/-- The edges' two nodes, side by side. -/
def pairR (a b : IVec S4096x3 32) : IVec S4096x6 32 :=
  shapeCast S4096x6 (concatenate S4096x3x2 2 [⟨S4096x3x1, broadcastInDim S4096x3x1 ![0, 1] bcast_S4096x3_S4096x3x1_0_1 a⟩,
    ⟨S4096x3x1, broadcastInDim S4096x3x1 ![0, 1] bcast_S4096x3_S4096x3x1_0_1 b⟩] concatenates_S4096x3x1_S4096x3x1_S4096x3x2_d2) shapeCasts_S4096x3x2_S4096x6

/-- The edges. -/
def resE (tour : IVec S4096x2000 32) (cp ep : FVec F S4096x2000 .f32) : IVec S4096x6 32 :=
  pairR (nodeR tour (posR tour (edgeR cp ep))) (nodeR tour (nextR (posR tour (edgeR cp ep))))

/-- The log-probabilities. -/
def resA (bt cp ep : FVec F S4096x2000 .f32) : FVec F S4096x3 .f32 :=
  addf (addf (take2 (logSoft bt) (drawB bt)) (take2 (logSoft cp) (drawC cp)))
    (take3 (α := F .f32) (elogR (drawC cp) ep) (constant S_ .f32 0x7FC00000#32) (edgeR cp ep))

/-- The values. -/
def resV (v : FVec F S4096x1 .f32) : FVec F S4096x3 .f32 :=
  shapeCast S4096x3 (broadcastInDim S4096x1x3 ![0, 1] bcast_S4096x1_S4096x1x3_0_1 v) shapeCasts_S4096x1x3_S4096x3

end Cert.ReferenceIdeal.Own
-- ==== Proof.M.Arg.lean ====
module

public import Idealize.ShloMosaic.PureOps.Reduce
public import Idealize.ShloMosaic.PureOps.Ideal.Laws
public import Idealize.ShloMosaic.Lib.Pointwise
public import Idealize.ShloMosaic.Lib.SortNet.Extract

@[expose] public section

/-! Where a row is greatest, first, and the folds that find it. -/

namespace Cert.Own

open Idealize.ShloMosaic

variable {γ : Type} {ι : Type}

/-- A fold whose body picks one of two, never one that the other beats, ends with a member that nothing beats. -/
theorem foldl_dom (D : γ → γ → Prop) (hr : ∀ a, D a a) (ht : ∀ a b c, D a b → D b c → D a c) (f : γ → γ → γ)
    (hf : ∀ a b, (f a b = a ∨ f a b = b) ∧ D (f a b) a ∧ D (f a b) b) (l : List γ) (z : γ) :
    (l.foldl f z = z ∨ l.foldl f z ∈ l) ∧ D (l.foldl f z) z ∧ ∀ p ∈ l, D (l.foldl f z) p := by
  induction l generalizing z with
  | nil => exact ⟨.inl rfl, hr z, by simp⟩
  | cons a l ih =>
    obtain ⟨h1, h2, h3⟩ := ih (f z a)
    obtain ⟨e, d1, d2⟩ := hf z a
    rw [List.foldl_cons]
    refine ⟨?_, ht _ _ _ h2 d1, fun p hp => ?_⟩
    · rcases h1 with h1 | h1
      · rcases e with e | e
        · exact .inl (h1.trans e)
        · exact .inr (List.mem_cons.2 (.inl (h1.trans e)))
      · exact .inr (List.mem_cons_of_mem _ h1)
    · rcases List.mem_cons.1 hp with rfl | hp
      · exact ht _ _ _ h2 d2
      · exact h3 p hp

/-- The same of a fold over a finite set. -/
theorem fold_dom (D : γ → γ → Prop) (hr : ∀ a, D a a) (ht : ∀ a b c, D a b → D b c → D a c) (f : γ → γ → γ)
    [Std.Commutative f] [Std.Associative f]
    (hf : ∀ a b, (f a b = a ∨ f a b = b) ∧ D (f a b) a ∧ D (f a b) b) (s : Finset ι) (g : ι → γ) (z : γ) :
    (s.fold f z g = z ∨ ∃ i ∈ s, s.fold f z g = g i) ∧ D (s.fold f z g) z ∧ ∀ i ∈ s, D (s.fold f z g) (g i) := by
  classical
  induction s using Finset.induction_on with
  | empty => exact ⟨.inl rfl, hr z, by simp⟩
  | insert a s ha ih =>
    obtain ⟨h1, h2, h3⟩ := ih
    obtain ⟨e, d1, d2⟩ := hf (g a) (s.fold f z g)
    rw [Finset.fold_insert ha]
    refine ⟨?_, ht _ _ _ d2 h2, fun i hi => ?_⟩
    · rcases e with e | e
      · exact .inr ⟨a, Finset.mem_insert_self .., e⟩
      · rcases h1 with h1 | ⟨i, hi, h1⟩
        · exact .inl (e.trans h1)
        · exact .inr ⟨i, Finset.mem_insert_of_mem hi, e.trans h1⟩
    · rcases Finset.mem_insert.1 hi with rfl | hi
      · exact d1
      · exact ht _ _ _ d2 (h3 i hi)

variable {β : Type} [LinearOrder β]

/-- `k` is the first place where `s` is greatest. -/
def IsArg {n : Nat} (s : Fin n → β) (k : Fin n) : Prop := (∀ j, s j ≤ s k) ∧ ∀ j, s j = s k → k ≤ j

theorem IsArg.unique {n : Nat} {s : Fin n → β} {k l : Fin n} (hk : IsArg s k) (hl : IsArg s l) : k = l :=
  have e := le_antisymm (hl.1 k) (hk.1 l)
  le_antisymm (hk.2 l e.symm) (hl.2 k e)

/-- The least float is the bottom of the extended reals. -/
theorem negInf : Ideal.ofBits .f32 0xFF800000#32 = (⊥ : EReal) := by
  simp [Ideal.ofBits, Ideal.ieee]

/-- A pair is not beaten by another: its value is greater, or the same and its number no greater. -/
def Beats {α : Type} (κ : α → β) (a b : α × BitVec 32) : Prop := κ b.1 < κ a.1 ∨ (κ b.1 = κ a.1 ∧ a.2.toInt ≤ b.2.toInt)

theorem Beats.refl {α : Type} (κ : α → β) (a : α × BitVec 32) : Beats κ a a := .inr ⟨rfl, le_refl _⟩

theorem Beats.trans {α : Type} (κ : α → β) (a b c : α × BitVec 32) : Beats κ a b → Beats κ b c → Beats κ a c := by
  rintro (h | ⟨h, h'⟩) (g | ⟨g, g'⟩)
  · exact .inl (lt_trans g h)
  · exact .inl (g ▸ h)
  · exact .inl (h ▸ g)
  · exact .inr ⟨g.trans h, le_trans h' g'⟩

theorem toInt_ofNat (n : Nat) (h : n ≤ 2000) : (BitVec.ofNat 32 n).toInt = n := by
  rw [BitVec.toInt_eq_toNat_of_lt] <;> simp only [BitVec.toNat_ofNat] <;> omega

/-- The host's arg-max along a row of 2000 finds the first greatest. -/
theorem reduce2_arg {α : Type} (κ : α → β) (f : α × BitVec 32 → α × BitVec 32 → α × BitVec 32)
    (hf : ∀ a b, (f a b = a ∨ f a b = b) ∧ Beats κ (f a b) a ∧ Beats κ (f a b) b) {n0 n1 : Nat} {t u : Shape}
    (x : (⟨3, ![n0, n1, 2000]⟩ : Shape).Idx → α) (ix : u.Idx → α) (h : (⟨3, ![n0, n1, 2000]⟩ : Shape).ReducesTo [2] t)
    (hu : 0 < u.numel) (hz : ∀ a, κ (ix (Shape.Idx.first hu)) ≤ κ a) (j : t.Idx) (i0 : Fin n0) (i1 : Fin n1)
    (hj : ∀ k, h.drop (ix3 i0 i1 k) = j) :
    ∃ k : Fin 2000, IsArg (fun k => κ (x (ix3 i0 i1 k))) k ∧
      (Host.reduce2 f x (iotaInDim ⟨3, ![n0, n1, 2000]⟩ 32 2) ix (constantI u 32 0#32) h hu j).2 = BitVec.ofNat 32 k.val := by
  have hmem : ∀ p, p ∈ Host.argReduceFiber x (iotaInDim ⟨3, ![n0, n1, 2000]⟩ 32 2) h j ↔
      ∃ k : Fin 2000, p = (x (ix3 i0 i1 k), BitVec.ofNat 32 k.val) := by
    intro p
    unfold Host.argReduceFiber
    simp only [List.mem_map, List.mem_filter, List.mem_finRange, true_and, decide_eq_true_eq]
    constructor
    · rintro ⟨n, hn, rfl⟩
      have hn' := hn
      rw [h.fiber_r3_a2] at hn
      obtain ⟨k, hk⟩ := hn
      rw [← hj k] at hk
      have hk' : ix3 i0 i1 k = (Shape.rowMajor ⟨3, ![n0, n1, 2000]⟩).symm n := by
        rw [← hk]; rfl
      exact ⟨k, by rw [← hk']; rfl⟩
    · rintro ⟨k, rfl⟩
      refine ⟨Shape.rowMajor _ (ix3 i0 i1 k), by rw [Equiv.symm_apply_apply]; exact hj k, by rw [Equiv.symm_apply_apply]; rfl⟩
  rw [Host.reduce2_eq_foldl_fiber]
  obtain ⟨h1, h2, h3⟩ := foldl_dom (Beats κ) (Beats.refl κ) (Beats.trans κ) f hf
    (Host.argReduceFiber x (iotaInDim ⟨3, ![n0, n1, 2000]⟩ 32 2) h j) (ix (Shape.Idx.first hu), constantI u 32 0#32 (Shape.Idx.first hu))
  generalize List.foldl f _ _ = r at h1 h2 h3 ⊢
  have h4 : ∀ k : Fin 2000, Beats κ r (x (ix3 i0 i1 k), BitVec.ofNat 32 k.val) := fun k => h3 _ ((hmem _).2 ⟨k, rfl⟩)
  rcases h1 with rfl | h1
  · have h5 : ∀ k : Fin 2000, κ (x (ix3 i0 i1 k)) = κ (ix (Shape.Idx.first hu)) := fun k => by
      rcases h4 k with h | ⟨h, _⟩
      · exact absurd h (not_lt.2 (hz _))
      · exact h
    exact ⟨0, ⟨fun j => le_of_eq ((h5 j).trans (h5 0).symm), fun j _ => Fin.zero_le j⟩, rfl⟩
  · obtain ⟨k, rfl⟩ := (hmem _).1 h1
    refine ⟨k, ⟨fun j => ?_, fun j hj => ?_⟩, rfl⟩
    · rcases h4 j with h | ⟨h, _⟩
      · exact le_of_lt h
      · exact le_of_eq h
    · rcases h4 j with h | ⟨_, h⟩
      · exact absurd h (not_lt.2 (ge_of_eq hj))
      · rw [toInt_ofNat _ (by omega), toInt_ofNat _ (by omega)] at h
        exact Fin.le_def.2 (by omega)

/-- What an arg-max's body answers: the pair of the greater value, or of the same value and the lesser number. -/
theorem beats_pick {α : Type} (κ : α → β) (a b r : α × BitVec 32) (g e : Prop) [Decidable g] [Decidable e]
    (hg : g ↔ κ b.1 < κ a.1) (he : e ↔ a.1 = b.1 ∧ a.2.toInt < b.2.toInt)
    (hr : r = (if g then a.1 else b.1, if g ∨ e then a.2 else b.2)) (hi : ∀ x y, κ x = κ y → x = y) :
    (r = a ∨ r = b) ∧ Beats κ r a ∧ Beats κ r b := by
  subst hr
  by_cases h : g
  · rw [if_pos h, if_pos (.inl h)]
    exact ⟨.inl rfl, Beats.refl κ a, .inl (hg.1 h)⟩
  · have h' := not_lt.1 (fun x => h (hg.2 x))
    by_cases h2 : e
    · rw [if_neg h, if_pos (.inr h2), ← (he.1 h2).1]
      exact ⟨.inl rfl, Beats.refl κ a, .inr ⟨by rw [(he.1 h2).1], le_of_lt (he.1 h2).2⟩⟩
    · rw [if_neg h, if_neg (not_or.2 ⟨h, h2⟩)]
      refine ⟨.inr rfl, ?_, Beats.refl κ b⟩
      rcases lt_or_eq_of_le h' with h3 | h3
      · exact .inl h3
      · exact .inr ⟨h3, not_lt.1 fun h4 => h2 (he.2 ⟨hi _ _ h3, h4⟩)⟩

theorem ofBool_one (b : Bool) : (BitVec.ofBool b = 1#1) ↔ b = true := by cases b <;> decide

theorem ori_one (a b : BitVec 1) : IntOp.ori a b = 1#1 ↔ a = 1#1 ∨ b = 1#1 := by revert a b; decide

theorem andi_one (a b : BitVec 1) : IntOp.andi a b = 1#1 ↔ a = 1#1 ∧ b = 1#1 := by revert a b; decide

theorem slt_one {w : Nat} (a b : BitVec w) : IntOp.cmpi .slt a b = 1#1 ↔ a.toInt < b.toInt := by
  rw [IntOp.cmpi, ofBool_one]; simp [BitVec.slt]

theorem eq_one {w : Nat} (a b : BitVec w) : IntOp.cmpi .eq a b = 1#1 ↔ a = b := by
  rw [IntOp.cmpi, ofBool_one]; simp

theorem ne_one {w : Nat} (a b : BitVec w) : IntOp.cmpi .ne a b = 1#1 ↔ a ≠ b := by
  rw [IntOp.cmpi, ofBool_one]; simp

theorem oeq_one (a b : EReal) : FloatOps.cmpf (F := Ideal) (φ := .f32) .oeq a b = 1#1 ↔ a = b := by
  show Ideal.cmp .oeq a b = 1#1 ↔ _
  rw [Ideal.cmp, ofBool_one]; simp

theorem ogt_one (a b : EReal) : FloatOps.cmpf (F := Ideal) (φ := .f32) .ogt a b = 1#1 ↔ b < a := by
  show Ideal.cmp .ogt a b = 1#1 ↔ _
  rw [Ideal.cmp, ofBool_one]; simp

theorem une_self (a : EReal) : ¬ FloatOps.cmpf (F := Ideal) (φ := .f32) .une a a = 1#1 := by
  show ¬ Ideal.cmp .une a a = 1#1
  rw [Ideal.cmp, ofBool_one]; simp

end Cert.Own
-- ==== Proof.M.RefArg.lean ====
module

public import proofs.«01_k».proof.Proof.R.Model
public import proofs.«01_k».proof.Proof.M.Arg

@[expose] public section

set_option maxRecDepth 16384

noncomputable section

/-! The reference's draws and places, row by row, over the extended reals. -/

namespace Cert.ReferenceIdeal.Own

open Cert.ReferenceIdeal Cert.ReferenceIdeal.Gen Idealize.ShloMosaic Cert.Own

/-- The host's comparison of two pairs with float values picks one that the other does not beat. -/
theorem beats_f32 (a b : EReal × BitVec 32) :
    (reducer_argmax_f32_i32 (F := Ideal) a b = a ∨ reducer_argmax_f32_i32 (F := Ideal) a b = b) ∧
      Beats id (reducer_argmax_f32_i32 (F := Ideal) a b) a ∧ Beats id (reducer_argmax_f32_i32 (F := Ideal) a b) b := by
  refine beats_pick id a b _ (IntOp.ori (FloatOps.cmpf (F := Ideal) (φ := .f32) .ogt a.1 b.1) (FloatOps.cmpf (F := Ideal) (φ := .f32) .une a.1 a.1) = 1#1)
    (IntOp.andi (FloatOps.cmpf (F := Ideal) (φ := .f32) .oeq a.1 b.1) (IntOp.cmpi .slt a.2 b.2) = 1#1) ?_ ?_ ?_ fun _ _ h => h
  · rw [ori_one, ogt_one]; exact or_iff_left (une_self _)
  · rw [andi_one, oeq_one, slt_one]
  · simp only [← ori_one]; rfl

/-- The same with integer values. -/
theorem beats_i32 (a b : BitVec 32 × BitVec 32) :
    (reducer_argmax_i32_i32 a b = a ∨ reducer_argmax_i32_i32 a b = b) ∧
      Beats BitVec.toInt (reducer_argmax_i32_i32 a b) a ∧ Beats BitVec.toInt (reducer_argmax_i32_i32 a b) b := by
  refine beats_pick BitVec.toInt a b _ (IntOp.ori (IntOp.cmpi .sgt a.1 b.1) (IntOp.cmpi .ne a.1 a.1) = 1#1)
    (IntOp.andi (IntOp.cmpi .eq a.1 b.1) (IntOp.cmpi .slt a.2 b.2) = 1#1) ?_ ?_ ?_ fun _ _ h => BitVec.eq_of_toInt_eq h
  · rw [ori_one, show IntOp.cmpi .sgt a.1 b.1 = IntOp.cmpi .slt b.1 a.1 from rfl, slt_one]
    exact or_iff_left (by rw [ne_one]; simp)
  · rw [andi_one, eq_one, slt_one]
  · simp only [← ori_one]; rfl

theorem argS_eq (x : FVec Ideal S3x4096x2000 .f32) :
    argS (F := Ideal) x = numbers (Host.reduce2 (reducer_argmax_f32_i32 (F := Ideal)) x (iotaInDim S3x4096x2000 32 2)
      (constant (F := Ideal) S_ .f32 0xFF800000#32) (constantI S_ 32 0#32) reducesTo_S3x4096x2000_S3x4096_d2 h_S_) :=
  congrArg numbers (Ideal.argReduce_eq_reduce2 ..)

theorem argE_eq (x : FVec Ideal S4096x3x2000 .f32) :
    argE (F := Ideal) x = numbers (Host.reduce2 (reducer_argmax_f32_i32 (F := Ideal)) x (iotaInDim S4096x3x2000 32 2)
      (constant (F := Ideal) S_ .f32 0xFF800000#32) (constantI S_ 32 0#32) reducesTo_S4096x3x2000_S4096x3_d2 h_S_) :=
  congrArg numbers (Ideal.argReduce_eq_reduce2 ..)

/-- The draws row by row are the draws sample by sample, turned. -/
theorem drawS_apply (x : FVec Ideal S3x4096x2000 .f32) (r : Fin 4096) (p : Fin 3) :
    drawS (F := Ideal) x (ix2 r p) = argS (F := Ideal) x (ix2 p r) := by
  unfold drawS; generalize argS (F := Ideal) x = z; pointwise

/-- A sample's draw of a head drawn sample by sample. -/
theorem drawS_arg (x : FVec Ideal S3x4096x2000 .f32) (r : Fin 4096) (p : Fin 3) :
    ∃ k : Fin 2000, IsArg (fun k => (x (ix3 p r k) : EReal)) k ∧ drawS (F := Ideal) x (ix2 r p) = BitVec.ofNat 32 k.val := by
  obtain ⟨k, h1, h2⟩ := reduce2_arg (α := EReal) id _ beats_f32 x (constant (F := Ideal) S_ .f32 0xFF800000#32) reducesTo_S3x4096x2000_S3x4096_d2 h_S_
    (fun a => (le_of_eq negInf).trans bot_le) (ix2 p r) p r fun k => by
      funext b; match b with | ⟨0, _⟩ => rfl | ⟨1, _⟩ => rfl
  exact ⟨k, h1, by rw [drawS_apply, argS_eq, numbers, h2]⟩

/-- A sample's draw of the edge head. -/
theorem argE_arg (x : FVec Ideal S4096x3x2000 .f32) (r : Fin 4096) (p : Fin 3) :
    ∃ k : Fin 2000, IsArg (fun k => (x (ix3 r p k) : EReal)) k ∧ argE (F := Ideal) x (ix2 r p) = BitVec.ofNat 32 k.val := by
  obtain ⟨k, h1, h2⟩ := reduce2_arg (α := EReal) id _ beats_f32 x (constant (F := Ideal) S_ .f32 0xFF800000#32) reducesTo_S4096x3x2000_S4096x3_d2 h_S_
    (fun a => (le_of_eq negInf).trans bot_le) (ix2 r p) r p fun k => by
      funext b; match b with | ⟨0, _⟩ => rfl | ⟨1, _⟩ => rfl
  exact ⟨k, h1, by rw [argE_eq, numbers, h2]⟩

/-- The place of a node in a tour: its first, or the first place of all where it has none. -/
theorem posR_first (tour : IVec S4096x2000 32) (e : IVec S4096x3 32) (r : Fin 4096) (p : Fin 3) :
    ∃ k : Fin 2000, posR tour e (ix2 r p) = BitVec.ofNat 32 k.val ∧
      ((tour (ix2 r k) = e (ix2 r p) ∧ ∀ j, tour (ix2 r j) = e (ix2 r p) → k ≤ j) ∨ ((∀ j : Fin 2000, tour (ix2 r j) ≠ e (ix2 r p)) ∧ k = 0)) := by
  have hm : ∀ k : Fin 2000, (extui 32 (cmpi .eq (repR tour) (spR e)) natLt_1_32 : IVec S4096x3x2000 32) (ix3 r p k)
      = (IntOp.cmpi .eq (tour (ix2 r k)) (e (ix2 r p))).setWidth 32 := by
    intro k; unfold repR spR; pointwise
  obtain ⟨k, ⟨h1, h2⟩, h3⟩ := reduce2_arg (α := BitVec 32) BitVec.toInt reducer_argmax_i32_i32 beats_i32
    (extui 32 (cmpi .eq (repR tour) (spR e)) natLt_1_32 : IVec S4096x3x2000 32)
    (constantI S_ 32 2147483648#32) reducesTo_S4096x3x2000_S4096x3_d2 h_S_
    (fun a => SortNet.intMin_toInt_le a) (ix2 r p) r p fun k => by
      funext b; match b with | ⟨0, _⟩ => rfl | ⟨1, _⟩ => rfl
  refine ⟨k, by rw [posR, numbers, h3], ?_⟩
  simp only [hm] at h1 h2
  have hv : ∀ j : Fin 2000, ((IntOp.cmpi .eq (tour (ix2 r j)) (e (ix2 r p))).setWidth 32).toInt = if tour (ix2 r j) = e (ix2 r p) then 1 else 0 := by
    intro j
    by_cases h : tour (ix2 r j) = e (ix2 r p)
    · rw [if_pos h, (eq_one _ _).2 h]; rfl
    · rw [if_neg h, (show IntOp.cmpi .eq (tour (ix2 r j)) (e (ix2 r p)) = 0#1 from by
        have := (eq_one _ _).not.2 h
        revert this; generalize IntOp.cmpi .eq (tour (ix2 r j)) (e (ix2 r p)) = c; revert c; decide)]; rfl
  simp only [hv] at h1 h2
  by_cases hk : tour (ix2 r k) = e (ix2 r p)
  · exact .inl ⟨hk, fun j hj => h2 j (by rw [if_pos hj, if_pos hk])⟩
  · have hn : ∀ j : Fin 2000, tour (ix2 r j) ≠ e (ix2 r p) := fun j hj => by
      have := h1 j; rw [if_pos hj, if_neg hk] at this; omega
    exact .inr ⟨hn, le_antisymm (h2 0 (by rw [if_neg (hn 0), if_neg hk])) (Fin.zero_le _)⟩

end Cert.ReferenceIdeal.Own
-- ==== Proof.M.RefNoise.lean ====
module

public import proofs.«01_k».proof.Proof.R.Model
public import proofs.«01_k».proof.Proof.K.Model
public import proofs.«01_k».proof.Proof.M.Arg
public import Idealize.ShloMosaic.Lib.KernelVsHost

@[expose] public section

set_option maxRecDepth 16384

noncomputable section

/-! The reference's random numbers, one at a time: the same hash of the same counters as the kernel's. -/

namespace Cert.ReferenceIdeal.Own

open Cert.ReferenceIdeal Cert.ReferenceIdeal.Gen Idealize.ShloMosaic Cert.Own

/-- The head's key. -/
def keyAt (h : Fin 3) : Key := match h with | 0 => keyB | 1 => keyC | 2 => keyE

variable (h : Fin 3) (n : Fin 24576000)

theorem spK_apply (k : KeyV) : spK k (ix2 h n) = k (ix2 h 0) := by unfold spK; pointwise

theorem cst_apply (c : BitVec 32) (j : S3x24576000.Idx) : cst c j = c := rfl

theorem key0_apply : key0 (ix2 h 0) = (keyAt h).a := by fin_cases h <;> rfl

theorem key1_apply : key1 (ix2 h 0) = (keyAt h).b := by fin_cases h <;> rfl

theorem key2_apply : key2 (ix2 h 0) = (keyAt h).c := by fin_cases h <;> rfl

/-- The two words of one hash. -/
def At (s : StV) (t : St) : Prop := s.1 (ix2 h n) = t.1 ∧ s.2 (ix2 h n) = t.2

variable {h n} {s : StV} {t : St}

/-- A round of all hashes is a round of each, -/
theorem rnd_at (a b : BitVec 32) (e : At h n s t) : At h n (rndV a b s) (rnd a b t) := by
  obtain ⟨e1, e2⟩ := e
  refine ⟨by show IntOp.addi _ _ = _; rw [e1, e2]; rfl, ?_⟩
  show IntOp.xori (IntOp.addi _ _) (IntOp.ori (IntOp.shli .host _ a) (IntOp.shrui .host _ b)) = _
  rw [e1, e2, shli_unit .host .vector, shrui_unit .host .vector]
  exact BitVec.xor_comm _ _

theorem fourA_at (e : At h n s t) : At h n (fourAV s) (fourA t) := rnd_at _ _ (rnd_at _ _ (rnd_at _ _ (rnd_at _ _ e)))

theorem fourB_at (e : At h n s t) : At h n (fourBV s) (fourB t) := rnd_at _ _ (rnd_at _ _ (rnd_at _ _ (rnd_at _ _ e)))

/-- a key injection of all hashes one of each. -/
theorem inj_at (u v : KeyV) (u' v' c : BitVec 32) (hu : u (ix2 h 0) = u') (hv : v (ix2 h 0) = v') (e : At h n s t) :
    At h n (injV u v c s) (inj u' v' c t) := by
  obtain ⟨e1, e2⟩ := e
  refine ⟨?_, ?_⟩
  · show IntOp.addi (s.1 (ix2 h n)) (spK u (ix2 h n)) = _
    rw [spK_apply, e1, hu]; rfl
  · show IntOp.addi (IntOp.addi (s.2 (ix2 h n)) (spK v (ix2 h n))) c = _
    rw [spK_apply, e2, hv]; rfl

variable (h n)

theorem ctrV_apply : ctrV (ix2 h n) = BitVec.ofNat 32 n.val := by unfold ctrV; pointwise

/-- The reference's hash is the hash of each counter. -/
theorem hash5_at : At h n hash5V (hash5 (keyAt h) (BitVec.ofNat 32 n.val)) := by
  have e0 : At h n (addi (cst 0#32) (spK key0), addi ctrV (spK key1)) ((keyAt h).a, IntOp.addi (BitVec.ofNat 32 n.val) (keyAt h).b) := by
    refine ⟨?_, ?_⟩
    · show IntOp.addi 0#32 (spK key0 (ix2 h n)) = _
      rw [spK_apply, key0_apply]; exact BitVec.zero_add _
    · show IntOp.addi (ctrV (ix2 h n)) (spK key1 (ix2 h n)) = _
      rw [spK_apply, key1_apply, ctrV_apply]
  have k0 := key0_apply h
  have k1 := key1_apply h
  have k2 := key2_apply h
  exact inj_at _ _ _ _ _ k2 k0 (fourA_at (inj_at _ _ _ _ _ k1 k2 (fourB_at (inj_at _ _ _ _ _ k0 k1 (fourA_at
    (inj_at _ _ _ _ _ k2 k0 (fourB_at (inj_at _ _ _ _ _ k1 k2 (fourA_at e0)))))))))

variable {h n}

/-- The numbers from the words are those of each word. -/
theorem gum_at (e : At h n s t) : (gumV (F := Ideal) s (ix2 h n) : EReal) = gumF (F := Ideal) (unitF (F := Ideal) (word t)) := by
  obtain ⟨e1, e2⟩ := e
  have hw : unitF (F := Ideal) (word t) = (mulf (subf (bitcastToFloat (F := Ideal) .f32 (ori (Host.shrui (xori s.1 s.2) (cst 9#32)) (cst 1065353216#32)))
      (cstF 0x3F800000#32)) (cstF 0x3F800000#32) : FVec Ideal S3x24576000 .f32) (ix2 h n) := by
    unfold unitF word
    rw [← e1, ← e2, shrui_unit .vector .host]
    rfl
  rw [hw]
  unfold gumV
  generalize (mulf (subf (bitcastToFloat (F := Ideal) .f32 (ori (Host.shrui (xori s.1 s.2) (cst 9#32)) (cst 1065353216#32)))
      (cstF 0x3F800000#32)) (cstF 0x3F800000#32) : FVec Ideal S3x24576000 .f32) = u
  unfold gumF
  rw [Ideal.subf_zero_eq_hostNegf, Ideal.subf_zero_eq_hostNegf]
  show FloatOps.hostNegf (F := Ideal) (φ := .f32) (FloatOps.hostUnary .log (FloatOps.hostNegf (FloatOps.hostUnary .log (max (FloatOps.ofBits (F := Ideal) .f32 0x00800000#32 : EReal)
    (FloatOps.addf (F := Ideal) (φ := .f32) (u (ix2 h n)) (FloatOps.ofBits .f32 0x00800000#32))))) : Ideal .f32) = _
  rw [max_comm]
  rfl

/-- A number of the reference is the Gumbel number of its counter under its head's key. -/
theorem noise_apply : (noiseV (F := Ideal) (ix2 h n) : EReal) = gum (F := Ideal) (keyAt h) (BitVec.ofNat 32 n.val) :=
  gum_at (hash5_at h n)

theorem headB_apply (g : FVec Ideal S3x24576000 .f32) (n : Fin 24576000) : headB (F := Ideal) g (ix1 n) = g (ix2 0 n) := by
  unfold headB; pointwise

theorem headC_apply (g : FVec Ideal S3x24576000 .f32) (n : Fin 24576000) : headC (F := Ideal) g (ix1 n) = g (ix2 1 n) := by
  unfold headC; pointwise

theorem headE_apply (g : FVec Ideal S3x24576000 .f32) (n : Fin 24576000) : headE (F := Ideal) g (ix1 n) = g (ix2 2 n) := by
  unfold headE; pointwise

/-- A score is the noise at the entry's place in the row-major order, and the logit. -/
theorem scoreS_apply (g : FVec Ideal S24576000 .f32) (x : FVec Ideal S4096x2000 .f32) (p : Fin 3) (r : Fin 4096) (k : Fin 2000) :
    (scoreS (F := Ideal) g x (ix3 p r k) : EReal) = x (ix2 r k) + g (ix1 ⟨(p.val * 4096 + r.val) * 2000 + k.val, by omega⟩) := by
  unfold scoreS; pointwise
  exact (add_comm _ _).trans (by congr 4; omega)

/-- The same of the edge head. -/
theorem scoreE_apply (g : FVec Ideal S24576000 .f32) (x : FVec Ideal S4096x3x2000 .f32) (p : Fin 3) (r : Fin 4096) (k : Fin 2000) :
    (scoreE (F := Ideal) g x (ix3 r p k) : EReal) = x (ix3 r p k) + g (ix1 ⟨(r.val * 3 + p.val) * 2000 + k.val, by omega⟩) := by
  unfold scoreE; pointwise
  exact (add_comm _ _).trans (by congr 4; omega)

end Cert.ReferenceIdeal.Own
-- ==== Proof.M.KerArg.lean ====
module

public import proofs.«01_k».proof.Proof.K.Block
public import proofs.«01_k».proof.Proof.M.Arg

@[expose] public section

set_option maxRecDepth 16384

noncomputable section

/-! The kernel's draws and places, row by row, over the extended reals. -/

namespace Cert.KernelIdeal.Own

open Cert.KernelIdeal Cert.KernelIdeal.Gen Idealize.ShloMosaic Cert.Own

/-- A row's greatest entry, as a fold. -/
theorem maxV_apply (x : FVec Ideal S512x2000 .f32) (r : Fin 512) (c : Fin 1) :
    (maxV (F := Ideal) x (ix2 r c) : EReal) = Finset.univ.fold max (⊥ : EReal) fun k : Fin 2000 => (x (ix2 r k) : EReal) := by
  unfold maxV; pointwise; rw [negInf]

/-- A row's sum. -/
theorem sumV_apply (x : FVec Ideal S512x2000 .f32) (r : Fin 512) (c : Fin 1) :
    (sumV (F := Ideal) x (ix2 r c) : EReal) = ∑ k : Fin 2000, (x (ix2 r k) : EReal) := by
  unfold sumV; pointwise

/-- A row's least marked column, as a fold. -/
theorem firstV_apply (b : IVec S512x2000 1) (r : Fin 512) (c : Fin 1) :
    firstV b (ix2 r c) = Finset.univ.fold IntOp.minsi 2147483647#32 fun k : Fin 2000 => if b (ix2 r k) = 1#1 then BitVec.ofNat 32 k.val else 2000#32 := by
  unfold firstV colV; pointwise; rfl

/-- A row's greatest entry is one of them, and no less than any. -/
theorem maxV_spec (x : FVec Ideal S512x2000 .f32) (r : Fin 512) (c : Fin 1) :
    (∃ k : Fin 2000, (maxV (F := Ideal) x (ix2 r c) : EReal) = x (ix2 r k)) ∧ ∀ k : Fin 2000, (x (ix2 r k) : EReal) ≤ maxV (F := Ideal) x (ix2 r c) := by
  rw [maxV_apply]
  obtain ⟨h1, _, h3⟩ := fold_dom (fun a b : EReal => b ≤ a) le_refl (fun _ _ _ h g => le_trans g h) max
    (fun a b => ⟨max_choice a b, le_max_left a b, le_max_right a b⟩) Finset.univ (fun k : Fin 2000 => (x (ix2 r k) : EReal)) ⊥
  refine ⟨?_, fun k => h3 k (Finset.mem_univ _)⟩
  rcases h1 with h1 | ⟨k, _, h1⟩
  · exact ⟨0, le_antisymm (h1.trans_le bot_le) (h3 0 (Finset.mem_univ _))⟩
  · exact ⟨k, h1⟩

/-- The first mark's column, or the row's length. -/
theorem firstV_spec (b : IVec S512x2000 1) (r : Fin 512) (c : Fin 1) :
    (∃ k : Fin 2000, b (ix2 r k) = 1#1 ∧ (∀ j, b (ix2 r j) = 1#1 → k ≤ j) ∧ firstV b (ix2 r c) = BitVec.ofNat 32 k.val) ∨
      ((∀ k : Fin 2000, b (ix2 r k) ≠ 1#1) ∧ firstV b (ix2 r c) = 2000#32) := by
  rw [firstV_apply]
  obtain ⟨h1, h2, h3⟩ := fold_dom (fun a b : BitVec 32 => a.toInt ≤ b.toInt) (fun _ => le_refl _) (fun _ _ _ h g => le_trans h g) IntOp.minsi
    (fun a b => ⟨by unfold IntOp.minsi; split <;> simp, by rw [SortNet.toInt_minsi]; exact min_le_left _ _,
      by rw [SortNet.toInt_minsi]; exact min_le_right _ _⟩) Finset.univ
    (fun k : Fin 2000 => if b (ix2 r k) = 1#1 then BitVec.ofNat 32 k.val else 2000#32) 2147483647#32
  generalize Finset.fold IntOp.minsi _ _ _ = m at h1 h2 h3 ⊢
  have hle : ∀ k : Fin 2000, m.toInt ≤ 2000 := fun k => by
    have := h3 k (Finset.mem_univ _)
    split at this
    · rw [toInt_ofNat _ (by omega)] at this; omega
    · exact this
  have e2000 : (2000#32 : BitVec 32).toInt = 2000 := rfl
  rcases h1 with rfl | ⟨k, _, h1⟩
  · exact absurd (hle 0) (by decide)
  · by_cases hk : b (ix2 r k) = 1#1
    · rw [if_pos hk] at h1
      refine .inl ⟨k, hk, fun j hj => ?_, h1⟩
      have := h3 j (Finset.mem_univ _)
      rw [if_pos hj, h1, toInt_ofNat _ (by omega), toInt_ofNat _ (by omega)] at this
      exact Fin.le_def.2 (by omega)
    · rw [if_neg hk] at h1
      refine .inr ⟨fun j hj => ?_, h1⟩
      have := h3 j (Finset.mem_univ _)
      rw [if_pos hj, h1, e2000, toInt_ofNat _ (by omega)] at this
      omega

/-- A mark says that the entry is the row's greatest. -/
theorem topV_one (s : FVec Ideal S512x2000 .f32) (r : Fin 512) (k : Fin 2000) :
    topV (F := Ideal) s (ix2 r k) = 1#1 ↔ (s (ix2 r k) : EReal) = maxV (F := Ideal) s (ix2 r 0) := by
  rw [← oeq_one]
  unfold topV spreadV; pointwise

/-- A mark is where the row is greatest. -/
theorem topV_iff (s : FVec Ideal S512x2000 .f32) (r : Fin 512) (k : Fin 2000) :
    topV (F := Ideal) s (ix2 r k) = 1#1 ↔ ∀ j : Fin 2000, (s (ix2 r j) : EReal) ≤ s (ix2 r k) := by
  rw [topV_one]
  obtain ⟨⟨l, hl⟩, h⟩ := maxV_spec s r 0
  exact ⟨fun e j => e ▸ h j, fun g => le_antisymm (h k) (hl ▸ g l)⟩

/-- The draw is where the row is first greatest. -/
theorem first_top (s : FVec Ideal S512x2000 .f32) (r : Fin 512) (c : Fin 1) :
    ∃ k : Fin 2000, IsArg (fun j => (s (ix2 r j) : EReal)) k ∧ firstV (topV (F := Ideal) s) (ix2 r c) = BitVec.ofNat 32 k.val := by
  rcases firstV_spec (topV (F := Ideal) s) r c with ⟨k, h1, h2, h3⟩ | ⟨h, _⟩
  · rw [topV_iff] at h1
    exact ⟨k, ⟨h1, fun j hj => h2 j ((topV_iff s r j).2 fun i => (h1 i).trans (le_of_eq hj.symm))⟩, h3⟩
  · obtain ⟨⟨l, hl⟩, _⟩ := maxV_spec s r 0
    exact absurd ((topV_one s r l).2 hl.symm) (h l)

end Cert.KernelIdeal.Own
-- ==== Proof.M.KerNoise.lean ====
module

public import proofs.«01_k».proof.Proof.M.KerArg

@[expose] public section

set_option maxRecDepth 16384

noncomputable section

/-! The kernel's scores, one at a time. -/

namespace Cert.KernelIdeal.Own

open Cert.KernelIdeal Cert.KernelIdeal.Gen Idealize.ShloMosaic Cert.Own

variable (i : grid0.Coords) (r : Fin 512) (k : Fin 2000)

/-- A row's number in the whole. -/
theorem rowV_apply : rowV i 0#32 (ix2 r k) = BitVec.ofNat 32 (512 * (i 0).val + r.val) := by
  have h : rowV i 0#32 (ix2 r k) = BitVec.ofNat 32 r.val + (0#32 + BitVec.ofNat 32 (i 0).val) * 512#32 := by
    unfold rowV; pointwise; rfl
  rw [h, BitVec.zero_add, ← BitVec.ofNat_mul, ← BitVec.ofNat_add, Nat.add_comm, Nat.mul_comm]

/-- An entry's counter, of the heads drawn sample by sample, -/
theorem ctrS_apply (row : IVec S512x2000 32) (o : BitVec 32) : ctrS row o (ix2 r k) = (o + row (ix2 r k)) * 2000#32 + BitVec.ofNat 32 k.val := by
  unfold ctrS colV; pointwise; rfl

/-- and of the edge head. -/
theorem ctrE_apply (row : IVec S512x2000 32) (p : BitVec 32) : ctrE row p (ix2 r k) = (row (ix2 r k) * 3#32 + p) * 2000#32 + BitVec.ofNat 32 k.val := by
  unfold ctrE colV; pointwise; rfl

/-- The counter is the entry's place in the row-major order of samples, rows and columns. -/
theorem ctrS_row (p : Nat) : ctrS (rowV i 0#32) (BitVec.ofNat 32 (4096 * p)) (ix2 r k)
    = BitVec.ofNat 32 ((p * 4096 + (512 * (i 0).val + r.val)) * 2000 + k.val) := by
  rw [ctrS_apply, rowV_apply, ← BitVec.ofNat_add, ← BitVec.ofNat_mul, ← BitVec.ofNat_add, Nat.mul_comm 4096 p]

/-- The counter is the entry's place in the row-major order of rows, samples and columns. -/
theorem ctrE_row (p : Nat) : ctrE (rowV i 0#32) (BitVec.ofNat 32 p) (ix2 r k)
    = BitVec.ofNat 32 (((512 * (i 0).val + r.val) * 3 + p) * 2000 + k.val) := by
  rw [ctrE_apply, rowV_apply, ← BitVec.ofNat_mul, ← BitVec.ofNat_add, ← BitVec.ofNat_mul, ← BitVec.ofNat_add]

/-- A score is the logit and the counter's Gumbel number. -/
theorem scoreV_apply (key : Key) (n : IVec S512x2000 32) (x : FVec Ideal S512x2000 .f32) (j : S512x2000.Idx) :
    (scoreV (F := Ideal) key n x j : EReal) = (x j : EReal) + (gum (F := Ideal) key (n j) : EReal) := rfl

end Cert.KernelIdeal.Own
-- ==== Proof.M.Agree.lean ====
module

public import proofs.«01_k».proof.Proof.M.RefArg
public import proofs.«01_k».proof.Proof.M.RefNoise
public import proofs.«01_k».proof.Proof.M.KerNoise

@[expose] public section

set_option maxRecDepth 16384

noncomputable section

/-! A block's draws are the reference's draws of its rows. -/

namespace Cert.Own

open Idealize.ShloMosaic
open Cert.KernelIdeal (grid0 S512x2000 S512x1)
open Cert.ReferenceIdeal (S4096x2000 S4096x3x2000 S3x4096x2000)
open Cert.KernelIdeal.Own Cert.ReferenceIdeal.Own

variable (i : grid0.Coords)

/-- The row of the whole that is row `r` of block `i`. -/
def rowOf (r : Fin 512) : Fin 4096 := ⟨512 * (i 0).val + r.val, by have := (i 0).isLt; have : (i 0).val < 8 := this; omega⟩

/-- A block holds its rows of the whole. -/
def IsBlock {α : Type} (xb : S512x2000.Idx → α) (x : S4096x2000.Idx → α) : Prop := ∀ r k, xb (ix2 r k) = x (ix2 (rowOf i r) k)

/-- The first row number of a sample of the backtrack and city heads. -/
abbrev off (p : Fin 3) : BitVec 32 := BitVec.ofNat 32 (4096 * p.val)

/-- A sample's number. -/
abbrev num (p : Fin 3) : BitVec 32 := BitVec.ofNat 32 p.val

variable {i} (r : Fin 512) (p : Fin 3)

/-- The scores of a head drawn sample by sample are the same. -/
theorem scoreS_agree (h : Fin 3) (g : FVec Ideal Cert.ReferenceIdeal.S24576000 .f32) (hg : ∀ n, g (ix1 n) = noiseV (F := Ideal) (ix2 h n))
    (xb : FVec Ideal S512x2000 .f32) (x : FVec Ideal S4096x2000 .f32) (hx : IsBlock i xb x) (k : Fin 2000) :
    (scoreV (F := Ideal) (keyAt h) (ctrS (rowV i 0#32) (off p)) xb (ix2 r k) : EReal) = scoreS (F := Ideal) g x (ix3 p (rowOf i r) k) := by
  rw [scoreS_apply, hg, noise_apply, scoreV_apply, ctrS_row, hx]
  rfl

/-- A head's draw of a sample is the reference's, of the same noise and logits. -/
theorem draw_agree (h : Fin 3) (g : FVec Ideal Cert.ReferenceIdeal.S24576000 .f32) (hg : ∀ n, g (ix1 n) = noiseV (F := Ideal) (ix2 h n))
    (xb : FVec Ideal S512x2000 .f32) (x : FVec Ideal S4096x2000 .f32) (hx : IsBlock i xb x) (c : Fin 1) :
    firstV (topV (F := Ideal) (scoreV (keyAt h) (ctrS (rowV i 0#32) (off p)) xb)) (ix2 r c) = drawS (F := Ideal) (scoreS g x) (ix2 (rowOf i r) p) := by
  obtain ⟨k, h1, h2⟩ := first_top (scoreV (F := Ideal) (keyAt h) (ctrS (rowV i 0#32) (off p)) xb) r c
  obtain ⟨l, h3, h4⟩ := drawS_arg (scoreS (F := Ideal) g x) (rowOf i r) p
  rw [h2, h4]
  simp only [scoreS_agree r p h g hg xb x hx] at h1
  rw [h1.unique h3]

/-- The backtrack draws. -/
theorem drawB_agree {xb : FVec Ideal S512x2000 .f32} {x : FVec Ideal S4096x2000 .f32} (hx : IsBlock i xb x) (c : Fin 1) :
    firstV (topB (F := Ideal) (rowV i 0#32) xb (off p)) (ix2 r c) = drawB (F := Ideal) x (ix2 (rowOf i r) p) :=
  draw_agree r p 0 (headB (F := Ideal) noiseV) (fun n => headB_apply _ n) xb x hx c

/-- The clipped logarithms are the same. -/
theorem clip_agree {xb : FVec Ideal S512x2000 .f32} {x : FVec Ideal S4096x2000 .f32} (hx : IsBlock i xb x) :
    IsBlock i (clipLogV (F := Ideal) xb) (clipLogR (F := Ideal) x) := by
  intro r k
  unfold clipLogV clipLogR
  pointwise
  rw [hx, max_comm]

/-- The city draws. -/
theorem drawC_agree {xb : FVec Ideal S512x2000 .f32} {x : FVec Ideal S4096x2000 .f32} (hx : IsBlock i xb x) (c : Fin 1) :
    firstV (topC (F := Ideal) (rowV i 0#32) xb (off p)) (ix2 r c) = drawC (F := Ideal) x (ix2 (rowOf i r) p) :=
  draw_agree r p 1 (headC (F := Ideal) noiseV) (fun n => headC_apply _ n) _ _ (clip_agree hx) c

/-- The edges' log-probabilities, the same city masked. -/
theorem elog_agree {eb : FVec Ideal S512x2000 .f32} {e : FVec Ideal S4096x2000 .f32} (he : IsBlock i eb e)
    (cb : IVec S512x1 32) (c : IVec Cert.ReferenceIdeal.S4096x3 32) (hc : cb (ix2 r 0) = c (ix2 (rowOf i r) p)) (k : Fin 2000) :
    (edgeLogV (F := Ideal) cb eb (ix2 r k) : EReal) = elogR (F := Ideal) c e (ix3 (rowOf i r) p k) := by
  have hm : ∀ k : Fin 2000, (select (α := Ideal .f32) (cmpi .eq colV (spreadV (F := Ideal) (e := .i32) cb)) (broadcast S512x2000 (Scalar.ofBits .f32 0x3089705F#32)) eb (ix2 r k) : EReal)
      = maskR (F := Ideal) c e (ix3 (rowOf i r) p k) := by
    intro k
    have e1 : (select (α := Ideal .f32) (cmpi .eq colV (spreadV (F := Ideal) (e := .i32) cb)) (broadcast S512x2000 (Scalar.ofBits .f32 0x3089705F#32)) eb (ix2 r k) : EReal)
        = if IntOp.cmpi .eq (BitVec.ofNat 32 k.val) (cb (ix2 r 0)) = 1#1 then Ideal.ofBits .f32 0x3089705F#32 else eb (ix2 r k) := by
      unfold colV spreadV; pointwise; rfl
    have e2 : (maskR (F := Ideal) c e (ix3 (rowOf i r) p k) : EReal)
        = if IntOp.cmpi .ne (BitVec.ofNat 32 k.val) (c (ix2 (rowOf i r) p)) = 1#1 then e (ix2 (rowOf i r) k) else Ideal.ofBits .f32 0x3089705F#32 := by
      unfold maskR spR repR; pointwise; rfl
    rw [e1, e2, hc, he]
    by_cases h : BitVec.ofNat 32 k.val = c (ix2 (rowOf i r) p)
    · rw [if_pos ((eq_one _ _).2 h), if_neg fun h' => (ne_one _ _).1 h' h]
    · rw [if_neg fun h' => h ((eq_one _ _).1 h'), if_pos ((ne_one _ _).2 h)]
  have e1 : (edgeLogV (F := Ideal) cb eb (ix2 r k) : EReal) = FloatOps.log (F := Ideal) (φ := .f32) (FloatOps.divf
      (select (α := Ideal .f32) (cmpi .eq colV (spreadV (F := Ideal) (e := .i32) cb)) (broadcast S512x2000 (Scalar.ofBits .f32 0x3089705F#32)) eb (ix2 r k))
      (sumV (F := Ideal) (select (α := Ideal .f32) (cmpi .eq colV (spreadV (F := Ideal) (e := .i32) cb)) (broadcast S512x2000 (Scalar.ofBits .f32 0x3089705F#32)) eb) (ix2 r 0))) := by
    unfold edgeLogV spreadV
    generalize (select (α := Ideal .f32) _ (broadcast S512x2000 (Scalar.ofBits .f32 0x3089705F#32)) eb) = z
    generalize hS : sumV (F := Ideal) z = S
    pointwise
  have e2 : (elogR (F := Ideal) c e (ix3 (rowOf i r) p k) : EReal) = FloatOps.log (F := Ideal) (φ := .f32) (FloatOps.divf
      (maskR (F := Ideal) c e (ix3 (rowOf i r) p k)) (∑ k : Fin 2000, (maskR (F := Ideal) c e (ix3 (rowOf i r) p k) : EReal) : EReal)) := by
    unfold elogR spR
    generalize maskR (F := Ideal) c e = z
    pointwise
  rw [e1, e2, sumV_apply]
  simp only [hm]

/-- The masked edges' log-probabilities are the same, the city drawn being the same. -/
theorem clog_agree {cb eb : FVec Ideal S512x2000 .f32} {c e : FVec Ideal S4096x2000 .f32} (hc : IsBlock i cb c) (he : IsBlock i eb e) (k : Fin 2000) :
    (elog (F := Ideal) (rowV i 0#32) cb eb (off p) (ix2 r k) : EReal) = elogR (F := Ideal) (drawC c) e (ix3 (rowOf i r) p k) :=
  elog_agree r p he _ _ (drawC_agree r p hc 0) k

/-- The scores of the edge head are the same. -/
theorem scoreE_agree {cb eb : FVec Ideal S512x2000 .f32} {c e : FVec Ideal S4096x2000 .f32} (hc : IsBlock i cb c) (he : IsBlock i eb e) (k : Fin 2000) :
    (scoreV (F := Ideal) keyE (ctrE (rowV i 0#32) (num p)) (elog (F := Ideal) (rowV i 0#32) cb eb (off p)) (ix2 r k) : EReal)
      = scoreE (F := Ideal) (headE noiseV) (elogR (drawC c) e) (ix3 (rowOf i r) p k) := by
  rw [scoreE_apply, headE_apply, noise_apply, scoreV_apply, ctrE_row, clog_agree r p hc he]
  rfl

/-- The edge draws. -/
theorem drawE_agree {cb eb : FVec Ideal S512x2000 .f32} {c e : FVec Ideal S4096x2000 .f32} (hc : IsBlock i cb c) (he : IsBlock i eb e) (d : Fin 1) :
    firstV (topE (F := Ideal) (rowV i 0#32) cb eb (off p) (num p)) (ix2 r d) = edgeR (F := Ideal) c e (ix2 (rowOf i r) p) := by
  unfold topE edgeR
  obtain ⟨k, h1, h2⟩ := first_top (scoreV (F := Ideal) keyE (ctrE (rowV i 0#32) (num p)) (elog (F := Ideal) (rowV i 0#32) cb eb (off p))) r d
  obtain ⟨l, h3, h4⟩ := argE_arg (scoreE (F := Ideal) (headE noiseV) (elogR (drawC c) e)) (rowOf i r) p
  rw [h2, h4]
  simp only [scoreE_agree r p hc he] at h1
  rw [h1.unique h3]

end Cert.Own
-- ==== Proof.K.Arrays.lean ====
module

public import proofs.«01_k».proof.Proof.K.OkKernelIdeal
public import proofs.«01_k».proof.Proof.K.Outs
public import proofs.«01_k».proof.Proof.M.Agree
public import Idealize.ShloMosaic.Lib.Pipeline.ValueKit

@[expose] public section

set_option maxRecDepth 16384

noncomputable section

/-! The launch's blocks: which rows of its array each holds. -/

namespace Cert.KernelIdeal.Own

open Idealize.ShloMosaic Idealize.ShloMosaic.TcCoe Idealize.SL.Sem Cert.KernelIdeal Cert.KernelIdeal.Gen Cert.Own

variable (m : (ℓ : Loc nD τ sig) → Buf (Elt Ideal) ℓ) (c : Dev nD) (t : Fin grid0.N)

/-- The table's word is zero. -/
theorem word : kernelRun0_A.sl.r (F := Ideal) c (tbl m 0) = 0#32 := by
  rw [tbl_eq]; rfl

/-- At the zero table block `i` of an array of row blocks starts at row `512 * i`. -/
theorem start_0 (i : grid0.Coords) : cc0_transform_0 (F := Ideal) inb_S1_S1_0 numel1_S1 pfZ i = ![(i 0).val, 0] := by
  revert i; decide +kernel

/-- Block `i`'s place in its array: row `r` of it is row `512 * i + r`. -/
theorem place {n : Nat} (i : grid0.Coords) (r : Fin 512) (k : Fin n) (a : Fin 2) :
    (![(i 0).val, 0] : Fin 2 → Nat) a * (![512, n] : Fin 2 → Nat) a + (ix2 r k a).val = (ix2 (rowOf i r) k a).val := by
  match a with
  | 0 => show (i 0).val * 512 + r.val = 512 * (i 0).val + r.val; omega
  | 1 => show 0 * n + k.val = k.val; omega

/-- Each input's block holds rows of its array: the tours, -/
theorem in_0 (r k) : iblk m (ok m) c 0 t (ix2 r k) = m ((c : Thread nD τ).loc main_arg0) (ix2 (rowOf (grid0.coords t) r) k) := by
  rw [← V_main_arg0 m c]
  show V m c main_arg0 ((((cfgM m (ok m)).win 0).blk t).view.emb (ix2 r k)) = V m c main_arg0 _
  refine congrArg _ (funext fun a => Fin.ext ?_)
  blk_simp
  rw [show ((cfgM m (ok m)).win 0).index t = ![(grid0.coords t 0).val, 0] from
    (congrArg (fun z => cc0_transform_0 (F := Ideal) inb_S1_S1_0 numel1_S1 z (grid0.coords t)) (tbl_eq m)).trans (start_0 _)]
  exact place (grid0.coords t) r k a

/-- the values, -/
theorem in_1 (r k) : iblk m (ok m) c 1 t (ix2 r k) = m ((c : Thread nD τ).loc main_arg1) (ix2 (rowOf (grid0.coords t) r) k) := by
  rw [← V_main_arg1 m c]
  show V m c main_arg1 ((((cfgM m (ok m)).win 1).blk t).view.emb (ix2 r k)) = V m c main_arg1 _
  refine congrArg _ (funext fun a => Fin.ext ?_)
  blk_simp
  rw [show ((cfgM m (ok m)).win 1).index t = ![(grid0.coords t 0).val, 0] from
    (congrArg (fun z => cc0_transform_1 (F := Ideal) inb_S1_S1_0 numel1_S1 z (grid0.coords t)) (tbl_eq m)).trans (start_0 _)]
  exact place (grid0.coords t) r k a

/-- the backtrack potentials, -/
theorem in_2 (r k) : iblk m (ok m) c 2 t (ix2 r k) = m ((c : Thread nD τ).loc main_arg2) (ix2 (rowOf (grid0.coords t) r) k) := by
  rw [← V_main_arg2 m c]
  show V m c main_arg2 ((((cfgM m (ok m)).win 2).blk t).view.emb (ix2 r k)) = V m c main_arg2 _
  refine congrArg _ (funext fun a => Fin.ext ?_)
  blk_simp
  rw [show ((cfgM m (ok m)).win 2).index t = ![(grid0.coords t 0).val, 0] from
    (congrArg (fun z => cc0_transform_2 (F := Ideal) inb_S1_S1_0 numel1_S1 z (grid0.coords t)) (tbl_eq m)).trans (start_0 _)]
  exact place (grid0.coords t) r k a

/-- the city probabilities, -/
theorem in_3 (r k) : iblk m (ok m) c 3 t (ix2 r k) = m ((c : Thread nD τ).loc main_arg3) (ix2 (rowOf (grid0.coords t) r) k) := by
  rw [← V_main_arg3 m c]
  show V m c main_arg3 ((((cfgM m (ok m)).win 3).blk t).view.emb (ix2 r k)) = V m c main_arg3 _
  refine congrArg _ (funext fun a => Fin.ext ?_)
  blk_simp
  rw [show ((cfgM m (ok m)).win 3).index t = ![(grid0.coords t 0).val, 0] from
    (congrArg (fun z => cc0_transform_3 (F := Ideal) inb_S1_S1_0 numel1_S1 z (grid0.coords t)) (tbl_eq m)).trans (start_0 _)]
  exact place (grid0.coords t) r k a

/-- the edge probabilities. -/
theorem in_4 (r k) : iblk m (ok m) c 4 t (ix2 r k) = m ((c : Thread nD τ).loc main_arg4) (ix2 (rowOf (grid0.coords t) r) k) := by
  rw [← V_main_arg4 m c]
  show V m c main_arg4 ((((cfgM m (ok m)).win 4).blk t).view.emb (ix2 r k)) = V m c main_arg4 _
  refine congrArg _ (funext fun a => Fin.ext ?_)
  blk_simp
  rw [show ((cfgM m (ok m)).win 4).index t = ![(grid0.coords t 0).val, 0] from
    (congrArg (fun z => cc0_transform_4 (F := Ideal) inb_S1_S1_0 numel1_S1 z (grid0.coords t)) (tbl_eq m)).trans (start_0 _)]
  exact place (grid0.coords t) r k a

end Cert.KernelIdeal.Own
-- ==== Proof.M.RefTake.lean ====
module

public import proofs.«01_k».proof.Proof.R.Model
public import proofs.«01_k».proof.Proof.M.Arg
public import Idealize.ShloMosaic.Lib.Pointwise

@[expose] public section

noncomputable section

/-! The reference's lookups along a row, at a column known to lie in it. -/

namespace Cert.ReferenceIdeal.Own

open Cert.ReferenceIdeal Cert.ReferenceIdeal.Gen Cert.Own Idealize.ShloMosaic Idealize.ShloMosaic.TcCoe Idealize.SL.Sem Idealize.ShloMosaic.StableHlo

/-- The clamp leaves a column of the row as it is. -/
theorem clamp (k : Fin 2000) : min (BitVec.ofNat 32 k.val).toInt.toNat 1999 = k.val := by
  rw [toInt_ofNat _ (by omega)]; omega

/-- A gather along a sample's row reads it at the index, -/
theorem gather3_apply {α : Type} (x : S4096x3x2000.Idx → α) (idx : IVec S4096x3x1x1 32) (r : Fin 4096) (p : Fin 3) (c : Fin 1) (k : Fin 2000)
    (h : idx (ix4 r p c 0) = BitVec.ofNat 32 k.val) :
    Host.gather gather_S4096x3x2000_S4096x3x1x1_S4096x3x1_n_2_01_01_2_3_111 x idx (ix3 r p c) = x (ix3 r p k) := by
  unfold Host.gather
  congr 1
  funext a
  apply Fin.ext
  match a with
  | ⟨0, _⟩ => show 0 + r.val + 0 = r.val; omega
  | ⟨1, _⟩ => show 0 + p.val + 0 = p.val; omega
  | ⟨2, _⟩ =>
    have e : gather_S4096x3x2000_S4096x3x1x1_S4096x3x1_n_2_01_01_2_3_111.siIdx (ix3 r p c) (0 : Fin 1) = ix4 r p c 0 := by
      funext b
      match b with
      | ⟨0, _⟩ => rfl
      | ⟨1, _⟩ => rfl
      | ⟨2, _⟩ => rfl
      | ⟨3, _⟩ => rfl
    refine Eq.trans ?_ (clamp k)
    rw [← h, ← e]
    rfl

/-- a gather along a row likewise. -/
theorem gather2_apply {α : Type} (x : S4096x2000.Idx → α) (idx : IVec S4096x3x1 32) (r : Fin 4096) (p : Fin 3) (k : Fin 2000)
    (h : idx (ix3 r p 0) = BitVec.ofNat 32 k.val) :
    Host.gather gather_S4096x2000_S4096x3x1_S4096x3_n_1_0_0_1_2_11 x idx (ix2 r p) = x (ix2 r k) := by
  unfold Host.gather
  congr 1
  funext a
  apply Fin.ext
  match a with
  | ⟨0, _⟩ => show 0 + r.val + 0 = r.val; omega
  | ⟨1, _⟩ =>
    have e : gather_S4096x2000_S4096x3x1_S4096x3_n_1_0_0_1_2_11.siIdx (ix2 r p) (0 : Fin 1) = ix3 r p 0 := by
      funext b
      match b with
      | ⟨0, _⟩ => rfl
      | ⟨1, _⟩ => rfl
      | ⟨2, _⟩ => rfl
    refine Eq.trans ?_ (clamp k)
    rw [← h, ← e]
    rfl

/-- A column of the row is not negative. -/
theorem col_nonneg (k : Fin 2000) : ¬ IntOp.cmpi .slt (BitVec.ofNat 32 k.val) 0#32 = 1#1 := by
  rw [slt_one, toInt_ofNat _ (by omega)]; simp

/-- It passes the bounds test. -/
theorem col_in (k : Fin 2000) : IntOp.andi (IntOp.cmpi .sge (BitVec.ofNat 32 k.val) 0#32) (IntOp.cmpi .sle (BitVec.ofNat 32 k.val) 1999#32) = 1#1 := by
  have h : ∀ b : Bool, BitVec.ofBool b = 1#1 ↔ b = true := by decide
  have e : (1999#32 : BitVec 32).toInt = 1999 := by decide
  rw [andi_one]
  constructor
  · show BitVec.ofBool _ = _
    rw [h]; simp [BitVec.sle_eq_decide, toInt_ofNat _ (show k.val ≤ 2000 by omega)]
  · show BitVec.ofBool _ = _
    rw [h]; simp only [BitVec.sle_eq_decide, e, toInt_ofNat _ (show k.val ≤ 2000 by omega)]; simp; omega

theorem fold_one : Finset.univ.fold IntOp.andi (1#1) (fun _ : Fin 1 => 1#1) = 1#1 := by decide

/-- The lookup along a sample's row, at a column of it, is the entry there. -/
theorem take3_apply {α : Type} (x : S4096x3x2000.Idx → α) (fill : S_.Idx → α) (j : IVec S4096x3 32) (r : Fin 4096) (p : Fin 3) (k : Fin 2000)
    (h : j (ix2 r p) = BitVec.ofNat 32 k.val) : take3 x fill j (ix2 r p) = x (ix3 r p k) := by
  have e : ∀ b : Fin 1, ∀ d : Fin 1, (shapeCast S4096x3x1x1 (select (cmpi .slt (broadcastInDim S4096x3x1 ![0, 1] bcast_S4096x3_S4096x3x1_0_1 j) (broadcastInDim S4096x3x1 ![] bcast_S_S4096x3x1 (constantI S_ 32 0#32)))
      (addi (broadcastInDim S4096x3x1 ![0, 1] bcast_S4096x3_S4096x3x1_0_1 j) (broadcastInDim S4096x3x1 ![] bcast_S_S4096x3x1 (constantI S_ 32 2000#32)))
      (broadcastInDim S4096x3x1 ![0, 1] bcast_S4096x3_S4096x3x1_0_1 j)) shapeCasts_S4096x3x1_S4096x3x1x1 : IVec S4096x3x1x1 32) (ix4 r p b d) = BitVec.ofNat 32 k.val := by
    intro b d
    pointwise
    rw [h]
    exact if_neg (col_nonneg k)
  unfold take3
  dsimp only
  generalize (shapeCast S4096x3x1x1 _ shapeCasts_S4096x3x1_S4096x3x1x1 : IVec S4096x3x1x1 32) = at' at e ⊢
  pointwise
  simp only [e, col_in, fold_one]
  exact (if_pos rfl).trans (gather3_apply x at' r p 0 k (e 0 0))

/-- The lookup along a row, at a column of it, is the entry there. -/
theorem take2_apply (x : FVec Ideal S4096x2000 .f32) (j : IVec S4096x3 32) (r : Fin 4096) (p : Fin 3) (k : Fin 2000)
    (h : j (ix2 r p) = BitVec.ofNat 32 k.val) : take2 (F := Ideal) x j (ix2 r p) = x (ix2 r k) := by
  have e : ∀ d : Fin 1, (shapeCast S4096x3x1 (select (cmpi .slt j (broadcastInDim S4096x3 ![] bcast_S_S4096x3 (constantI S_ 32 0#32)))
      (addi j (broadcastInDim S4096x3 ![] bcast_S_S4096x3 (constantI S_ 32 2000#32))) j) shapeCasts_S4096x3_S4096x3x1 : IVec S4096x3x1 32) (ix3 r p d) = BitVec.ofNat 32 k.val := by
    intro d
    pointwise
    rw [h]
    exact if_neg (col_nonneg k)
  unfold take2
  dsimp only
  generalize (shapeCast S4096x3x1 _ shapeCasts_S4096x3_S4096x3x1 : IVec S4096x3x1 32) = at' at e ⊢
  pointwise
  simp only [e, col_in, fold_one]
  exact (if_pos rfl).trans (gather2_apply x at' r p k (e 0))

end Cert.ReferenceIdeal.Own
-- ==== Proof.M.Edges.lean ====
module

public import proofs.«01_k».proof.Proof.M.RefTake
public import proofs.«01_k».proof.Proof.M.Agree

@[expose] public section

set_option maxRecDepth 16384

noncomputable section

/-! The edges' two nodes: a block's are the reference's of its rows. -/

namespace Cert.Own

open Idealize.ShloMosaic
open Cert.KernelIdeal (grid0 S512x2000 S512x1)
open Cert.ReferenceIdeal (S4096x2000 S4096x3x2000 S3x4096x2000 S4096x3)
open Cert.KernelIdeal.Own Cert.ReferenceIdeal.Own

/-- The place after a place of the tour. -/
def succ (k : Fin 2000) : Fin 2000 := ⟨(k.val + 1) % 2000, Nat.mod_lt _ (by decide)⟩

/-- The remainder of the place one further on. -/
theorem rem_succ (k : Fin 2000) : IntOp.remsi .host (IntOp.addi (BitVec.ofNat 32 k.val) 1#32) 2000#32 = BitVec.ofNat 32 (succ k).val := by
  have h : (IntOp.addi (BitVec.ofNat 32 k.val) 1#32).toNat = k.val + 1 := by
    show (BitVec.ofNat 32 k.val + 1#32).toNat = _
    rw [BitVec.toNat_add, BitVec.toNat_ofNat]
    have := k.isLt
    show (k.val % 4294967296 + 1) % 4294967296 = _
    omega
  apply BitVec.eq_of_toNat_eq
  rw [show (2000#32 : BitVec 32) = BitVec.ofNat 32 2000 from rfl, IntOp.toNat_remsi .host (by rw [h]; omega) 2000 (by decide) (by decide), h, BitVec.toNat_ofNat]
  have : (k.val + 1) % 2000 < 2000 := Nat.mod_lt _ (by decide)
  show (k.val + 1) % 2000 = (k.val + 1) % 2000 % 4294967296
  omega

theorem lenR_apply (j : Cert.ReferenceIdeal.S_.Idx) : lenR j = 2000#32 := rfl

theorem zero_of_ne (b : BitVec 1) (h : b ≠ 1#1) : b = 0#1 := by revert b; decide

/-- The sum of a row that is zero but at one place. -/
theorem fold_single (f : Fin 2000 → BitVec 32) (k : Fin 2000) :
    Finset.univ.fold IntOp.addi 0#32 (fun j => if j = k then f j else 0#32) = f k := by
  have h : (Finset.univ : Finset (Fin 2000)) = insert k (Finset.univ.erase k) := (Finset.insert_erase (Finset.mem_univ k)).symm
  have g : (Finset.univ.erase k).fold IntOp.addi 0#32 (fun j => if j = k then f j else 0#32) = 0#32 := by
    rw [Finset.fold_congr (g := fun _ => 0#32) fun j hj => if_neg (Finset.ne_of_mem_erase hj), Finset.fold_const _ (by decide)]
    split <;> rfl
  rw [h, Finset.fold_insert (Finset.notMem_erase k _), g, if_pos rfl]
  exact BitVec.add_zero _

/-- The reference's place after a place. -/
theorem nextR_apply (q : IVec S4096x3 32) (r : Fin 4096) (p : Fin 3) (k : Fin 2000) (h : q (ix2 r p) = BitVec.ofNat 32 k.val) :
    nextR q (ix2 r p) = BitVec.ofNat 32 (succ k).val := by
  unfold nextR modR
  dsimp only
  generalize hl : lenR = l
  pointwise
  rw [← hl, lenR_apply, h, rem_succ, show IntOp.cmpi .slt (BitVec.ofNat 32 (succ k).val) 0#32 = 0#1 from zero_of_ne _ (col_nonneg (succ k)),
    show IntOp.cmpi .slt (2000#32 : BitVec 32) 0#32 = 0#1 by decide, show IntOp.cmpi .ne (0#1 : BitVec 1) 0#1 = 0#1 by decide]
  refine if_neg fun g => ?_
  exact absurd ((andi_one _ _).1 g).1 (by decide)

/-- The kernel's place after a place. -/
theorem next_succ (k : Fin 2000) : (if IntOp.cmpi .eq (IntOp.addi (BitVec.ofNat 32 k.val) 1#32) 2000#32 = 1#1 then 0#32 else IntOp.addi (BitVec.ofNat 32 k.val) 1#32)
    = BitVec.ofNat 32 (succ k).val := by
  have e : IntOp.addi (BitVec.ofNat 32 k.val) 1#32 = BitVec.ofNat 32 (k.val + 1) := (BitVec.ofNat_add k.val 1).symm
  have hk := k.isLt
  simp only [eq_one, e]
  rw [show (2000#32 : BitVec 32) = BitVec.ofNat 32 2000 from rfl]
  have f : BitVec.ofNat 32 (k.val + 1) = BitVec.ofNat 32 2000 ↔ k.val = 1999 := by
    rw [← BitVec.toInt_inj, toInt_ofNat _ (by omega), toInt_ofNat _ (by omega)]; omega
  simp only [f]
  unfold succ
  dsimp only
  split
  · next g => rw [g]
  · next g => rw [Nat.mod_eq_of_lt (by omega)]

variable {i : grid0.Coords} (r : Fin 512) (p : Fin 3)

/-- The kernel's place of a node, with the reference's: the same, or past the row's end where the reference says the row's start. -/
theorem pos_agree {tb : IVec S512x2000 32} {t : IVec S4096x2000 32} (ht : IsBlock i tb t) (eb : IVec S512x1 32) (e : IVec S4096x3 32)
    (he : eb (ix2 r 0) = e (ix2 (rowOf i r) p)) :
    ∃ k : Fin 2000, posR t e (ix2 (rowOf i r) p) = BitVec.ofNat 32 k.val ∧
      ((posV (F := Ideal) tb eb (ix2 r 0) = BitVec.ofNat 32 k.val ∧ tb (ix2 r k) = eb (ix2 r 0)) ∨ (posV (F := Ideal) tb eb (ix2 r 0) = 2000#32 ∧ k = 0)) := by
  have hm : ∀ k, cmpi .eq tb (spreadV (F := Ideal) (e := .i32) eb) (ix2 r k) = 1#1 ↔ t (ix2 (rowOf i r) k) = e (ix2 (rowOf i r) p) := by
    intro k
    rw [← ht, ← he]
    unfold spreadV; pointwise
    exact eq_one _ _
  obtain ⟨k, hk, h⟩ := posR_first t e (rowOf i r) p
  refine ⟨k, hk, ?_⟩
  unfold posV
  rcases firstV_spec (cmpi .eq tb (spreadV (F := Ideal) (e := .i32) eb)) r 0 with ⟨l, h1, h2, h3⟩ | ⟨h1, h3⟩
  · simp only [hm] at h1 h2
    rcases h with ⟨g1, g2⟩ | ⟨g1, _⟩
    · have : l = k := le_antisymm (h2 k g1) (g2 l h1)
      exact .inl ⟨this ▸ h3, by rw [ht, g1, he]⟩
    · exact absurd h1 (g1 l)
  · simp only [ne_eq, hm] at h1
    rcases h with ⟨g1, _⟩ | ⟨_, g2⟩
    · exact absurd g1 (h1 k)
    · exact .inr ⟨h3, g2⟩

/-- The reference reads the tour at the place given. -/
theorem nodeR_apply (t : IVec S4096x2000 32) (q : IVec S4096x3 32) (r : Fin 4096) (k : Fin 2000) (h : q (ix2 r p) = BitVec.ofNat 32 k.val) :
    nodeR t q (ix2 r p) = t (ix2 r k) := by
  unfold nodeR
  rw [take3_apply _ _ _ _ _ k h]
  unfold repR; pointwise

/-- A place of the row is short of its end. -/
theorem col_lt (k : Fin 2000) : IntOp.cmpi .slt (BitVec.ofNat 32 k.val) 2000#32 = 1#1 := by
  have e : (2000#32 : BitVec 32).toInt = 2000 := by decide
  rw [slt_one, e, toInt_ofNat _ (by omega)]; omega

/-- The row's end is not. -/
theorem end_not_lt : ¬ IntOp.cmpi .slt (2000#32 : BitVec 32) 2000#32 = 1#1 := by decide

/-- The edges' first nodes. -/
theorem start_agree {tb : IVec S512x2000 32} {t : IVec S4096x2000 32} (ht : IsBlock i tb t) (eb : IVec S512x1 32) (e : IVec S4096x3 32)
    (he : eb (ix2 r 0) = e (ix2 (rowOf i r) p)) :
    startV (F := Ideal) tb eb (ix2 r 0) = nodeR t (posR t e) (ix2 (rowOf i r) p) := by
  obtain ⟨k, hk, h⟩ := pos_agree r p ht eb e he
  rw [nodeR_apply p t _ _ k hk, ← ht]
  have e1 : startV (F := Ideal) tb eb (ix2 r 0)
      = if IntOp.cmpi .slt (posV (F := Ideal) tb eb (ix2 r 0)) 2000#32 = 1#1 then eb (ix2 r 0) else tb (ix2 r 0) := by
    unfold startV; generalize posV (F := Ideal) tb eb = q; pointwise; rfl
  rw [e1]
  rcases h with ⟨h, g⟩ | ⟨h, g⟩
  · rw [h, if_pos (col_lt k), g]
  · rw [h, if_neg end_not_lt, g]

/-- The place after it, as the kernel finds it. -/
theorem next_agree {tb : IVec S512x2000 32} {t : IVec S4096x2000 32} (ht : IsBlock i tb t) (eb : IVec S512x1 32) (e : IVec S4096x3 32)
    (he : eb (ix2 r 0) = e (ix2 (rowOf i r) p)) :
    ∃ k : Fin 2000, nextV (F := Ideal) tb eb (ix2 r 0) = BitVec.ofNat 32 k.val ∧ nextR (posR t e) (ix2 (rowOf i r) p) = BitVec.ofNat 32 k.val := by
  obtain ⟨k, hk, h⟩ := pos_agree r p ht eb e he
  refine ⟨succ k, ?_, nextR_apply _ _ _ _ hk⟩
  rw [← next_succ]
  have e2 : (if IntOp.cmpi .slt (posV (F := Ideal) tb eb (ix2 r 0)) 2000#32 = 1#1 then posV (F := Ideal) tb eb (ix2 r 0) else 0#32) = BitVec.ofNat 32 k.val := by
    rcases h with ⟨h, g⟩ | ⟨h, g⟩
    · rw [h, if_pos (col_lt k)]
    · rw [h, if_neg end_not_lt, g]; rfl
  rw [← e2]
  unfold nextV; generalize posV (F := Ideal) tb eb = q; pointwise; rfl

/-- The edges' second nodes. -/
theorem end_agree {tb : IVec S512x2000 32} {t : IVec S4096x2000 32} (ht : IsBlock i tb t) (eb : IVec S512x1 32) (e : IVec S4096x3 32)
    (he : eb (ix2 r 0) = e (ix2 (rowOf i r) p)) :
    endV (F := Ideal) tb eb (ix2 r 0) = nodeR t (nextR (posR t e)) (ix2 (rowOf i r) p) := by
  obtain ⟨k, h1, h2⟩ := next_agree r p ht eb e he
  rw [nodeR_apply p t _ _ k h2, ← ht]
  have e1 : endV (F := Ideal) tb eb (ix2 r 0)
      = Finset.univ.fold IntOp.addi 0#32 fun j : Fin 2000 => if IntOp.cmpi .eq (BitVec.ofNat 32 j.val) (nextV (F := Ideal) tb eb (ix2 r 0)) = 1#1 then tb (ix2 r j) else 0#32 := by
    unfold endV spreadV colV; generalize nextV (F := Ideal) tb eb = q; pointwise; rfl
  have e2 : ∀ j : Fin 2000, IntOp.cmpi .eq (BitVec.ofNat 32 j.val) (BitVec.ofNat 32 k.val) = 1#1 ↔ j = k := by
    intro j
    rw [eq_one, ← BitVec.toInt_inj, toInt_ofNat _ (by omega), toInt_ofNat _ (by omega), Fin.ext_iff]; omega
  rw [e1, h1]
  simp only [e2]
  exact fold_single (fun j => tb (ix2 r j)) k

end Cert.Own
-- ==== Proof.M.Blocks.lean ====
module

public import proofs.«01_k».proof.Proof.K.Outs
public import proofs.«01_k».proof.Proof.M.Edges

@[expose] public section

set_option maxRecDepth 16384

noncomputable section

/-! The blocks the body leaves are the reference's results of their rows. -/

namespace Cert.Own

open Idealize.ShloMosaic
open Cert.KernelIdeal (grid0 S512x2000 S512x1 S512x3)
open Cert.ReferenceIdeal (S4096x2000 S4096x3x2000 S3x4096x2000 S4096x3 S4096x1)
open Cert.KernelIdeal.Own Cert.ReferenceIdeal.Own

/-- A column of three side by side. -/
theorem cat3_apply {α : Type} (f : BitVec 32 → BitVec 32 → S512x1.Idx → α) (r : Fin 512) (p : Fin 3) :
    cat3 f (ix2 r p) = f (off p) (num p) (ix2 r 0) := by
  unfold cat3
  generalize h0 : f 0#32 0#32 = f0
  generalize h1 : f 4096#32 1#32 = f1
  generalize h2 : f 8192#32 2#32 = f2
  match p with
  | 0 => pointwise; rw [← h0]; rfl
  | 1 => pointwise; rw [← h1]; rfl
  | 2 => pointwise; rw [← h2]; rfl

/-- An even column of the edges is a first node, -/
theorem pairR_start (a b : IVec S4096x3 32) (r : Fin 4096) (p : Fin 3) : pairR a b (ix2 r ⟨2 * p.val, by omega⟩) = a (ix2 r p) := by
  unfold pairR
  match p with
  | 0 => pointwise
  | 1 => pointwise
  | 2 => pointwise

/-- an odd one a second. -/
theorem pairR_end (a b : IVec S4096x3 32) (r : Fin 4096) (p : Fin 3) : pairR a b (ix2 r ⟨2 * p.val + 1, by omega⟩) = b (ix2 r p) := by
  unfold pairR
  match p with
  | 0 => pointwise
  | 1 => pointwise
  | 2 => pointwise

variable {i : grid0.Coords} (r : Fin 512) (p : Fin 3)
  {tb : IVec S512x2000 32} {t : IVec S4096x2000 32} {bb cb eb : FVec Ideal S512x2000 .f32} {b c e : FVec Ideal S4096x2000 .f32}

/-- A block's backtrack draws are the reference's of its rows. -/
theorem blockB_agree (hb : IsBlock i bb b) : blockB (F := Ideal) (rowV i 0#32) bb (ix2 r p) = drawB (F := Ideal) b (ix2 (rowOf i r) p) := by
  unfold blockB
  rw [cat3_apply, drawB_agree r p hb]

/-- A block's city draws are the reference's of its rows. -/
theorem blockC_agree (hc : IsBlock i cb c) : blockC (F := Ideal) (rowV i 0#32) cb (ix2 r p) = drawC (F := Ideal) c (ix2 (rowOf i r) p) := by
  unfold blockC
  rw [cat3_apply, drawC_agree r p hc]

/-- A block's values are the reference's of its rows. -/
theorem blockV_agree (vb : FVec Ideal S512x1 .f32) (v : FVec Ideal S4096x1 .f32) (hv : ∀ r k, vb (ix2 r k) = v (ix2 (rowOf i r) k)) :
    blockV (F := Ideal) vb (ix2 r p) = resV (F := Ideal) v (ix2 (rowOf i r) p) := by
  unfold blockV resV
  pointwise
  rw [hv]

section
variable (row : IVec S512x2000 32)

/-- An even column of a block's edges is a first node, -/
theorem blockE_start : blockE (F := Ideal) row tb cb eb (ix2 r ⟨2 * p.val, by omega⟩) = startE (F := Ideal) row tb cb eb (off p) (num p) (ix2 r 0) := by
  unfold blockE
  match p with
  | 0 => generalize startE (F := Ideal) row tb cb eb = s; generalize endE (F := Ideal) row tb cb eb = g; pointwise; rfl
  | 1 => generalize startE (F := Ideal) row tb cb eb = s; generalize endE (F := Ideal) row tb cb eb = g; pointwise; rfl
  | 2 => generalize startE (F := Ideal) row tb cb eb = s; generalize endE (F := Ideal) row tb cb eb = g; pointwise; rfl

/-- an odd one a second. -/
theorem blockE_end : blockE (F := Ideal) row tb cb eb (ix2 r ⟨2 * p.val + 1, by omega⟩) = endE (F := Ideal) row tb cb eb (off p) (num p) (ix2 r 0) := by
  unfold blockE
  match p with
  | 0 => generalize startE (F := Ideal) row tb cb eb = s; generalize endE (F := Ideal) row tb cb eb = g; pointwise; rfl
  | 1 => generalize startE (F := Ideal) row tb cb eb = s; generalize endE (F := Ideal) row tb cb eb = g; pointwise; rfl
  | 2 => generalize startE (F := Ideal) row tb cb eb = s; generalize endE (F := Ideal) row tb cb eb = g; pointwise; rfl
end

/-- A block's edges are the reference's of its rows. -/
theorem blockE_agree (ht : IsBlock i tb t) (hc : IsBlock i cb c) (he : IsBlock i eb e) (q : Fin 6) :
    blockE (F := Ideal) (rowV i 0#32) tb cb eb (ix2 r q) = resE (F := Ideal) t c e (ix2 (rowOf i r) q) := by
  have hq : ∃ p : Fin 3, q = ⟨2 * p.val, by omega⟩ ∨ q = ⟨2 * p.val + 1, by omega⟩ :=
    ⟨⟨q.val / 2, by omega⟩, by rcases Nat.even_or_odd' q.val with ⟨n, h | h⟩ <;> simp only [Fin.ext_iff] <;> omega⟩
  obtain ⟨p, rfl | rfl⟩ := hq
  · unfold resE
    rw [blockE_start, pairR_start]
    exact start_agree r p ht _ _ (drawE_agree r p hc he 0)
  · unfold resE
    rw [blockE_end, pairR_end]
    exact end_agree r p ht _ _ (drawE_agree r p hc he 0)

end Cert.Own
-- ==== Proof.M.Alp.lean ====
module

public import proofs.«01_k».proof.Proof.M.Blocks

@[expose] public section

set_option maxRecDepth 16384

noncomputable section

/-! The log-probabilities, where no draw is tied. -/

namespace Cert.Own

open Idealize.ShloMosaic
open Cert.KernelIdeal (grid0 S512x2000 S512x1 S512x3)
open Cert.ReferenceIdeal (S4096x2000 S4096x3x2000 S3x4096x2000 S4096x3 S4096x1 S_)
open Cert.KernelIdeal.Own Cert.ReferenceIdeal.Own

/-- No two entries are greatest. -/
def Sole {n : Nat} (s : Fin n → EReal) : Prop := ∀ k l, (∀ j, s j ≤ s k) → s l = s k → l = k

/-- No draw of a head is tied. -/
def Untied (bt cp ep : FVec Ideal S4096x2000 .f32) : Prop :=
  (∀ (r : Fin 4096) (p : Fin 3), Sole fun k : Fin 2000 => (scoreS (F := Ideal) (headB noiseV) bt (ix3 p r k) : EReal)) ∧
    (∀ (r : Fin 4096) (p : Fin 3), Sole fun k : Fin 2000 => (scoreS (F := Ideal) (headC noiseV) (clipLogR cp) (ix3 p r k) : EReal)) ∧
    ∀ (r : Fin 4096) (p : Fin 3), Sole fun k : Fin 2000 => (scoreE (F := Ideal) (headE noiseV) (elogR (drawC cp) ep) (ix3 r p k) : EReal)

/-- The sum over a sole mark is the marked entry. -/
theorem pick_sole (b : IVec S512x2000 1) (x : FVec Ideal S512x2000 .f32) (r : Fin 512) (c : Fin 1) (k : Fin 2000)
    (h : ∀ j, b (ix2 r j) = 1#1 ↔ j = k) : (pickV (F := Ideal) b x (ix2 r c) : EReal) = x (ix2 r k) := by
  unfold pickV
  rw [sumV_apply]
  have e : ∀ j : Fin 2000, (select (α := Ideal .f32) b x (broadcast S512x2000 (Scalar.ofBits (F := Ideal) .f32 0x00000000#32)) (ix2 r j) : EReal)
      = if j = k then x (ix2 r j) else 0 := by
    intro j
    have e1 : (select (α := Ideal .f32) b x (broadcast S512x2000 (Scalar.ofBits (F := Ideal) .f32 0x00000000#32)) (ix2 r j) : EReal)
        = if b (ix2 r j) = 1#1 then x (ix2 r j) else Ideal.ofBits .f32 0x00000000#32 := by
      pointwise; rfl
    rw [e1, Ideal.ofBits_zero_f32]
    simp only [h]
  simp only [e]
  rw [Finset.sum_ite_eq' Finset.univ k (fun j => (x (ix2 r j) : EReal)), if_pos (Finset.mem_univ k)]

/-- Where a row's scores are greatest once only, the marks are that one. -/
theorem top_sole (s : FVec Ideal S512x2000 .f32) (r : Fin 512) (hs : Sole fun k : Fin 2000 => (s (ix2 r k) : EReal)) (c : Fin 1) :
    ∃ k : Fin 2000, (∀ j, topV (F := Ideal) s (ix2 r j) = 1#1 ↔ j = k) ∧ firstV (topV (F := Ideal) s) (ix2 r c) = BitVec.ofNat 32 k.val := by
  obtain ⟨k, h1, h2⟩ := first_top s r c
  refine ⟨k, fun j => ⟨fun h => ?_, fun h => ?_⟩, h2⟩
  · rw [topV_iff] at h
    exact hs k j h1.1 (le_antisymm (h1.1 j) (h k))
  · subst h
    exact (topV_iff s r j).2 h1.1

/-- The reference's greatest entry of a row, as a fold. -/
theorem greatest_apply (x : FVec Ideal S4096x2000 .f32) (h : S4096x2000.ReducesTo [1] Cert.ReferenceIdeal.S4096) (h' : 0 < S_.numel) (r : Fin 4096) :
    (Host.reduce (FloatOps.maximumf (F := Ideal) (φ := .f32)) x (constant (F := Ideal) S_ .f32 0xFF800000#32) h h' (ix1 r) : EReal)
      = Finset.univ.fold max (Ideal.ofBits .f32 0xFF800000#32) fun k : Fin 2000 => (x (ix2 r k) : EReal) := by
  pointwise

/-- A maximum with the bottom is the other operand. -/
theorem max_low (a z : FVec Ideal Cert.ReferenceIdeal.S4096 .f32) (j) (h : (a j : EReal) = ⊥) : (maximumf a z j : EReal) = z j := by
  have e : (maximumf a z j : EReal) = max (a j : EReal) (z j) := rfl
  rw [e, h]
  exact max_eq_right bot_le

/-- The constant is the bottom. -/
theorem low_cst (j) : (constant (F := Ideal) S_ .f32 0xFF800000#32 j : EReal) = ⊥ := negInf

/-- A constant spread over the rows is that constant on each. -/
theorem low_all (v : FVec Ideal S_ .f32) (h : S_.BroadcastsInDim Cert.ReferenceIdeal.S4096 ![]) (d : EReal) (hv : ∀ i, (v i : EReal) = d) (j) :
    (broadcastInDim Cert.ReferenceIdeal.S4096 ![] h v j : EReal) = d := hv _

/-- A row's greatest entry, the bottom taken with it. -/
theorem topR_apply (x : FVec Ideal S4096x2000 .f32) (r : Fin 4096) :
    (topR (F := Ideal) x (ix1 r) : EReal) = Finset.univ.fold max (⊥ : EReal) fun k : Fin 2000 => (x (ix2 r k) : EReal) := by
  unfold topR
  exact (max_low _ _ _ (low_all _ _ _ low_cst _)).trans ((greatest_apply x _ _ r).trans (by rw [negInf]))

/-- The log-softmax of a row, at an entry. -/
def soft (x : Fin 2000 → EReal) (k : Fin 2000) : EReal :=
  x k - Finset.univ.fold max ⊥ x - FloatOps.log (F := Ideal) (φ := .f32) (∑ j, FloatOps.exp (F := Ideal) (φ := .f32) (x j - Finset.univ.fold max ⊥ x) : EReal)

/-- The reference's log-softmax, at an entry. -/
theorem logSoft_apply (x : FVec Ideal S4096x2000 .f32) (r : Fin 4096) (k : Fin 2000) :
    (logSoft (F := Ideal) x (ix2 r k) : EReal) = soft (fun j => x (ix2 r j)) k := by
  unfold soft
  rw [← topR_apply]
  unfold logSoft lessLog spL
  generalize topR (F := Ideal) x = z
  pointwise

/-- The kernel's log-probability over a mark that is met once is the log-softmax's entry there. -/
theorem alpV_apply (b : IVec S512x2000 1) (x : FVec Ideal S512x2000 .f32) (r : Fin 512) (k : Fin 2000)
    (h : ∀ j, b (ix2 r j) = 1#1 ↔ j = k) : (alpV (F := Ideal) b x (ix2 r 0) : EReal) = soft (fun j => x (ix2 r j)) k := by
  have e : (lseV (F := Ideal) x (ix2 r 0) : EReal) = FloatOps.log (F := Ideal) (φ := .f32)
      (∑ j : Fin 2000, FloatOps.exp (F := Ideal) (φ := .f32) ((x (ix2 r j) : EReal) - maxV (F := Ideal) x (ix2 r 0)) : EReal) := by
    unfold lseV
    generalize maxV (F := Ideal) x = z
    refine congrArg (FloatOps.log (F := Ideal) (φ := .f32)) ((sumV_apply (exp (subf x (spreadV (F := Ideal) (e := .f32) z))) r 0).trans (Finset.sum_congr rfl fun j _ => ?_))
    unfold spreadV
    pointwise
  unfold soft
  rw [← maxV_apply x r 0, ← e]
  exact congrArg (fun a : EReal => a - maxV (F := Ideal) x (ix2 r 0) - lseV (F := Ideal) x (ix2 r 0)) (pick_sole b x r 0 k h)

variable {i : grid0.Coords} (r : Fin 512) (p : Fin 3)
  {bb cb eb : FVec Ideal S512x2000 .f32} {b c e : FVec Ideal S4096x2000 .f32}

/-- A draw's log-probability, of a head drawn sample by sample. -/
theorem soft_agree (h : Fin 3) (g : FVec Ideal Cert.ReferenceIdeal.S24576000 .f32) (hg : ∀ n, g (ix1 n) = noiseV (F := Ideal) (ix2 h n))
    (lb xb : FVec Ideal S512x2000 .f32) (l x : FVec Ideal S4096x2000 .f32) (hl : IsBlock i lb l) (hx : IsBlock i xb x)
    (hs : Sole fun k : Fin 2000 => (scoreS (F := Ideal) g l (ix3 p (rowOf i r) k) : EReal)) :
    (alpV (F := Ideal) (topV (scoreV (keyAt h) (ctrS (rowV i 0#32) (off p)) lb)) xb (ix2 r 0) : EReal)
      = take2 (F := Ideal) (logSoft x) (drawS (scoreS g l)) (ix2 (rowOf i r) p) := by
  obtain ⟨k, h1, h2⟩ := top_sole (scoreV (F := Ideal) (keyAt h) (ctrS (rowV i 0#32) (off p)) lb) r
    (by simpa only [scoreS_agree r p h g hg lb l hl] using hs) 0
  rw [alpV_apply _ xb r k h1, take2_apply _ _ _ _ k ((draw_agree r p h g hg lb l hl 0).symm.trans h2), logSoft_apply]
  simp only [hx r]

/-- A block's log-probabilities are the reference's of its rows, where no draw is tied. -/
theorem blockA_agree (hb : IsBlock i bb b) (hc : IsBlock i cb c) (he : IsBlock i eb e) (hU : Untied b c e) :
    (blockA (F := Ideal) (rowV i 0#32) bb cb eb (ix2 r p) : EReal) = resA (F := Ideal) b c e (ix2 (rowOf i r) p) := by
  unfold blockA
  rw [cat3_apply]
  have e1 := soft_agree r p 0 (headB (F := Ideal) noiseV) (fun n => headB_apply _ n) bb bb b b hb hb (hU.1 _ _)
  have e2 := soft_agree r p 1 (headC (F := Ideal) noiseV) (fun n => headC_apply _ n) _ cb _ c (clip_agree hc) hc (hU.2.1 _ _)
  have e3 : (pickV (F := Ideal) (topE (rowV i 0#32) cb eb (off p) (num p)) (elog (rowV i 0#32) cb eb (off p)) (ix2 r 0) : EReal)
      = take3 (α := Ideal .f32) (elogR (F := Ideal) (drawC c) e) (constant S_ .f32 0x7FC00000#32) (edgeR c e) (ix2 (rowOf i r) p) := by
    obtain ⟨k, h1, h2⟩ := top_sole (scoreV (F := Ideal) keyE (ctrE (rowV i 0#32) (num p)) (elog (F := Ideal) (rowV i 0#32) cb eb (off p))) r
      (by simpa only [scoreE_agree r p hc he] using hU.2.2 _ _) 0
    rw [take3_apply _ _ _ _ _ k ((drawE_agree r p hc he 0).symm.trans h2), ← clog_agree r p hc he]
    exact pick_sole _ _ r 0 k h1
  exact congrArg₂ (· + ·) (congrArg₂ (· + ·) e1 e2) e3

end Cert.Own
-- ==== Proof.M.Arrays.lean ====
module

public import proofs.«01_k».proof.Proof.K.Arrays
public import proofs.«01_k».proof.Proof.M.Alp

@[expose] public section

set_option maxRecDepth 16384

noncomputable section

/-! The arrays the launch leaves are the reference's results. -/

namespace Cert.KernelIdeal.Own

open Idealize.ShloMosaic Idealize.ShloMosaic.TcCoe Idealize.SL.Sem Cert.KernelIdeal Cert.KernelIdeal.Gen Cert.Own
open Cert.ReferenceIdeal.Own (drawB drawC resE resA resV)

variable (m : (ℓ : Loc nD τ sig) → Buf (Elt Ideal) ℓ) (c : Dev nD)

/-- The row numbers the body computes are those at the zero word. -/
theorem row_zero (t : Fin grid0.N) : rowK (F := Ideal) c (grid0.coords t) (tbl m 0) = rowV (grid0.coords t) 0#32 := by
  unfold rowK; rw [word]

/-- Every row of an array is a row of some block. -/
theorem row_of (i : Fin 4096) : ∃ (t : Fin grid0.N) (r : Fin 512), rowOf (grid0.coords t) r = i := by
  have hN := N_0
  refine ⟨⟨i.val / 512, by rw [hN]; omega⟩, ⟨i.val % 512, by omega⟩, Fin.ext ?_⟩
  have e := Pipeline.Grid.coords_val (G := grid0) ⟨i.val / 512, by rw [hN]; omega⟩ 0 (S := 1) (B := 8) (by decide) (by decide)
  show 512 * (grid0.coords _ 0).val + i.val % 512 = i.val
  rw [e]
  show 512 * (i.val / 512 / 1 % 8) + i.val % 512 = i.val
  omega

/-- Blocks whose row `r` is row `512 * i + r` of the whole leave no entry of it out. -/
theorem covered {n : Nat} (e : Fin grid0.N → (⟨2, ![512, n]⟩ : Shape).Idx → (⟨2, ![4096, n]⟩ : Shape).Idx)
    (he : ∀ t (r : Fin 512) (p : Fin n), e t (ix2 r p) = ix2 (rowOf (grid0.coords t) r) p) (i : (⟨2, ![4096, n]⟩ : Shape).Idx) : ∃ t y, e t y = i := by
  obtain ⟨t, r, h⟩ := row_of (i 0)
  exact ⟨t, ix2 r (i 1), (he t r (i 1)).trans ((congrArg (fun a => ix2 a (i 1)) h).trans (eq_ix2 i).symm)⟩

/-- Two arrays that agree on every row of a block agree on the block. -/
theorem on_block {n : Nat} {α : Type} (f : (⟨2, ![512, n]⟩ : Shape).Idx → α) (g : (⟨2, ![4096, n]⟩ : Shape).Idx → α)
    (e : (⟨2, ![512, n]⟩ : Shape).Idx → (⟨2, ![4096, n]⟩ : Shape).Idx) (i : grid0.Coords)
    (he : ∀ (r : Fin 512) (p : Fin n), e (ix2 r p) = ix2 (rowOf i r) p) (h : ∀ r p, f (ix2 r p) = g (ix2 (rowOf i r) p)) (y : (⟨2, ![512, n]⟩ : Shape).Idx) :
    f y = g (e y) := by
  rw [eq_ix2 y]
  exact (h _ _).trans (congrArg g (he _ _).symm)

/-- Each result's block `i` starts at row `512 * i`: of the three-column results, -/
theorem emb_5 (t : Fin (cfgM m (ok m)).N) (r : Fin 512) (p : Fin 3) :
    (((cfgM m (ok m)).win 5).blk t).view.emb (ix2 r p) = ix2 (rowOf (grid0.coords t) r) p := by
  refine funext fun a => Fin.ext ?_
  blk_simp
  rw [show ((cfgM m (ok m)).win 5).index t = ![(grid0.coords t 0).val, 0] from
    (by decide +kernel : ∀ i : grid0.Coords, cc0_transform_5 i = ![(i 0).val, 0]) _]
  exact place (grid0.coords t) r p a

theorem emb_6 (t : Fin (cfgM m (ok m)).N) (r : Fin 512) (p : Fin 3) :
    (((cfgM m (ok m)).win 6).blk t).view.emb (ix2 r p) = ix2 (rowOf (grid0.coords t) r) p := emb_5 m t r p

theorem emb_8 (t : Fin (cfgM m (ok m)).N) (r : Fin 512) (p : Fin 3) :
    (((cfgM m (ok m)).win 8).blk t).view.emb (ix2 r p) = ix2 (rowOf (grid0.coords t) r) p := emb_5 m t r p

theorem emb_9 (t : Fin (cfgM m (ok m)).N) (r : Fin 512) (p : Fin 3) :
    (((cfgM m (ok m)).win 9).blk t).view.emb (ix2 r p) = ix2 (rowOf (grid0.coords t) r) p := emb_5 m t r p

/-- and of the edges' six columns. -/
theorem emb_7 (t : Fin (cfgM m (ok m)).N) (r : Fin 512) (p : Fin 6) :
    (((cfgM m (ok m)).win 7).blk t).view.emb (ix2 r p) = ix2 (rowOf (grid0.coords t) r) p := by
  refine funext fun a => Fin.ext ?_
  blk_simp
  rw [show ((cfgM m (ok m)).win 7).index t = ![(grid0.coords t 0).val, 0] from
    (by decide +kernel : ∀ i : grid0.Coords, cc0_transform_7 i = ![(i 0).val, 0]) _]
  exact place (grid0.coords t) r p a

/-- The first result's array holds the reference's backtrack draws. -/
theorem final_5 : (dats m (ok m) 0 c).arrAt 5 (cfgM m (ok m)).N = drawB (F := Ideal) (m ((c : Thread nD τ).loc main_arg2)) := by
  refine (dats m (ok m) 0 c).arrAt_eq_of_emb 5 _ (fun t _ (y : (⟨2, ![512, 3]⟩ : Shape).Idx) => ?_) fun (i : (⟨2, ![4096, 3]⟩ : Shape).Idx) => ?_
  · blk_simp
    rw [after0_5]
    refine on_block _ _ _ (grid0.coords t) (emb_5 m t) (fun r p => ?_) y
    unfold outsAt0
    dsimp only
    exact (congrFun (out_B (F := Ideal) c (grid0.coords t) _ _ _ _ _ _ _ _ _ _ _ _ _ _ _ _ _ _ _ _ _ _ _ _ _ _) (ix2 r p)).trans (by rw [row_zero]; exact blockB_agree r p (in_2 m c t))
  · obtain ⟨t, y, h⟩ := covered (fun t => (((cfgM m (ok m)).win 5).blk t).view.emb) (emb_5 m) i
    exact ⟨t, flush0_5 _ t, h ▸ View.emb_mem_set _ _⟩

/-- The second's holds the city draws. -/
theorem final_6 : (dats m (ok m) 0 c).arrAt 6 (cfgM m (ok m)).N = drawC (F := Ideal) (m ((c : Thread nD τ).loc main_arg3)) := by
  refine (dats m (ok m) 0 c).arrAt_eq_of_emb 6 _ (fun t _ (y : (⟨2, ![512, 3]⟩ : Shape).Idx) => ?_) fun (i : (⟨2, ![4096, 3]⟩ : Shape).Idx) => ?_
  · blk_simp
    rw [after0_6]
    refine on_block _ _ _ (grid0.coords t) (emb_6 m t) (fun r p => ?_) y
    unfold outsAt0
    dsimp only
    exact (congrFun (out_C (F := Ideal) c (grid0.coords t) _ _ _ _ _ _ _ _ _ _ _ _ _ _ _ _ _ _ _ _ _ _ _ _ _ _) (ix2 r p)).trans (by rw [row_zero]; exact blockC_agree r p (in_3 m c t))
  · obtain ⟨t, y, h⟩ := covered (fun t => (((cfgM m (ok m)).win 6).blk t).view.emb) (emb_6 m) i
    exact ⟨t, flush0_6 _ t, h ▸ View.emb_mem_set _ _⟩

/-- The third's holds the edges. -/
theorem final_7 : (dats m (ok m) 0 c).arrAt 7 (cfgM m (ok m)).N = resE (F := Ideal) (m ((c : Thread nD τ).loc main_arg0)) (m ((c : Thread nD τ).loc main_arg3)) (m ((c : Thread nD τ).loc main_arg4)) := by
  refine (dats m (ok m) 0 c).arrAt_eq_of_emb 7 _ (fun t _ (y : (⟨2, ![512, 6]⟩ : Shape).Idx) => ?_) fun (i : (⟨2, ![4096, 6]⟩ : Shape).Idx) => ?_
  · blk_simp
    rw [after0_7]
    refine on_block _ _ _ (grid0.coords t) (emb_7 m t) (fun r p => ?_) y
    unfold outsAt0
    dsimp only
    exact (congrFun (out_E (F := Ideal) c (grid0.coords t) _ _ _ _ _ _ _ _ _ _ _ _ _ _ _ _ _ _ _ _ _ _ _ _ _ _) (ix2 r p)).trans (by rw [row_zero]; exact blockE_agree r (in_0 m c t) (in_3 m c t) (in_4 m c t) p)
  · obtain ⟨t, y, h⟩ := covered (fun t => (((cfgM m (ok m)).win 7).blk t).view.emb) (emb_7 m) i
    exact ⟨t, flush0_7 _ t, h ▸ View.emb_mem_set _ _⟩

/-- The fourth's holds the log-probabilities, where no draw is tied. -/
theorem final_8 (hU : Untied (m ((c : Thread nD τ).loc main_arg2)) (m ((c : Thread nD τ).loc main_arg3)) (m ((c : Thread nD τ).loc main_arg4))) :
    (dats m (ok m) 0 c).arrAt 8 (cfgM m (ok m)).N = resA (F := Ideal) (m ((c : Thread nD τ).loc main_arg2)) (m ((c : Thread nD τ).loc main_arg3)) (m ((c : Thread nD τ).loc main_arg4)) := by
  refine (dats m (ok m) 0 c).arrAt_eq_of_emb 8 _ (fun t _ (y : (⟨2, ![512, 3]⟩ : Shape).Idx) => ?_) fun (i : (⟨2, ![4096, 3]⟩ : Shape).Idx) => ?_
  · blk_simp
    rw [after0_8]
    refine on_block _ _ _ (grid0.coords t) (emb_8 m t) (fun r p => ?_) y
    unfold outsAt0
    dsimp only
    exact (congrFun (out_A (F := Ideal) c (grid0.coords t) _ _ _ _ _ _ _ _ _ _ _ _ _ _ _ _ _ _ _ _ _ _ _ _ _ _) (ix2 r p)).trans (by rw [row_zero]; exact blockA_agree r p (in_2 m c t) (in_3 m c t) (in_4 m c t) hU)
  · obtain ⟨t, y, h⟩ := covered (fun t => (((cfgM m (ok m)).win 8).blk t).view.emb) (emb_8 m) i
    exact ⟨t, flush0_8 _ t, h ▸ View.emb_mem_set _ _⟩

/-- The fifth's holds the values. -/
theorem final_9 : (dats m (ok m) 0 c).arrAt 9 (cfgM m (ok m)).N = resV (F := Ideal) (m ((c : Thread nD τ).loc main_arg1)) := by
  refine (dats m (ok m) 0 c).arrAt_eq_of_emb 9 _ (fun t _ (y : (⟨2, ![512, 3]⟩ : Shape).Idx) => ?_) fun (i : (⟨2, ![4096, 3]⟩ : Shape).Idx) => ?_
  · blk_simp
    rw [after0_9]
    refine on_block _ _ _ (grid0.coords t) (emb_9 m t) (fun r p => ?_) y
    unfold outsAt0
    dsimp only
    exact (congrFun (out_V (F := Ideal) c (grid0.coords t) _ _ _ _ _ _ _ _ _ _ _ _ _ _ _ _ _ _ _ _ _ _ _ _ _ _) (ix2 r p)).trans (blockV_agree r p _ _ (in_1 m c t))
  · obtain ⟨t, y, h⟩ := covered (fun t => (((cfgM m (ok m)).win 9).blk t).view.emb) (emb_9 m) i
    exact ⟨t, flush0_9 _ t, h ▸ View.emb_mem_set _ _⟩

end Cert.KernelIdeal.Own
-- ==== Proof.K.Run.lean ====
module

public import proofs.«01_k».proof.Proof.M.Arrays

@[expose] public section

set_option maxRecDepth 16384

noncomputable section

/-! The kernel's run, read: its five result arrays, and its arguments unchanged. -/

namespace Cert.KernelIdeal.Own

open Cert.KernelIdeal Cert.KernelIdeal.Gen Cert.Own Idealize.ShloMosaic Idealize.ShloMosaic.TcCoe Idealize.SL.Sem
open Cert.ReferenceIdeal.Own (drawB drawC resV resA resE)

/-- What the arguments must satisfy on every device: no draw that the log-probabilities rest on is tied. -/
def Loose (m : (ℓ : Loc nD τ sig) → Buf (Elt Ideal) ℓ) : Prop :=
  ∀ c : Dev nD, Untied (m ((c : Thread nD τ).loc main_arg2)) (m ((c : Thread nD τ).loc main_arg3)) (m ((c : Thread nD τ).loc main_arg4))

/-- The kernel's run leaves each result array at the reference's function of the arguments, and the arguments alone. -/
theorem run (m : (ℓ : Loc nD τ sig) → Buf (Elt Ideal) ℓ) (ρ : Dev nD → PrngReg) (hU : Loose m) :
    θ_run (defs (F := Ideal)) (onTc (τ := τ) (main (F := Ideal))) ⟨m, fun _ => 0, ρ⟩ fun r => ∀ c : Dev nD,
      r.2.mem ((c : Thread nD τ).loc main_v1_0) = drawB (F := Ideal) (m ((c : Thread nD τ).loc main_arg2))
      ∧ r.2.mem ((c : Thread nD τ).loc main_v1_1) = drawC (F := Ideal) (m ((c : Thread nD τ).loc main_arg3))
      ∧ r.2.mem ((c : Thread nD τ).loc main_v1_2) = resE (F := Ideal) (m ((c : Thread nD τ).loc main_arg0)) (m ((c : Thread nD τ).loc main_arg3)) (m ((c : Thread nD τ).loc main_arg4))
      ∧ r.2.mem ((c : Thread nD τ).loc main_v1_3) = resA (F := Ideal) (m ((c : Thread nD τ).loc main_arg2)) (m ((c : Thread nD τ).loc main_arg3)) (m ((c : Thread nD τ).loc main_arg4))
      ∧ r.2.mem ((c : Thread nD τ).loc main_v1_4) = resV (F := Ideal) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run (defs (F := Ideal)) _ _).mono (fun _ h c => ⟨((h c).1 5).trans (final_5 m c), ((h c).1 6).trans (final_6 m c),
      ((h c).1 7).trans (final_7 m c), ((h c).1 8).trans (final_8 m c (hU c)), ((h c).1 9).trans (final_9 m c),
      ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c))),
      ((h c).1 2).trans (((dats m (ok m) 0 c).arrAt_in 2 rfl _).trans ((A_eq m (ok m) c 2).trans (V_main_arg2 m c))),
      ((h c).1 3).trans (((dats m (ok m) 0 c).arrAt_in 3 rfl _).trans ((A_eq m (ok m) c 3).trans (V_main_arg3 m c))),
      ((h c).1 4).trans (((dats m (ok m) 0 c).arrAt_in 4 rfl _).trans ((A_eq m (ok m) c 4).trans (V_main_arg4 m c)))⟩)
    (run_main m ρ (ok m))

end Cert.KernelIdeal.Own
-- ==== Proof.R.Frame.lean ====
module

public import proofs.«01_k».proof.Proof.R.Ops
public import Idealize.ShloMosaic.Lib.Tactic
public import Idealize.ShloMosaic.PureOps.Ideal

@[expose] public section

set_option maxRecDepth 16384

noncomputable section

/-! The reference's run: every buffer ends at the operations' value of the launch, no semaphore having been touched. -/

namespace Cert.ReferenceIdeal.Own

open Cert.ReferenceIdeal Cert.ReferenceIdeal.Gen Idealize.ShloMosaic Idealize.ShloMosaic.TcCoe Idealize.SL.Sem Idealize.ShloMosaic.StableHlo

/-- The reference's run: each array ends at what the operations make of the launch's contents. -/
theorem run {F : FTy → Type} [FloatOps F] (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ fun _ => ops_fresh

section
variable {F : FTy → Type} [FloatOps F] (V : Valuation τ sig (Elt F))

/-- No operation writes an argument. -/
theorem keep0 : after ops V (Proc.devRef .tc main_arg0) = V (Proc.devRef .tc main_arg0) := by sl_kernel_rfl
theorem keep1 : after ops V (Proc.devRef .tc main_arg1) = V (Proc.devRef .tc main_arg1) := by sl_kernel_rfl
theorem keep2 : after ops V (Proc.devRef .tc main_arg2) = V (Proc.devRef .tc main_arg2) := by sl_kernel_rfl
theorem keep3 : after ops V (Proc.devRef .tc main_arg3) = V (Proc.devRef .tc main_arg3) := by sl_kernel_rfl
theorem keep4 : after ops V (Proc.devRef .tc main_arg4) = V (Proc.devRef .tc main_arg4) := by sl_kernel_rfl
end

/-- The reference leaves its arguments as they are and every counter at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run defs _ _).mono (fun r h => ⟨fun c => ⟨(h c main_arg0).trans (keep0 _), (h c main_arg1).trans (keep1 _), (h c main_arg2).trans (keep2 _),
      (h c main_arg3).trans (keep3 _), (h c main_arg4).trans (keep4 _)⟩, sem_eq_zero_of_no_sems (by decide) r.2⟩) (run m ρ)

end Cert.ReferenceIdeal.Own
-- ==== Proof.R.Read.lean ====
module

public import proofs.«01_k».proof.Proof.R.Model

@[expose] public section

set_option maxRecDepth 16384

noncomputable section

/-! The reference's results are the model's: its operations read head by head. -/

namespace Cert.ReferenceIdeal.Own

open Cert.ReferenceIdeal Cert.ReferenceIdeal.Gen Idealize.ShloMosaic Idealize.ShloMosaic.TcCoe Idealize.SL.Sem Idealize.ShloMosaic.StableHlo

variable {F : FTy → Type} [FloatOps F] (V : Valuation τ sig (Elt F))

theorem readI : (after opsI V (Proc.devRef .tc main_v8) = addi (cst 0#32) (spK key0) ∧ after opsI V (Proc.devRef .tc main_v10) = addi ctrV (spK key1)) ∧ after opsI V (Proc.devRef .tc main_c) = key0 ∧ after opsI V (Proc.devRef .tc main_c_0) = key1 ∧ after opsI V (Proc.devRef .tc main_v6) = key2 :=
  ⟨⟨by sl_kernel_rfl, by sl_kernel_rfl⟩, by sl_kernel_rfl, by sl_kernel_rfl, by sl_kernel_rfl⟩

theorem readG1 (s : StV) (h : (V (Proc.devRef .tc main_v8) = s.1 ∧ V (Proc.devRef .tc main_v10) = s.2) ∧ V (Proc.devRef .tc main_c) = key0 ∧ V (Proc.devRef .tc main_c_0) = key1 ∧ V (Proc.devRef .tc main_v6) = key2) :
    (after opsG1 V (Proc.devRef .tc main_v40) = (injV key1 key2 1#32 (fourAV s)).1 ∧ after opsG1 V (Proc.devRef .tc main_v44) = (injV key1 key2 1#32 (fourAV s)).2) ∧ after opsG1 V (Proc.devRef .tc main_c) = key0 ∧ after opsG1 V (Proc.devRef .tc main_c_0) = key1 ∧ after opsG1 V (Proc.devRef .tc main_v6) = key2 := by
  have e1 : after opsG1 V (Proc.devRef .tc main_v40) = (injV (V (Proc.devRef .tc main_c_0)) (V (Proc.devRef .tc main_v6)) 1#32 (fourAV (V (Proc.devRef .tc main_v8), V (Proc.devRef .tc main_v10)))).1 := by sl_kernel_rfl
  have e2 : after opsG1 V (Proc.devRef .tc main_v44) = (injV (V (Proc.devRef .tc main_c_0)) (V (Proc.devRef .tc main_v6)) 1#32 (fourAV (V (Proc.devRef .tc main_v8), V (Proc.devRef .tc main_v10)))).2 := by sl_kernel_rfl
  have e3 : after opsG1 V (Proc.devRef .tc main_c) = V (Proc.devRef .tc main_c) := by sl_kernel_rfl
  have e4 : after opsG1 V (Proc.devRef .tc main_c_0) = V (Proc.devRef .tc main_c_0) := by sl_kernel_rfl
  have e5 : after opsG1 V (Proc.devRef .tc main_v6) = V (Proc.devRef .tc main_v6) := by sl_kernel_rfl
  obtain ⟨⟨h1, h2⟩, h3, h4, h5⟩ := h
  rw [e1, e2, e3, e4, e5, h1, h2, h3, h4, h5]
  exact ⟨⟨rfl, rfl⟩, rfl, rfl, rfl⟩

theorem readG2 (s : StV) (h : (V (Proc.devRef .tc main_v40) = s.1 ∧ V (Proc.devRef .tc main_v44) = s.2) ∧ V (Proc.devRef .tc main_c) = key0 ∧ V (Proc.devRef .tc main_c_0) = key1 ∧ V (Proc.devRef .tc main_v6) = key2) :
    (after opsG2 V (Proc.devRef .tc main_v74) = (injV key2 key0 2#32 (fourBV s)).1 ∧ after opsG2 V (Proc.devRef .tc main_v78) = (injV key2 key0 2#32 (fourBV s)).2) ∧ after opsG2 V (Proc.devRef .tc main_c) = key0 ∧ after opsG2 V (Proc.devRef .tc main_c_0) = key1 ∧ after opsG2 V (Proc.devRef .tc main_v6) = key2 := by
  have e1 : after opsG2 V (Proc.devRef .tc main_v74) = (injV (V (Proc.devRef .tc main_v6)) (V (Proc.devRef .tc main_c)) 2#32 (fourBV (V (Proc.devRef .tc main_v40), V (Proc.devRef .tc main_v44)))).1 := by sl_kernel_rfl
  have e2 : after opsG2 V (Proc.devRef .tc main_v78) = (injV (V (Proc.devRef .tc main_v6)) (V (Proc.devRef .tc main_c)) 2#32 (fourBV (V (Proc.devRef .tc main_v40), V (Proc.devRef .tc main_v44)))).2 := by sl_kernel_rfl
  have e3 : after opsG2 V (Proc.devRef .tc main_c) = V (Proc.devRef .tc main_c) := by sl_kernel_rfl
  have e4 : after opsG2 V (Proc.devRef .tc main_c_0) = V (Proc.devRef .tc main_c_0) := by sl_kernel_rfl
  have e5 : after opsG2 V (Proc.devRef .tc main_v6) = V (Proc.devRef .tc main_v6) := by sl_kernel_rfl
  obtain ⟨⟨h1, h2⟩, h3, h4, h5⟩ := h
  rw [e1, e2, e3, e4, e5, h1, h2, h3, h4, h5]
  exact ⟨⟨rfl, rfl⟩, rfl, rfl, rfl⟩

theorem readG3 (s : StV) (h : (V (Proc.devRef .tc main_v74) = s.1 ∧ V (Proc.devRef .tc main_v78) = s.2) ∧ V (Proc.devRef .tc main_c) = key0 ∧ V (Proc.devRef .tc main_c_0) = key1 ∧ V (Proc.devRef .tc main_v6) = key2) :
    (after opsG3 V (Proc.devRef .tc main_v108) = (injV key0 key1 3#32 (fourAV s)).1 ∧ after opsG3 V (Proc.devRef .tc main_v112) = (injV key0 key1 3#32 (fourAV s)).2) ∧ after opsG3 V (Proc.devRef .tc main_c) = key0 ∧ after opsG3 V (Proc.devRef .tc main_c_0) = key1 ∧ after opsG3 V (Proc.devRef .tc main_v6) = key2 := by
  have e1 : after opsG3 V (Proc.devRef .tc main_v108) = (injV (V (Proc.devRef .tc main_c)) (V (Proc.devRef .tc main_c_0)) 3#32 (fourAV (V (Proc.devRef .tc main_v74), V (Proc.devRef .tc main_v78)))).1 := by sl_kernel_rfl
  have e2 : after opsG3 V (Proc.devRef .tc main_v112) = (injV (V (Proc.devRef .tc main_c)) (V (Proc.devRef .tc main_c_0)) 3#32 (fourAV (V (Proc.devRef .tc main_v74), V (Proc.devRef .tc main_v78)))).2 := by sl_kernel_rfl
  have e3 : after opsG3 V (Proc.devRef .tc main_c) = V (Proc.devRef .tc main_c) := by sl_kernel_rfl
  have e4 : after opsG3 V (Proc.devRef .tc main_c_0) = V (Proc.devRef .tc main_c_0) := by sl_kernel_rfl
  have e5 : after opsG3 V (Proc.devRef .tc main_v6) = V (Proc.devRef .tc main_v6) := by sl_kernel_rfl
  obtain ⟨⟨h1, h2⟩, h3, h4, h5⟩ := h
  rw [e1, e2, e3, e4, e5, h1, h2, h3, h4, h5]
  exact ⟨⟨rfl, rfl⟩, rfl, rfl, rfl⟩

theorem readG4 (s : StV) (h : (V (Proc.devRef .tc main_v108) = s.1 ∧ V (Proc.devRef .tc main_v112) = s.2) ∧ V (Proc.devRef .tc main_c) = key0 ∧ V (Proc.devRef .tc main_c_0) = key1 ∧ V (Proc.devRef .tc main_v6) = key2) :
    (after opsG4 V (Proc.devRef .tc main_v142) = (injV key1 key2 4#32 (fourBV s)).1 ∧ after opsG4 V (Proc.devRef .tc main_v146) = (injV key1 key2 4#32 (fourBV s)).2) ∧ after opsG4 V (Proc.devRef .tc main_c) = key0 ∧ after opsG4 V (Proc.devRef .tc main_c_0) = key1 ∧ after opsG4 V (Proc.devRef .tc main_v6) = key2 := by
  have e1 : after opsG4 V (Proc.devRef .tc main_v142) = (injV (V (Proc.devRef .tc main_c_0)) (V (Proc.devRef .tc main_v6)) 4#32 (fourBV (V (Proc.devRef .tc main_v108), V (Proc.devRef .tc main_v112)))).1 := by sl_kernel_rfl
  have e2 : after opsG4 V (Proc.devRef .tc main_v146) = (injV (V (Proc.devRef .tc main_c_0)) (V (Proc.devRef .tc main_v6)) 4#32 (fourBV (V (Proc.devRef .tc main_v108), V (Proc.devRef .tc main_v112)))).2 := by sl_kernel_rfl
  have e3 : after opsG4 V (Proc.devRef .tc main_c) = V (Proc.devRef .tc main_c) := by sl_kernel_rfl
  have e4 : after opsG4 V (Proc.devRef .tc main_c_0) = V (Proc.devRef .tc main_c_0) := by sl_kernel_rfl
  have e5 : after opsG4 V (Proc.devRef .tc main_v6) = V (Proc.devRef .tc main_v6) := by sl_kernel_rfl
  obtain ⟨⟨h1, h2⟩, h3, h4, h5⟩ := h
  rw [e1, e2, e3, e4, e5, h1, h2, h3, h4, h5]
  exact ⟨⟨rfl, rfl⟩, rfl, rfl, rfl⟩

theorem readG5 (s : StV) (h : (V (Proc.devRef .tc main_v142) = s.1 ∧ V (Proc.devRef .tc main_v146) = s.2) ∧ V (Proc.devRef .tc main_c) = key0 ∧ V (Proc.devRef .tc main_c_0) = key1 ∧ V (Proc.devRef .tc main_v6) = key2) :
    (after opsG5 V (Proc.devRef .tc main_v176) = (injV key2 key0 5#32 (fourAV s)).1 ∧ after opsG5 V (Proc.devRef .tc main_v180) = (injV key2 key0 5#32 (fourAV s)).2) ∧ after opsG5 V (Proc.devRef .tc main_c) = key0 ∧ after opsG5 V (Proc.devRef .tc main_c_0) = key1 ∧ after opsG5 V (Proc.devRef .tc main_v6) = key2 := by
  have e1 : after opsG5 V (Proc.devRef .tc main_v176) = (injV (V (Proc.devRef .tc main_v6)) (V (Proc.devRef .tc main_c)) 5#32 (fourAV (V (Proc.devRef .tc main_v142), V (Proc.devRef .tc main_v146)))).1 := by sl_kernel_rfl
  have e2 : after opsG5 V (Proc.devRef .tc main_v180) = (injV (V (Proc.devRef .tc main_v6)) (V (Proc.devRef .tc main_c)) 5#32 (fourAV (V (Proc.devRef .tc main_v142), V (Proc.devRef .tc main_v146)))).2 := by sl_kernel_rfl
  have e3 : after opsG5 V (Proc.devRef .tc main_c) = V (Proc.devRef .tc main_c) := by sl_kernel_rfl
  have e4 : after opsG5 V (Proc.devRef .tc main_c_0) = V (Proc.devRef .tc main_c_0) := by sl_kernel_rfl
  have e5 : after opsG5 V (Proc.devRef .tc main_v6) = V (Proc.devRef .tc main_v6) := by sl_kernel_rfl
  obtain ⟨⟨h1, h2⟩, h3, h4, h5⟩ := h
  rw [e1, e2, e3, e4, e5, h1, h2, h3, h4, h5]
  exact ⟨⟨rfl, rfl⟩, rfl, rfl, rfl⟩

/-- The contents once the noise is drawn. -/
abbrev stH (V : Valuation τ sig (Elt F)) : Valuation τ sig (Elt F) := after opsN (after opsG5 (after opsG4 (after opsG3 (after opsG2 (after opsG1 (after opsI V))))))

/-- The contents once the scores are taken. -/
abbrev stS (V : Valuation τ sig (Elt F)) : Valuation τ sig (Elt F) := after opsE (after opsM (after opsK (after opsC (after opsB V))))

/-- The contents once the backtrack head is done. -/
abbrev stB (V : Valuation τ sig (Elt F)) : Valuation τ sig (Elt F) := after opsT1 (after opsD1 (after opsL1 V))

/-- The contents once the city head is done. -/
abbrev stC (V : Valuation τ sig (Elt F)) : Valuation τ sig (Elt F) := after opsT2 (after opsD2 (after opsL2 V))

/-- The contents once the edge head is done. -/
abbrev stE (V : Valuation τ sig (Elt F)) : Valuation τ sig (Elt F) := after opsT3 (after opsD3 V)

/-- The contents once the places are found. -/
abbrev stP (V : Valuation τ sig (Elt F)) : Valuation τ sig (Elt F) := after opsP (after opsA V)

/-- The contents once the next places are found. -/
abbrev stX (V : Valuation τ sig (Elt F)) : Valuation τ sig (Elt F) := after opsX V

/-- The contents once the nodes are read. -/
abbrev stN (V : Valuation τ sig (Elt F)) : Valuation τ sig (Elt F) := after opsT5 (after opsT4 V)

/-- The contents once the results are put together. -/
abbrev stZ (V : Valuation τ sig (Elt F)) : Valuation τ sig (Elt F) := after opsZ V

theorem after_ops : after ops V = stZ (stN (stX (stP (stE (stC (stB (stS (stH V)))))))) := by
  simp only [ops, after_append]

theorem stH_noise : stH V (Proc.devRef .tc main_v198) = noiseV (F := F) := by
  have e : ∀ W : Valuation τ sig (Elt F), after opsN W (Proc.devRef .tc main_v198) = gumV (F := F) (W (Proc.devRef .tc main_v176), W (Proc.devRef .tc main_v180)) := fun W => by sl_kernel_rfl
  have h := readG5 _ _ (readG4 _ _ (readG3 _ _ (readG2 _ _ (readG1 _ (addi (cst 0#32) (spK key0), addi ctrV (spK key1)) (readI V)))))
  rw [stH, e, h.1.1, h.1.2]
  rfl

theorem stH_arg0 : stH V (Proc.devRef .tc main_arg0) = V (Proc.devRef .tc main_arg0) := by sl_kernel_rfl

theorem stH_arg1 : stH V (Proc.devRef .tc main_arg1) = V (Proc.devRef .tc main_arg1) := by sl_kernel_rfl

theorem stH_arg2 : stH V (Proc.devRef .tc main_arg2) = V (Proc.devRef .tc main_arg2) := by sl_kernel_rfl

theorem stH_arg3 : stH V (Proc.devRef .tc main_arg3) = V (Proc.devRef .tc main_arg3) := by sl_kernel_rfl

theorem stH_arg4 : stH V (Proc.devRef .tc main_arg4) = V (Proc.devRef .tc main_arg4) := by sl_kernel_rfl

theorem stS_b : stS V (Proc.devRef .tc main_v204) = scoreS (F := F) (headB (V (Proc.devRef .tc main_v198))) (V (Proc.devRef .tc main_arg2)) := by sl_kernel_rfl

theorem stS_c : stS V (Proc.devRef .tc main_v212) = scoreS (F := F) (headC (V (Proc.devRef .tc main_v198))) (clipLogR (V (Proc.devRef .tc main_arg3))) := by sl_kernel_rfl

/-- The cities drawn, for the mask. -/
theorem draw_v214 : after opsK V (Proc.devRef .tc main_v214) = drawS (F := F) (V (Proc.devRef .tc main_v212)) := by
  have ea : ∀ W : Valuation τ sig (Elt F), after (opsK.take 5) W (Proc.devRef .tc main_v213) = argS (F := F) (W (Proc.devRef .tc main_v212)) := fun W => by sl_kernel_rfl
  have eb : ∀ W : Valuation τ sig (Elt F), after (opsK.drop 5) W (Proc.devRef .tc main_v214) = transpose S4096x3 [1, 0] (W (Proc.devRef .tc main_v213)) transposes_S3x4096_S4096x3_1_0 := fun W => by sl_kernel_rfl
  rw [show (opsK : List (HloOp τ sig (Elt F))) = opsK.take 5 ++ opsK.drop 5 from rfl, after_append, eb, ea]
  rfl

/-- The backtrack draws, from the scores. -/
theorem draw_v235 : after opsD1 V (Proc.devRef .tc main_v235) = drawS (F := F) (V (Proc.devRef .tc main_v204)) := by
  have ea : ∀ W : Valuation τ sig (Elt F), after (opsD1.take 5) W (Proc.devRef .tc main_v234) = argS (F := F) (W (Proc.devRef .tc main_v204)) := fun W => by sl_kernel_rfl
  have eb : ∀ W : Valuation τ sig (Elt F), after (opsD1.drop 5) W (Proc.devRef .tc main_v235) = transpose S4096x3 [1, 0] (W (Proc.devRef .tc main_v234)) transposes_S3x4096_S4096x3_1_0 := fun W => by sl_kernel_rfl
  rw [show (opsD1 : List (HloOp τ sig (Elt F))) = opsD1.take 5 ++ opsD1.drop 5 from rfl, after_append, eb, ea]
  rfl

/-- The city draws, from the scores. -/
theorem draw_v239 : after opsD2 V (Proc.devRef .tc main_v239) = drawS (F := F) (V (Proc.devRef .tc main_v212)) := by
  have ea : ∀ W : Valuation τ sig (Elt F), after (opsD2.take 5) W (Proc.devRef .tc main_v238) = argS (F := F) (W (Proc.devRef .tc main_v212)) := fun W => by sl_kernel_rfl
  have eb : ∀ W : Valuation τ sig (Elt F), after (opsD2.drop 5) W (Proc.devRef .tc main_v239) = transpose S4096x3 [1, 0] (W (Proc.devRef .tc main_v238)) transposes_S3x4096_S4096x3_1_0 := fun W => by sl_kernel_rfl
  rw [show (opsD2 : List (HloOp τ sig (Elt F))) = opsD2.take 5 ++ opsD2.drop 5 from rfl, after_append, eb, ea]
  rfl

/-- The log-softmax of a head. -/
theorem soft_v233 : after opsL1 V (Proc.devRef .tc main_v233) = logSoft (F := F) (V (Proc.devRef .tc main_arg2)) := by
  have e0 : ∀ W : Valuation τ sig (Elt F), after (opsL1.take 2) W (Proc.devRef .tc main_call3_v0) = (Host.reduce FloatOps.maximumf (W (Proc.devRef .tc main_arg2)) (constant S_ .f32 0xFF800000#32) reducesTo_S4096x2000_S4096_d1 h_S_ : FVec F S4096 .f32) := fun W => by sl_kernel_rfl
  have e1 : ∀ W : Valuation τ sig (Elt F), after ((opsL1.drop 2).take 3) W (Proc.devRef .tc main_call3_v2) = maximumf (F := F) (s := S4096) (φ := .f32) (broadcastInDim S4096 ![] bcast_S_S4096 (constant S_ .f32 0xFF800000#32)) (W (Proc.devRef .tc main_call3_v0)) := fun W => by sl_kernel_rfl
  have e2 : ∀ W : Valuation τ sig (Elt F), after ((opsL1.drop 2).take 3) (after (opsL1.take 2) W) (Proc.devRef .tc main_arg2) = W (Proc.devRef .tc main_arg2) := fun W => by sl_kernel_rfl
  have e3 : ∀ W : Valuation τ sig (Elt F), after ((opsL1.drop 5).take 3) W (Proc.devRef .tc main_call3_v5) = subf (F := F) (s := S4096x2000) (φ := .f32) (W (Proc.devRef .tc main_arg2)) (spL (α := F .f32) (W (Proc.devRef .tc main_call3_v2))) := fun W => by sl_kernel_rfl
  have e4 : ∀ W : Valuation τ sig (Elt F), after (opsL1.drop 8) W (Proc.devRef .tc main_v233) = lessLog (F := F) (W (Proc.devRef .tc main_call3_v5)) := fun W => by sl_kernel_rfl
  rw [show (opsL1 : List (HloOp τ sig (Elt F))) = opsL1.take 2 ++ ((opsL1.drop 2).take 3 ++ ((opsL1.drop 5).take 3 ++ opsL1.drop 8)) from rfl, after_append, after_append, after_append, e4, e3, e1, e0, e2, logSoft, topR]

/-- The log-softmax of a head. -/
theorem soft_v237 : after opsL2 V (Proc.devRef .tc main_v237) = logSoft (F := F) (V (Proc.devRef .tc main_arg3)) := by
  have e0 : ∀ W : Valuation τ sig (Elt F), after (opsL2.take 2) W (Proc.devRef .tc main_call6_v0) = (Host.reduce FloatOps.maximumf (W (Proc.devRef .tc main_arg3)) (constant S_ .f32 0xFF800000#32) reducesTo_S4096x2000_S4096_d1 h_S_ : FVec F S4096 .f32) := fun W => by sl_kernel_rfl
  have e1 : ∀ W : Valuation τ sig (Elt F), after ((opsL2.drop 2).take 3) W (Proc.devRef .tc main_call6_v2) = maximumf (F := F) (s := S4096) (φ := .f32) (broadcastInDim S4096 ![] bcast_S_S4096 (constant S_ .f32 0xFF800000#32)) (W (Proc.devRef .tc main_call6_v0)) := fun W => by sl_kernel_rfl
  have e2 : ∀ W : Valuation τ sig (Elt F), after ((opsL2.drop 2).take 3) (after (opsL2.take 2) W) (Proc.devRef .tc main_arg3) = W (Proc.devRef .tc main_arg3) := fun W => by sl_kernel_rfl
  have e3 : ∀ W : Valuation τ sig (Elt F), after ((opsL2.drop 5).take 3) W (Proc.devRef .tc main_call6_v5) = subf (F := F) (s := S4096x2000) (φ := .f32) (W (Proc.devRef .tc main_arg3)) (spL (α := F .f32) (W (Proc.devRef .tc main_call6_v2))) := fun W => by sl_kernel_rfl
  have e4 : ∀ W : Valuation τ sig (Elt F), after (opsL2.drop 8) W (Proc.devRef .tc main_v237) = lessLog (F := F) (W (Proc.devRef .tc main_call6_v5)) := fun W => by sl_kernel_rfl
  rw [show (opsL2 : List (HloOp τ sig (Elt F))) = opsL2.take 2 ++ ((opsL2.drop 2).take 3 ++ ((opsL2.drop 5).take 3 ++ opsL2.drop 8)) from rfl, after_append, after_append, after_append, e4, e3, e1, e0, e2, logSoft, topR]

theorem stS_l : stS V (Proc.devRef .tc main_v228) = elogR (F := F) (drawS (F := F) (scoreS (headC (V (Proc.devRef .tc main_v198))) (clipLogR (V (Proc.devRef .tc main_arg3))))) (V (Proc.devRef .tc main_arg4)) := by
  have e1 : ∀ W : Valuation τ sig (Elt F), after opsE (after opsM W) (Proc.devRef .tc main_v228) = elogR (F := F) (W (Proc.devRef .tc main_v214)) (W (Proc.devRef .tc main_arg4)) := fun W => by sl_kernel_rfl
  have e2 : after opsK (after opsC (after opsB V)) (Proc.devRef .tc main_arg4) = V (Proc.devRef .tc main_arg4) := by sl_kernel_rfl
  have e3 : after opsC (after opsB V) (Proc.devRef .tc main_v212) = scoreS (F := F) (headC (V (Proc.devRef .tc main_v198))) (clipLogR (V (Proc.devRef .tc main_arg3))) := by sl_kernel_rfl
  rw [stS, e1, draw_v214, e2, e3]

theorem stS_e : stS V (Proc.devRef .tc main_v232) = scoreE (F := F) (headE (V (Proc.devRef .tc main_v198))) (elogR (drawS (F := F) (scoreS (headC (V (Proc.devRef .tc main_v198))) (clipLogR (V (Proc.devRef .tc main_arg3))))) (V (Proc.devRef .tc main_arg4))) := by
  have e1 : ∀ W : Valuation τ sig (Elt F), after opsE W (Proc.devRef .tc main_v232) = scoreE (F := F) (headE (W (Proc.devRef .tc main_v198))) (W (Proc.devRef .tc main_v228)) := fun W => by sl_kernel_rfl
  have e2 : ∀ W : Valuation τ sig (Elt F), after opsE W (Proc.devRef .tc main_v228) = W (Proc.devRef .tc main_v228) := fun W => by sl_kernel_rfl
  have e3 : after opsM (after opsK (after opsC (after opsB V))) (Proc.devRef .tc main_v198) = V (Proc.devRef .tc main_v198) := by sl_kernel_rfl
  have e4 := e2 (after opsM (after opsK (after opsC (after opsB V))))
  rw [stS, e1, e3, ← e4, ← stS, stS_l]

theorem stB_i : stB V (Proc.devRef .tc main_v235) = drawS (F := F) (V (Proc.devRef .tc main_v204)) := by
  have e1 : ∀ W : Valuation τ sig (Elt F), after opsT1 W (Proc.devRef .tc main_v235) = W (Proc.devRef .tc main_v235) := fun W => by sl_kernel_rfl
  have e2 : after opsL1 V (Proc.devRef .tc main_v204) = V (Proc.devRef .tc main_v204) := by sl_kernel_rfl
  rw [stB, e1, draw_v235, e2]

theorem stB_p : stB V (Proc.devRef .tc main_v236) = take2 (F := F) (logSoft (V (Proc.devRef .tc main_arg2))) (drawS (F := F) (V (Proc.devRef .tc main_v204))) := by
  have e1 : ∀ W : Valuation τ sig (Elt F), after opsT1 W (Proc.devRef .tc main_v236) = take2 (F := F) (W (Proc.devRef .tc main_v233)) (W (Proc.devRef .tc main_v235)) := fun W => by sl_kernel_rfl
  have e2 : after opsL1 V (Proc.devRef .tc main_v204) = V (Proc.devRef .tc main_v204) := by sl_kernel_rfl
  have e3 : ∀ W : Valuation τ sig (Elt F), after opsD1 W (Proc.devRef .tc main_v233) = W (Proc.devRef .tc main_v233) := fun W => by sl_kernel_rfl
  rw [stB, e1, draw_v235, e2, e3, soft_v233]

theorem stC_i : stC V (Proc.devRef .tc main_v239) = drawS (F := F) (V (Proc.devRef .tc main_v212)) := by
  have e1 : ∀ W : Valuation τ sig (Elt F), after opsT2 W (Proc.devRef .tc main_v239) = W (Proc.devRef .tc main_v239) := fun W => by sl_kernel_rfl
  have e2 : after opsL2 V (Proc.devRef .tc main_v212) = V (Proc.devRef .tc main_v212) := by sl_kernel_rfl
  rw [stC, e1, draw_v239, e2]

theorem stC_p : stC V (Proc.devRef .tc main_v240) = take2 (F := F) (logSoft (V (Proc.devRef .tc main_arg3))) (drawS (F := F) (V (Proc.devRef .tc main_v212))) := by
  have e1 : ∀ W : Valuation τ sig (Elt F), after opsT2 W (Proc.devRef .tc main_v240) = take2 (F := F) (W (Proc.devRef .tc main_v237)) (W (Proc.devRef .tc main_v239)) := fun W => by sl_kernel_rfl
  have e2 : after opsL2 V (Proc.devRef .tc main_v212) = V (Proc.devRef .tc main_v212) := by sl_kernel_rfl
  have e3 : ∀ W : Valuation τ sig (Elt F), after opsD2 W (Proc.devRef .tc main_v237) = W (Proc.devRef .tc main_v237) := fun W => by sl_kernel_rfl
  rw [stC, e1, draw_v239, e2, e3, soft_v237]

theorem stE_i : stE V (Proc.devRef .tc main_v241) = argE (F := F) (V (Proc.devRef .tc main_v232)) := by sl_kernel_rfl

theorem stE_p : stE V (Proc.devRef .tc main_v244) = take3 (α := F .f32) (V (Proc.devRef .tc main_v228)) (constant S_ .f32 0x7FC00000#32) (argE (F := F) (V (Proc.devRef .tc main_v232))) := by
  have e1 : ∀ W : Valuation τ sig (Elt F), after opsT3 W (Proc.devRef .tc main_v244) = take3 (α := F .f32) (W (Proc.devRef .tc main_v228)) (constant S_ .f32 0x7FC00000#32) (W (Proc.devRef .tc main_v241)) := fun W => by sl_kernel_rfl
  have e2 : after opsD3 V (Proc.devRef .tc main_v228) = V (Proc.devRef .tc main_v228) := by sl_kernel_rfl
  have e3 : after opsD3 V (Proc.devRef .tc main_v241) = argE (F := F) (V (Proc.devRef .tc main_v232)) := by sl_kernel_rfl
  rw [stE, e1, e2, e3]

theorem stP_p : stP V (Proc.devRef .tc main_v251) = posR (V (Proc.devRef .tc main_arg0)) (V (Proc.devRef .tc main_v241)) := by sl_kernel_rfl

theorem stP_t : stP V (Proc.devRef .tc main_v246) = repR (α := BitVec 32) (V (Proc.devRef .tc main_arg0)) := by sl_kernel_rfl

theorem stX_n : stX V (Proc.devRef .tc main_v254) = nextR (V (Proc.devRef .tc main_v251)) := by sl_kernel_rfl

theorem stN_a : stN V (Proc.devRef .tc main_v257) = take3 (α := BitVec 32) (V (Proc.devRef .tc main_v246)) (constantI S_ 32 2147483648#32) (V (Proc.devRef .tc main_v251)) := by sl_kernel_rfl

theorem stN_b : stN V (Proc.devRef .tc main_v260) = take3 (α := BitVec 32) (V (Proc.devRef .tc main_v246)) (constantI S_ 32 2147483648#32) (V (Proc.devRef .tc main_v254)) := by sl_kernel_rfl

theorem stZ_a : stZ V (Proc.devRef .tc main_v265) = addf (F := F) (s := S4096x3) (φ := .f32) (addf (V (Proc.devRef .tc main_v236)) (V (Proc.devRef .tc main_v240))) (V (Proc.devRef .tc main_v244)) := by sl_kernel_rfl

theorem stZ_v : stZ V (Proc.devRef .tc main_v267) = resV (F := F) (V (Proc.devRef .tc main_arg1)) := by sl_kernel_rfl

theorem stZ_e : stZ V (Proc.devRef .tc main_v268) = pairR (V (Proc.devRef .tc main_v257)) (V (Proc.devRef .tc main_v260)) := by sl_kernel_rfl

theorem keep_235 : stZ (stN (stX (stP (stE (stC V))))) (Proc.devRef .tc main_v235) = V (Proc.devRef .tc main_v235) := by sl_kernel_rfl

theorem keep_236 : stN (stX (stP (stE (stC V)))) (Proc.devRef .tc main_v236) = V (Proc.devRef .tc main_v236) := by sl_kernel_rfl

theorem keep_239 : stZ (stN (stX (stP (stE V)))) (Proc.devRef .tc main_v239) = V (Proc.devRef .tc main_v239) := by sl_kernel_rfl

theorem keep_240 : stN (stX (stP (stE V))) (Proc.devRef .tc main_v240) = V (Proc.devRef .tc main_v240) := by sl_kernel_rfl

theorem keep_244 : stN (stX (stP V)) (Proc.devRef .tc main_v244) = V (Proc.devRef .tc main_v244) := by sl_kernel_rfl

theorem keep_251 : stX V (Proc.devRef .tc main_v251) = V (Proc.devRef .tc main_v251) := by sl_kernel_rfl

theorem keep_246 : stX V (Proc.devRef .tc main_v246) = V (Proc.devRef .tc main_v246) := by sl_kernel_rfl

theorem keep_228 : stC (stB V) (Proc.devRef .tc main_v228) = V (Proc.devRef .tc main_v228) := by sl_kernel_rfl

theorem keep_232 : stC (stB V) (Proc.devRef .tc main_v232) = V (Proc.devRef .tc main_v232) := by sl_kernel_rfl

theorem keep_212 : stB V (Proc.devRef .tc main_v212) = V (Proc.devRef .tc main_v212) := by sl_kernel_rfl

theorem keep_a0 : stE (stC (stB (stS V))) (Proc.devRef .tc main_arg0) = V (Proc.devRef .tc main_arg0) := by sl_kernel_rfl

theorem keep_a1 : stN (stX (stP (stE (stC (stB (stS V)))))) (Proc.devRef .tc main_arg1) = V (Proc.devRef .tc main_arg1) := by sl_kernel_rfl

theorem keep_a2 : stS V (Proc.devRef .tc main_arg2) = V (Proc.devRef .tc main_arg2) := by sl_kernel_rfl

theorem keep_a3 : stB (stS V) (Proc.devRef .tc main_arg3) = V (Proc.devRef .tc main_arg3) := by sl_kernel_rfl

/-- The backtrack draws. -/
theorem res_B : after ops V (Proc.devRef .tc main_v235) = drawB (F := F) (V (Proc.devRef .tc main_arg2)) := by
  rw [after_ops, keep_235, stB_i, stS_b, stH_noise, stH_arg2, drawB]

/-- The city draws. -/
theorem res_C : after ops V (Proc.devRef .tc main_v239) = drawC (F := F) (V (Proc.devRef .tc main_arg3)) := by
  rw [after_ops, keep_239, stC_i, keep_212, stS_c, stH_noise, stH_arg3, drawC]

/-- The values. -/
theorem res_V : after ops V (Proc.devRef .tc main_v267) = resV (F := F) (V (Proc.devRef .tc main_arg1)) := by
  rw [after_ops, stZ_v, keep_a1, stH_arg1]

/-- The log-probabilities. -/
theorem res_A : after ops V (Proc.devRef .tc main_v265) = resA (F := F) (V (Proc.devRef .tc main_arg2)) (V (Proc.devRef .tc main_arg3)) (V (Proc.devRef .tc main_arg4)) := by
  rw [after_ops, stZ_a, keep_236, keep_240, keep_244, stB_p, stC_p, stE_p, keep_212, keep_228, keep_232, keep_a2, keep_a3,
    stS_b, stS_c, stS_l, stS_e, stH_noise, stH_arg2, stH_arg3, stH_arg4, resA, edgeR, drawB, drawC]

/-- The edges' nodes. -/
theorem res_E : after ops V (Proc.devRef .tc main_v268) = resE (F := F) (V (Proc.devRef .tc main_arg0)) (V (Proc.devRef .tc main_arg3)) (V (Proc.devRef .tc main_arg4)) := by
  rw [after_ops, stZ_e, stN_a, stN_b, keep_246, keep_251, stX_n, stP_t, stP_p, keep_a0, stE_i, keep_232, stS_e, stH_noise, stH_arg0, stH_arg3, stH_arg4,
    resE, nodeR, nodeR, edgeR, drawC]

end Cert.ReferenceIdeal.Own
-- ==== Proof.P.Facts.lean ====
module

public import proofs.«01_k».proof.Pre_untied
public import proofs.«01_k».proof.Proof.Gen.ReferenceIdeal

@[expose] public section

noncomputable section

/-! The shape relations the precondition's operations take. -/

namespace Cert.Pre_untied

open Idealize.ShloMosaic

instance facts : Facts where
  bcast_S24576000_S1x24576000_1 := Cert.ReferenceIdeal.Gen.bcast_S24576000_S1x24576000_1
  bcast_S1x24576000_S3x24576000_0_1 := Cert.ReferenceIdeal.Gen.bcast_S1x24576000_S3x24576000_0_1
  bcast_S_S3x24576000 := Cert.ReferenceIdeal.Gen.bcast_S_S3x24576000
  bcast_S_S3x1 := Cert.ReferenceIdeal.Gen.bcast_S_S3x1
  bcast_S3x1_S3x24576000_0_1 := Cert.ReferenceIdeal.Gen.bcast_S3x1_S3x24576000_0_1
  slices_S3x24576000_S1x24576000_0_0 := Cert.ReferenceIdeal.Gen.slices_S3x24576000_S1x24576000_0_0
  shapeCasts_S1x24576000_S24576000 := Cert.ReferenceIdeal.Gen.shapeCasts_S1x24576000_S24576000
  shapeCasts_S24576000_S3x4096x2000 := Cert.ReferenceIdeal.Gen.shapeCasts_S24576000_S3x4096x2000
  bcast_S4096x2000_S1x4096x2000_1_2 := Cert.ReferenceIdeal.Gen.bcast_S4096x2000_S1x4096x2000_1_2
  bcast_S1x4096x2000_S3x4096x2000_0_1_2 := Cert.ReferenceIdeal.Gen.bcast_S1x4096x2000_S3x4096x2000_0_1_2
  bcast_S_S4096x2000 := Cert.ReferenceIdeal.Gen.bcast_S_S4096x2000
  slices_S3x24576000_S1x24576000_1_0 := Cert.ReferenceIdeal.Gen.slices_S3x24576000_S1x24576000_1_0
  reducesTo_S3x4096x2000_S3x4096_d2 := Cert.ReferenceIdeal.Gen.reducesTo_S3x4096x2000_S3x4096_d2
  h_S_ := Cert.ReferenceIdeal.Gen.h_S_
  transposes_S3x4096_S4096x3_1_0 := Cert.ReferenceIdeal.Gen.transposes_S3x4096_S4096x3_1_0
  bcast_S2000_S1x1x2000_2 := Cert.ReferenceIdeal.Gen.bcast_S2000_S1x1x2000_2
  bcast_S4096x3_S4096x3x1_0_1 := Cert.ReferenceIdeal.Gen.bcast_S4096x3_S4096x3x1_0_1
  bcast_S1x1x2000_S4096x3x2000_0_1_2 := Cert.ReferenceIdeal.Gen.bcast_S1x1x2000_S4096x3x2000_0_1_2
  bcast_S4096x3x1_S4096x3x2000_0_1_2 := Cert.ReferenceIdeal.Gen.bcast_S4096x3x1_S4096x3x2000_0_1_2
  bcast_S4096x2000_S4096x1x2000_0_2 := Cert.ReferenceIdeal.Gen.bcast_S4096x2000_S4096x1x2000_0_2
  bcast_S4096x1x2000_S4096x3x2000_0_1_2 := Cert.ReferenceIdeal.Gen.bcast_S4096x1x2000_S4096x3x2000_0_1_2
  bcast_S_S4096x3x2000 := Cert.ReferenceIdeal.Gen.bcast_S_S4096x3x2000
  reducesTo_S4096x3x2000_S4096x3_d2 := Cert.ReferenceIdeal.Gen.reducesTo_S4096x3x2000_S4096x3_d2
  slices_S3x24576000_S1x24576000_2_0 := Cert.ReferenceIdeal.Gen.slices_S3x24576000_S1x24576000_2_0
  shapeCasts_S24576000_S4096x3x2000 := Cert.ReferenceIdeal.Gen.shapeCasts_S24576000_S4096x3x2000
  bcast_S3x4096_S3x4096x1_0_1 := by decide
  bcast_S1x1x2000_S3x4096x2000_0_1_2 := by decide
  bcast_S3x4096x1_S3x4096x2000_0_1_2 := by decide
  reducesTo_S3x4096x2000_S_d0_1_2 := by decide
  reducesTo_S4096x3x2000_S_d0_1_2 := by decide

end Cert.Pre_untied
-- ==== Proof.P.Read.lean ====
module

public import proofs.«01_k».proof.Proof.P.Facts
public import proofs.«01_k».proof.Proof.R.Model

@[expose] public section

set_option maxRecDepth 16384

noncomputable section

/-! The precondition, of the reference's scores. -/

namespace Cert.Pre_untied

open Idealize.ShloMosaic
open Cert.ReferenceIdeal.Own (argS argE scoreS scoreE headB headC headE noiseV clipLogR elogR drawC spR)

variable {F : FTy → Type} [FloatOps F]

/-- A number of each sample along the columns, where the samples come first. -/
def spS {α : Type} (x : S3x4096.Idx → α) : S3x4096x2000.Idx → α :=
  broadcastInDim S3x4096x2000 ![0, 1, 2] facts.bcast_S3x4096x1_S3x4096x2000_0_1_2 (broadcastInDim S3x4096x1 ![0, 1] facts.bcast_S3x4096_S3x4096x1_0_1 x)

/-- The samples' greatest scores. -/
def maxS (x : FVec F S3x4096x2000 .f32) : FVec F S3x4096 .f32 :=
  Host.reduce FloatOps.maximumf x (constant S_ .f32 0xFF800000#32) facts.reducesTo_S3x4096x2000_S3x4096_d2 facts.h_S_

def maxE (x : FVec F S4096x3x2000 .f32) : FVec F S4096x3 .f32 :=
  Host.reduce FloatOps.maximumf x (constant S_ .f32 0xFF800000#32) facts.reducesTo_S4096x3x2000_S4096x3_d2 facts.h_S_

/-- Whether an entry is the one drawn, or less than the greatest. -/
def markS (x : FVec F S3x4096x2000 .f32) : IVec S3x4096x2000 1 :=
  ori (cmpi .eq (broadcastInDim S3x4096x2000 ![0, 1, 2] facts.bcast_S1x1x2000_S3x4096x2000_0_1_2
    (broadcastInDim S1x1x2000 ![2] facts.bcast_S2000_S1x1x2000_2 (iotaInDim S2000 32 0))) (spS (argS x))) (cmpf .olt x (spS (α := F .f32) (maxS x)))

def markE (x : FVec F S4096x3x2000 .f32) : IVec S4096x3x2000 1 :=
  ori (cmpi .eq (broadcastInDim S4096x3x2000 ![0, 1, 2] facts.bcast_S1x1x2000_S4096x3x2000_0_1_2
    (broadcastInDim S1x1x2000 ![2] facts.bcast_S2000_S1x1x2000_2 (iotaInDim S2000 32 0))) (spR (argE x))) (cmpf .olt x (spR (α := F .f32) (maxE x)))

/-- Whether every entry is. -/
def allS (b : IVec S3x4096x2000 1) : IVec S_ 1 := Host.reduce IntOp.andi b (constantI S_ 1 1#1) facts.reducesTo_S3x4096x2000_S_d0_1_2 facts.h_S_
def allE (b : IVec S4096x3x2000 1) : IVec S_ 1 := Host.reduce IntOp.andi b (constantI S_ 1 1#1) facts.reducesTo_S4096x3x2000_S_d0_1_2 facts.h_S_

/-- The precondition is the three heads' marks, all of them set. -/
theorem fn_eq (t : IVec S4096x2000 32) (v : FVec F S4096x1 .f32) (b c e : FVec F S4096x2000 .f32) :
    fn t v b c e = andi (andi (allS (markS (scoreS (headB noiseV) b))) (allS (markS (scoreS (headC noiseV) (clipLogR c)))))
      (allE (markE (scoreE (headE noiseV) (elogR (drawC c) e)))) := by
  sl_kernel_rfl

end Cert.Pre_untied
-- ==== Proof.P.Untied.lean ====
module

public import proofs.«01_k».proof.Proof.P.Read
public import proofs.«01_k».proof.Proof.M.Alp
public import Idealize.ShloMosaic.Lib.ReduceAll

@[expose] public section

set_option maxRecDepth 16384

noncomputable section

/-! What the precondition says: no draw is tied. -/

namespace Cert.Pre_untied

open Idealize.ShloMosaic Cert.Own
open Cert.ReferenceIdeal.Own (argS argE scoreS scoreE headB headC headE noiseV clipLogR elogR drawC spR)

/-- A row whose every entry is the one drawn, or less than the greatest, is greatest once only. -/
theorem sole_of (s : Fin 2000 → EReal) (d : BitVec 32) (h : ∀ k : Fin 2000, BitVec.ofNat 32 k.val = d ∨ s k < Finset.univ.fold max (⊥ : EReal) s) : Sole s := by
  obtain ⟨h1, _, h3⟩ := fold_dom (fun a b : EReal => b ≤ a) le_refl (fun _ _ _ h g => le_trans g h) max
    (fun a b => ⟨max_choice a b, le_max_left a b, le_max_right a b⟩) Finset.univ s ⊥
  have hd : ∀ k, (∀ j, s j ≤ s k) → BitVec.ofNat 32 k.val = d := by
    intro k hk
    refine (h k).resolve_right fun hlt => absurd hlt (not_lt_of_ge ?_)
    rcases h1 with h1 | ⟨j, _, h1⟩
    · rw [h1]; exact bot_le
    · rw [h1]; exact hk j
  intro k l hk hl
  have e := (hd l fun j => hl ▸ hk j).trans (hd k hk).symm
  have := congrArg BitVec.toNat e
  simp only [BitVec.toNat_ofNat] at this
  exact Fin.ext (by omega)

/-- The comparison of floats is the order's. -/
theorem olt_one (a b : EReal) : FloatOps.cmpf (F := Ideal) (φ := .f32) .olt a b = 1#1 ↔ a < b := by
  show Ideal.cmp .olt a b = 1#1 ↔ _
  rw [Ideal.cmp, ofBool_one]; simp

/-- A sample's greatest score, as a fold. -/
theorem maxS_apply (x : FVec Ideal S3x4096x2000 .f32) (h : S3x4096x2000.ReducesTo [2] S3x4096) (h' : 0 < S_.numel) (p : Fin 3) (r : Fin 4096) :
    (Host.reduce (FloatOps.maximumf (F := Ideal) (φ := .f32)) x (constant (F := Ideal) S_ .f32 0xFF800000#32) h h' (ix2 p r) : EReal)
      = Finset.univ.fold max (Ideal.ofBits .f32 0xFF800000#32) fun k : Fin 2000 => (x (ix3 p r k) : EReal) := by
  pointwise

/-- The same of the edge head. -/
theorem maxE_apply (x : FVec Ideal S4096x3x2000 .f32) (h : S4096x3x2000.ReducesTo [2] S4096x3) (h' : 0 < S_.numel) (r : Fin 4096) (p : Fin 3) :
    (Host.reduce (FloatOps.maximumf (F := Ideal) (φ := .f32)) x (constant (F := Ideal) S_ .f32 0xFF800000#32) h h' (ix2 r p) : EReal)
      = Finset.univ.fold max (Ideal.ofBits .f32 0xFF800000#32) fun k : Fin 2000 => (x (ix3 r p k) : EReal) := by
  pointwise

/-- A sample's number, spread along its columns, at an entry. -/
theorem spread_S {α : Type} (x : S3x4096.Idx → α) (h h') (p : Fin 3) (r : Fin 4096) (k : Fin 2000) :
    broadcastInDim S3x4096x2000 ![0, 1, 2] h (broadcastInDim S3x4096x1 ![0, 1] h' x) (ix3 p r k) = x (ix2 p r) := by
  pointwise

/-- The same of the edge head. -/
theorem spread_E {α : Type} (x : S4096x3.Idx → α) (h h') (r : Fin 4096) (p : Fin 3) (k : Fin 2000) :
    broadcastInDim S4096x3x2000 ![0, 1, 2] h (broadcastInDim S4096x3x1 ![0, 1] h' x) (ix3 r p k) = x (ix2 r p) := by
  pointwise

/-- An entry's column number. -/
theorem column_S (h h') (p : Fin 3) (r : Fin 4096) (k : Fin 2000) :
    broadcastInDim S3x4096x2000 ![0, 1, 2] h (broadcastInDim S1x1x2000 ![2] h' (iotaInDim S2000 32 0)) (ix3 p r k) = BitVec.ofNat 32 k.val := by
  pointwise

/-- The same of the edge head. -/
theorem column_E (h h') (r : Fin 4096) (p : Fin 3) (k : Fin 2000) :
    broadcastInDim S4096x3x2000 ![0, 1, 2] h (broadcastInDim S1x1x2000 ![2] h' (iotaInDim S2000 32 0)) (ix3 r p k) = BitVec.ofNat 32 k.val := by
  pointwise

/-- Whether an entry is the one drawn, or less than the greatest: at an index, of what its parts are there. -/
theorem mark_at {s : Shape} (q a : IVec s 32) (x z : FVec Ideal s .f32) (i : s.Idx) {q' a' : BitVec 32} {z' : EReal} (hq : q i = q') (ha : a i = a') (hz : z i = z')
    (h : ori (cmpi .eq q a) (cmpf (F := Ideal) .olt x z) i = 1#1) : q' = a' ∨ (x i : EReal) < z' := by
  subst hq ha hz
  exact ((ori_one _ _).1 h).imp (eq_one _ _).1 (olt_one _ _).1

theorem empty_sub : Subsingleton S_.Idx := ⟨fun a b => funext fun i => i.elim0⟩

/-- Where all marks are set, every sample's scores are greatest once only. -/
theorem soleS (x : FVec Ideal S3x4096x2000 .f32) (j : S_.Idx) (h : allS (markS (F := Ideal) x) j = 1#1) (p : Fin 3) (r : Fin 4096) :
    Sole fun k : Fin 2000 => (x (ix3 p r k) : EReal) := by
  have := empty_sub
  refine sole_of _ (argS (F := Ideal) x (ix2 p r)) fun k => ?_
  have g := Host.reduce_andi_all _ _ _ _ j h (ix3 p r k)
  exact mark_at _ _ _ _ _ (column_S _ _ p r k) (spread_S _ _ _ p r k)
    ((spread_S _ _ _ p r k).trans ((maxS_apply x _ _ p r).trans (congrArg (fun z : EReal => Finset.univ.fold max z fun k : Fin 2000 => (x (ix3 p r k) : EReal)) negInf))) g

/-- The same of the edge head. -/
theorem soleE (x : FVec Ideal S4096x3x2000 .f32) (j : S_.Idx) (h : allE (markE (F := Ideal) x) j = 1#1) (r : Fin 4096) (p : Fin 3) :
    Sole fun k : Fin 2000 => (x (ix3 r p k) : EReal) := by
  have := empty_sub
  refine sole_of _ (argE (F := Ideal) x (ix2 r p)) fun k => ?_
  have g := Host.reduce_andi_all _ _ _ _ j h (ix3 r p k)
  exact mark_at _ _ _ _ _ (column_E _ _ r p k) (spread_E _ _ _ r p k)
    ((spread_E _ _ _ r p k).trans ((maxE_apply x _ _ r p).trans (congrArg (fun z : EReal => Finset.univ.fold max z fun k : Fin 2000 => (x (ix3 r p k) : EReal)) negInf))) g

/-- The precondition leaves no draw tied. -/
theorem untied_of (t : IVec S4096x2000 32) (v : FVec Ideal S4096x1 .f32) (b c e : FVec Ideal S4096x2000 .f32)
    (h : fn (F := Ideal) t v b c e = fun _ => 1#1) : Untied b c e := by
  have g := congrFun ((fn_eq t v b c e).symm.trans h) (Shape.Idx.first facts.h_S_)
  obtain ⟨g1, g3⟩ := (andi_one _ _).1 g
  obtain ⟨g1, g2⟩ := (andi_one _ _).1 g1
  exact ⟨fun r p => soleS _ _ g1 p r, fun r p => soleS _ _ g2 p r, fun r p => soleE _ _ g3 r p⟩

end Cert.Pre_untied
-- ==== Proof.lean ====
/- The certificate: what each program's run leaves, and that the two compute the same. -/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.K.OkKernel
public import proofs.«01_k».proof.Proof.K.Run
public import proofs.«01_k».proof.Proof.R.Frame
public import proofs.«01_k».proof.Proof.R.Read
public import proofs.«01_k».proof.Proof.P.Untied

@[expose] public section

noncomputable section

namespace Cert.Proof

open Idealize.ShloMosaic Idealize.SL.Sem

theorem frame_k : Cert.quiescent_Kernel := fun m ρ _ => Cert.Kernel.Gen.frame m ρ (Cert.Kernel.Own.ok m)
theorem frame_i : Cert.quiescent_KernelIdeal := fun m ρ _ => Cert.KernelIdeal.Gen.frame m ρ (Cert.KernelIdeal.Own.ok m)
theorem frame_r : Cert.quiescent_ReferenceIdeal := fun m ρ _ => Cert.ReferenceIdeal.Own.frame m ρ

/-- From untied draws, the kernel and the reference end with the same five arrays. -/
theorem agree : Cert.algebraic_KernelIdeal_ReferenceIdeal_pre_untied := by
  intro m g m' g' hp hm
  refine ⟨_, _, _, _, _, Cert.KernelIdeal.Own.run m g fun c => Cert.Pre_untied.untied_of _ _ _ _ _ (hp c), ?_⟩
  refine (θ_run (Cert.ReferenceIdeal.defs (F := Ideal)) _ _).mono (fun r h c => ?_) (Cert.ReferenceIdeal.Own.run m' g')
  obtain ⟨h0, h1, h2, h3, h4⟩ := hm c
  refine ⟨(h c _).trans ((Cert.ReferenceIdeal.Own.res_B _).trans ?_), (h c _).trans ((Cert.ReferenceIdeal.Own.res_C _).trans ?_),
    (h c _).trans ((Cert.ReferenceIdeal.Own.res_E _).trans ?_), (h c _).trans ((Cert.ReferenceIdeal.Own.res_A _).trans ?_),
    (h c _).trans ((Cert.ReferenceIdeal.Own.res_V _).trans ?_),
    (h c _).trans (Cert.ReferenceIdeal.Own.keep0 _), (h c _).trans (Cert.ReferenceIdeal.Own.keep1 _), (h c _).trans (Cert.ReferenceIdeal.Own.keep2 _),
    (h c _).trans (Cert.ReferenceIdeal.Own.keep3 _), (h c _).trans (Cert.ReferenceIdeal.Own.keep4 _)⟩
  · exact congrArg (Cert.ReferenceIdeal.Own.drawB (F := Ideal)) h2
  · exact congrArg (Cert.ReferenceIdeal.Own.drawC (F := Ideal)) h3
  · exact congr (congr (congrArg (Cert.ReferenceIdeal.Own.resE (F := Ideal)) h0) h3) h4
  · exact congr (congr (congrArg (Cert.ReferenceIdeal.Own.resA (F := Ideal)) h2) h3) h4
  · exact congrArg (Cert.ReferenceIdeal.Own.resV (F := Ideal)) h1

theorem claim : Cert.Claim :=
  ⟨Cert.Kernel.Gen.facts, Cert.KernelIdeal.Gen.facts, Cert.ReferenceIdeal.Gen.facts, Cert.Pre_untied.facts,
    frame_k, frame_i, fun m ρ _ => frame_i m ρ trivial, frame_r, fun m ρ _ => frame_r m ρ trivial, trivial, agree⟩

end Cert.Proof

end
